-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_ranged : Cert.Pre_ranged.Facts] (m : (ℓ : Loc Cert.Kernel3.nD Cert.Kernel3.τ Cert.Kernel3.sig) → Buf (Elt Bits) ℓ) : Prop :=
  ∀ c : Dev Cert.Kernel3.nD,
    (Cert.Pre_ranged.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_ranged.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2 = (fun _ => 1#1)

def Pre_Kernel3Ideal [hPre_ranged : Cert.Pre_ranged.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ranged.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_ranged.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ranged [hPre_ranged : Cert.Pre_ranged.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ranged.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_ranged.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_steady [hPre_steady : Cert.Pre_steady.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_steady.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).1 = (fun _ => 1#1)
    ∧ (Cert.Pre_steady.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_steady [hPre_steady : Cert.Pre_steady.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_steady.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).1 = (fun _ => 1#1)
    ∧ (Cert.Pre_steady.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_ranged : Cert.Pre_ranged.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_ranged : Cert.Pre_ranged.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_ranged [hReference3Ideal : Cert.Reference3Ideal.Facts] [hPre_ranged : Cert.Pre_ranged.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ranged m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Kernel4Ideal_pre_steady [hKernel4Ideal : Cert.Kernel4Ideal.Facts] [hPre_steady : Cert.Pre_steady.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_steady m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def quiescent_Reference4Ideal_pre_steady [hReference4Ideal : Cert.Reference4Ideal.Facts] [hPre_steady : Cert.Pre_steady.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_steady m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def preserves_Kernel_KernelIdeal : Prop :=
  IdealRules.named_const.Statement Cert.KernelIdeal.κ "scale" .f32 0x3E38AA3B#32 ((((Real.log 2) * (Real.sqrt 64))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_ranged : Cert.Pre_ranged.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_steady [hKernel4Ideal : Cert.Kernel4Ideal.Facts] [hReference4Ideal : Cert.Reference4Ideal.Facts] [hPre_steady : Cert.Pre_steady.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_steady m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v72) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_ranged : Cert.Pre_ranged.Facts) (hPre_steady : Cert.Pre_steady.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_ranged := hPre_ranged)
    ∧ quiescent_Kernel3Ideal (hKernel3Ideal := hKernel3Ideal) (hPre_ranged := hPre_ranged)
    ∧ quiescent_Reference3Ideal (hReference3Ideal := hReference3Ideal)
    ∧ quiescent_Reference3Ideal_pre_ranged (hReference3Ideal := hReference3Ideal) (hPre_ranged := hPre_ranged)
    ∧ quiescent_Kernel4 (hKernel4 := hKernel4)
    ∧ quiescent_Kernel4Ideal (hKernel4Ideal := hKernel4Ideal)
    ∧ quiescent_Kernel4Ideal_pre_steady (hKernel4Ideal := hKernel4Ideal) (hPre_steady := hPre_steady)
    ∧ quiescent_Reference4Ideal (hReference4Ideal := hReference4Ideal)
    ∧ quiescent_Reference4Ideal_pre_steady (hReference4Ideal := hReference4Ideal) (hPre_steady := hPre_steady)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_ranged := hPre_ranged)
    ∧ preserves_Kernel4_Kernel4Ideal
    ∧ algebraic_Kernel4Ideal_Reference4Ideal_pre_steady (hKernel4Ideal := hKernel4Ideal) (hReference4Ideal := hReference4Ideal) (hPre_steady := hPre_steady)
-- ==== Pre_finite.lean ====
abbrev S8x4096x256 : Shape := ⟨3, ![8, 4096, 256]⟩
abbrev S8x4096x128 : Shape := ⟨3, ![8, 4096, 128]⟩
abbrev S8x2x512x64 : Shape := ⟨4, ![8, 2, 512, 64]⟩
abbrev S_ : Shape := ⟨0, ![]⟩

class Facts : Prop where
  bcast_S_S8x4096x256 : S_.BroadcastsInDim S8x4096x256 (![] : Fin 0 → Fin S8x4096x256.rank)
  bcast_S_S8x4096x128 : S_.BroadcastsInDim S8x4096x128 (![] : Fin 0 → Fin S8x4096x128.rank)
  bcast_S_S8x2x512x64 : S_.BroadcastsInDim S8x2x512x64 (![] : Fin 0 → Fin S8x2x512x64.rank)

variable [Facts]

def fn {F : FTy → Type} [FloatOps F] (main_arg0 : FVec F S8x4096x256 .f32) (main_arg1 : FVec F S8x4096x128 .f32) (main_arg2 : FVec F S8x4096x128 .f32) (main_arg3 : FVec F S8x2x512x64 .f32) (main_arg4 : FVec F S8x2x512x64 .f32) : IVec S8x4096x256 1 × IVec S8x4096x128 1 × IVec S8x2x512x64 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x4096x128 .f32 := Host.absf main_arg1
  let main_cst_0 : FVec F S_ .f32 := constant S_ .f32 0x7F800000#32
  let main_v4 : FVec F S8x4096x128 .f32 := broadcastInDim S8x4096x128 ![] bcast_S_S8x4096x128 main_cst_0
  let main_v5 : IVec S8x4096x128 1 := cmpf .olt main_v3 main_v4
  let main_v6 : FVec F S8x2x512x64 .f32 := Host.absf main_arg3
  let main_cst_1 : FVec F S_ .f32 := constant S_ .f32 0x7F800000#32
  let main_v7 : FVec F S8x2x512x64 .f32 := broadcastInDim S8x2x512x64 ![] bcast_S_S8x2x512x64 main_cst_1
  let main_v8 : IVec S8x2x512x64 1 := cmpf .olt main_v6 main_v7
  (main_v2, main_v5, main_v8)
-- ==== Pre_ranged.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S73728x1024 .f32) (main_arg1 : IVec S288 32) (main_arg2 : IVec S1 32) (main_arg3 : FVec F S32x1024x512 .f32) (main_arg4 : FVec F S32x1024x512 .f32) (main_arg5 : FVec F S32x512x1024 .f32) : IVec S288 1 × IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  (main_v1, main_v3)
-- ==== Pre_steady.lean ====
abbrev S4096x8x256 : Shape := ⟨3, ![4096, 8, 256]⟩
abbrev S4096x8x512 : Shape := ⟨3, ![4096, 8, 512]⟩
abbrev S8x4096x256 : Shape := ⟨3, ![8, 4096, 256]⟩
abbrev S256 : Shape := ⟨1, ![256]⟩
abbrev S1024x1024 : Shape := ⟨2, ![1024, 1024]⟩
abbrev S8x4096x1024 : Shape := ⟨3, ![8, 4096, 1024]⟩
abbrev S8x1024 : Shape := ⟨2, ![8, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S4096x8x256 : S_.BroadcastsInDim S4096x8x256 (![] : Fin 0 → Fin S4096x8x256.rank)

variable [Facts]

def fn {F : FTy → Type} [FloatOps F] (main_arg0 : FVec F S4096x8x256 .f32) (main_arg1 : FVec F S4096x8x256 .f32) (main_arg2 : FVec F S4096x8x512 .f32) (main_arg3 : FVec F S8x4096x256 .f32) (main_arg4 : FVec F S8x4096x256 .f32) (main_arg5 : FVec F S8x4096x256 .f32) (main_arg6 : FVec F S256 .f32) (main_arg7 : FVec F S256 .f32) (main_arg8 : FVec F S1024x1024 .f32) (main_arg9 : FVec F S8x4096x1024 .f32) (main_arg10 : FVec F S8x1024 .f32) (main_arg11 : FVec F S1024 .f32) (main_arg12 : FVec F S8x1024 .f32) (main_arg13 : FVec F S8x1024 .f32) (main_arg14 : FVec F S1024x4 .f32) (main_arg15 : FVec F S4 .f32) (main_arg16 : FVec F S1024x32 .f32) (main_arg17 : FVec F S32 .f32) : IVec S4096x8x256 1 × IVec S4096x8x256 1 :=
  let main_v0 : FVec F S4096x8x256 .f32 := Host.absf main_arg0
  let main_cst : FVec F S_ .f32 := constant S_ .f32 0x7F800000#32
  let main_v1 : FVec F S4096x8x256 .f32 := broadcastInDim S4096x8x256 ![] bcast_S_S4096x8x256 main_cst
  let main_v2 : IVec S4096x8x256 1 := cmpf .olt main_v0 main_v1
  let main_v3 : FVec F S4096x8x256 .f32 := Host.absf main_arg1
  let main_cst_0 : FVec F S_ .f32 := constant S_ .f32 0x7F800000#32
  let main_v4 : FVec F S4096x8x256 .f32 := broadcastInDim S4096x8x256 ![] bcast_S_S4096x8x256 main_cst_0
  let main_v5 : IVec S4096x8x256 1 := cmpf .olt main_v3 main_v4
  (main_v2, main_v5)
-- ==== Kernel.lean ====
abbrev S8x4096x256 : Shape := ⟨3, ![8, 4096, 256]⟩
abbrev S8x4096x128 : Shape := ⟨3, ![8, 4096, 128]⟩
abbrev S8x2x512x64 : Shape := ⟨4, ![8, 2, 512, 64]⟩
abbrev S8x128x4096 : Shape := ⟨3, ![8, 128, 4096]⟩
abbrev S8x512x2x64 : Shape := ⟨4, ![8, 512, 2, 64]⟩
abbrev S8x512x128 : Shape := ⟨3, ![8, 512, 128]⟩
abbrev S8x2x64x512 : Shape := ⟨4, ![8, 2, 64, 512]⟩
abbrev S8x128x512 : Shape := ⟨3, ![8, 128, 512]⟩
abbrev S_ : Shape := ⟨0, ![]⟩
abbrev S2 : Shape := ⟨1, ![2]⟩
abbrev S64 : Shape := ⟨1, ![64]⟩
abbrev S64x1 : Shape := ⟨2, ![64, 1]⟩
abbrev S1x512x256 : Shape := ⟨3, ![1, 512, 256]⟩
abbrev S1x512x128 : Shape := ⟨3, ![1, 512, 128]⟩
abbrev S1x128x512 : Shape := ⟨3, ![1, 128, 512]⟩
abbrev S1x4096x128 : Shape := ⟨3, ![1, 4096, 128]⟩
abbrev S1x128x4096 : Shape := ⟨3, ![1, 128, 4096]⟩
abbrev S4x1x512 : Shape := ⟨3, ![4, 1, 512]⟩
abbrev S4x80x512 : Shape := ⟨3, ![4, 80, 512]⟩
abbrev S4x512x512 : Shape := ⟨3, ![4, 512, 512]⟩
abbrev S512x256 : Shape := ⟨2, ![512, 256]⟩
abbrev S256x512 : Shape := ⟨2, ![256, 512]⟩
abbrev S64x512 : Shape := ⟨2, ![64, 512]⟩
abbrev S128x512 : Shape := ⟨2, ![128, 512]⟩
abbrev S16x512 : Shape := ⟨2, ![16, 512]⟩
abbrev S512x128 : Shape := ⟨2, ![512, 128]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S80x512 : Shape := ⟨2, ![80, 512]⟩
abbrev S1x80x512 : Shape := ⟨3, ![1, 80, 512]⟩

abbrev nBuf : Space → Nat
  | .hbm => 20
  | .vmem => 17
  | .smem => 1
  | _ => 0

abbrev bufTy : (tb : Table) → Fin (tcTables nBuf tb) → BufTy
  | .hbm, ⟨0, _⟩ => ⟨S8x4096x256, .f32⟩
  | .hbm, ⟨1, _⟩ => ⟨S8x4096x128, .f32⟩
  | .hbm, ⟨2, _⟩ => ⟨S8x4096x128, .f32⟩
  | .hbm, ⟨3, _⟩ => ⟨S8x2x512x64, .f32⟩
  | .hbm, ⟨4, _⟩ => ⟨S8x2x512x64, .f32⟩
  | .hbm, ⟨5, _⟩ => ⟨S8x4096x128, .bf16⟩
  | .hbm, ⟨6, _⟩ => ⟨S8x128x4096, .f32⟩
  | .hbm, ⟨7, _⟩ => ⟨S8x128x4096, .bf16⟩
  | .hbm, ⟨8, _⟩ => ⟨S8x512x2x64, .f32⟩
  | .hbm, ⟨9, _⟩ => ⟨S8x512x128, .f32⟩
  | .hbm, ⟨10, _⟩ => ⟨S8x512x128, .bf16⟩
  | .hbm, ⟨11, _⟩ => ⟨S8x2x64x512, .f32⟩
  | .hbm, ⟨12, _⟩ => ⟨S8x128x512, .f32⟩
  | .hbm, ⟨13, _⟩ => ⟨S8x128x512, .bf16⟩
  | .hbm, ⟨14, _⟩ => ⟨S_, .f32⟩
  | .hbm, ⟨15, _⟩ => ⟨S2, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x128, .bf16⟩
  | .local _ .vmem, ⟨3, _⟩ => ⟨S1x512x128, .bf16⟩
  | .local _ .vmem, ⟨4, _⟩ => ⟨S1x128x512, .bf16⟩
  | .local _ .vmem, ⟨5, _⟩ => ⟨S1x128x512, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128x4096, .bf16⟩
  | .local _ .vmem, ⟨9, _⟩ => ⟨S1x128x4096, .bf16⟩
  | .local _ .vmem, ⟨10, _⟩ => ⟨S64x1, .f32⟩
  | .local _ .vmem, ⟨11, _⟩ => ⟨S1x512x256, .f32⟩
  | .local _ .vmem, ⟨12, _⟩ => ⟨S1x512x256, .f32⟩
  | .local _ .vmem, ⟨13, _⟩ => ⟨S4x1x512, .f32⟩
  | .local _ .vmem, ⟨14, _⟩ => ⟨S4x80x512, .f32⟩
  | .local _ .vmem, ⟨15, _⟩ => ⟨S4x512x512, .f32⟩
  | .local _ .vmem, ⟨16, _⟩ => ⟨S4x512x512, .f32⟩
  | .local _ .smem, ⟨0, _⟩ => ⟨S2, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_mult1 : BitVec 32 :=
  let c0_i32_39 : BitVec 32 := 0#32
  c0_i32_39
def k0_mult2 : BitVec 32 :=
  let c0_i32_66 : BitVec 32 := 0#32
  c0_i32_66
def k0_mult3 : BitVec 32 :=
  let c0_i32_93 : BitVec 32 := 0#32
  c0_i32_93
def k0_mult4 : BitVec 32 :=
  let c0_i32_119 : BitVec 32 := 0#32
  c0_i32_119
@[reducible] def k0_t1_loop : Scf.Loop 32 :=
  let c0_i32_146 : BitVec 32 := 0#32
  let c3_i32 : BitVec 32 := 3#32
  let v200 : BitVec 32 := Scalar.addi c0_i32_146 c3_i32
  let c1_i32 : BitVec 32 := 1#32
  ⟨c0_i32_146, v200, c1_i32⟩
def k0_mult5 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_349 : BitVec 32 := 1#32
  let v503 : BitVec 32 := Scalar.addi v502 c1_i32_349
  let c512_i32 : BitVec 32 := 512#32
  let v504 : BitVec 32 := Scalar.muli v503 c512_i32
  v504
def k0_off1 (k0_t1 : Fin k0_t1_loop.trips) (c1_i32_349 : BitVec 32) : Fin 3 → Nat :=
  let c0_350 : Index := 0#32
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let v503 : BitVec 32 := Scalar.addi v502 c1_i32_349
  let c512_i32 : BitVec 32 := 512#32
  let v504 : BitVec 32 := Scalar.muli v503 c512_i32
  let v505 : BitVec 32 := v504
  let v506 : Index := Scalar.indexCast v505
  let c0_351 : Index := 0#32
  ![0, v506.toNat, 0]
def k0_mult6 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_366 : BitVec 32 := 512#32
  let v529 : BitVec 32 := Scalar.muli v502 c512_i32_366
  v529
def k0_off2 (k0_t1 : Fin k0_t1_loop.trips) : Fin 3 → Nat :=
  let c0_367 : Index := 0#32
  let c0_368 : Index := 0#32
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_366 : BitVec 32 := 512#32
  let v529 : BitVec 32 := Scalar.muli v502 c512_i32_366
  let v530 : BitVec 32 := v529
  let v531 : Index := Scalar.indexCast v530
  ![0, 0, v531.toNat]
def k0_mult7 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_349 : BitVec 32 := 1#32
  let v503 : BitVec 32 := Scalar.addi v502 c1_i32_349
  let c512_i32_376 : BitVec 32 := 512#32
  let v544 : BitVec 32 := Scalar.muli v503 c512_i32_376
  v544
def k0_mult8 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_393 : BitVec 32 := 512#32
  let v569 : BitVec 32 := Scalar.muli v502 c512_i32_393
  v569
def k0_mult9 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_349 : BitVec 32 := 1#32
  let v503 : BitVec 32 := Scalar.addi v502 c1_i32_349
  let c512_i32_403 : BitVec 32 := 512#32
  let v584 : BitVec 32 := Scalar.muli v503 c512_i32_403
  v584
def k0_mult10 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_420 : BitVec 32 := 512#32
  let v609 : BitVec 32 := Scalar.muli v502 c512_i32_420
  v609
def k0_off3 (k0_t1 : Fin k0_t1_loop.trips) : Fin 3 → Nat :=
  let c0_421 : Index := 0#32
  let c64_422 : Index := 64#32
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_420 : BitVec 32 := 512#32
  let v609 : BitVec 32 := Scalar.muli v502 c512_i32_420
  let v610 : BitVec 32 := v609
  let v611 : Index := Scalar.indexCast v610
  ![0, 64, v611.toNat]
def k0_mult11 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_349 : BitVec 32 := 1#32
  let v503 : BitVec 32 := Scalar.addi v502 c1_i32_349
  let c512_i32_430 : BitVec 32 := 512#32
  let v624 : BitVec 32 := Scalar.muli v503 c512_i32_430
  v624
def k0_mult12 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c512_i32_447 : BitVec 32 := 512#32
  let v649 : BitVec 32 := Scalar.muli v502 c512_i32_447
  v649
def k0_mult13 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c2_i32_457 : BitVec 32 := 2#32
  let v664 : BitVec 32 := Scalar.addi v502 c2_i32_457
  let c512_i32_459 : BitVec 32 := 512#32
  let v666 : BitVec 32 := Scalar.muli v664 c512_i32_459
  v666
def k0_mult14 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_476 : BitVec 32 := 512#32
  let v691 : BitVec 32 := Scalar.muli v665 c512_i32_476
  v691
def k0_off4 (k0_t1 : Fin k0_t1_loop.trips) : Fin 3 → Nat :=
  let c0_477 : Index := 0#32
  let c0_478 : Index := 0#32
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_476 : BitVec 32 := 512#32
  let v691 : BitVec 32 := Scalar.muli v665 c512_i32_476
  let v692 : BitVec 32 := v691
  let v693 : Index := Scalar.indexCast v692
  ![0, 0, v693.toNat]
def k0_mult15 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c2_i32_457 : BitVec 32 := 2#32
  let v664 : BitVec 32 := Scalar.addi v502 c2_i32_457
  let c512_i32_486 : BitVec 32 := 512#32
  let v706 : BitVec 32 := Scalar.muli v664 c512_i32_486
  v706
def k0_mult16 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_503 : BitVec 32 := 512#32
  let v731 : BitVec 32 := Scalar.muli v665 c512_i32_503
  v731
def k0_mult17 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c2_i32_457 : BitVec 32 := 2#32
  let v664 : BitVec 32 := Scalar.addi v502 c2_i32_457
  let c512_i32_513 : BitVec 32 := 512#32
  let v746 : BitVec 32 := Scalar.muli v664 c512_i32_513
  v746
def k0_mult18 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_530 : BitVec 32 := 512#32
  let v771 : BitVec 32 := Scalar.muli v665 c512_i32_530
  v771
def k0_off5 (k0_t1 : Fin k0_t1_loop.trips) : Fin 3 → Nat :=
  let c0_531 : Index := 0#32
  let c64_532 : Index := 64#32
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_530 : BitVec 32 := 512#32
  let v771 : BitVec 32 := Scalar.muli v665 c512_i32_530
  let v772 : BitVec 32 := v771
  let v773 : Index := Scalar.indexCast v772
  ![0, 64, v773.toNat]
def k0_mult19 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c2_i32_457 : BitVec 32 := 2#32
  let v664 : BitVec 32 := Scalar.addi v502 c2_i32_457
  let c512_i32_540 : BitVec 32 := 512#32
  let v786 : BitVec 32 := Scalar.muli v664 c512_i32_540
  v786
def k0_mult20 (k0_t1 : Fin k0_t1_loop.trips) : BitVec 32 :=
  let c2_i32 : BitVec 32 := 2#32
  let c0_i32_146 : BitVec 32 := 0#32
  let c1_i32 : BitVec 32 := 1#32
  let arg14 : BitVec 32 := Scf.iv c0_i32_146 c1_i32 k0_t1
  let v502 : BitVec 32 := Scalar.muli c2_i32 arg14
  let c1_i32_458 : BitVec 32 := 1#32
  let v665 : BitVec 32 := Scalar.addi v502 c1_i32_458
  let c512_i32_557 : BitVec 32 := 512#32
  let v811 : BitVec 32 := Scalar.muli v665 c512_i32_557
  v811
def k0_mult21 : BitVec 32 :=
  let c3584_i32 : BitVec 32 := 3584#32
  c3584_i32
def k0_mult22 : BitVec 32 :=
  let c3072_i32 : BitVec 32 := 3072#32
  c3072_i32
def k0_mult23 : BitVec 32 :=
  let c3584_i32_173 : BitVec 32 := 3584#32
  c3584_i32_173
def k0_mult24 : BitVec 32 :=
  let c3072_i32_190 : BitVec 32 := 3072#32
  c3072_i32_190
def k0_mult25 : BitVec 32 :=
  let c3584_i32_200 : BitVec 32 := 3584#32
  c3584_i32_200
def k0_mult26 : BitVec 32 :=
  let c3072_i32_217 : BitVec 32 := 3072#32
  c3072_i32_217
def k0_mult27 : BitVec 32 :=
  let c3584_i32_227 : BitVec 32 := 3584#32
  c3584_i32_227
def k0_mult28 : BitVec 32 :=
  let c3072_i32_244 : BitVec 32 := 3072#32
  c3072_i32_244
def k0_mult29 : BitVec 32 :=
  let c3584_i32_264 : BitVec 32 := 3584#32
  c3584_i32_264
def k0_mult30 : BitVec 32 :=
  let c3584_i32_284 : BitVec 32 := 3584#32
  c3584_i32_284
def k0_mult31 : BitVec 32 :=
  let c3584_i32_304 : BitVec 32 := 3584#32
  c3584_i32_304
def k0_mult32 : BitVec 32 :=
  let c3584_i32_324 : BitVec 32 := 3584#32
  c3584_i32_324
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale" => some ((((Real.log 2) * (Real.sqrt 64))⁻¹ : ℝ) : EReal)
  | _ => none
-- ==== ReferenceIdeal.lean ====
abbrev S8x4096x256 : Shape := ⟨3, ![8, 4096, 256]⟩
abbrev S8x4096x128 : Shape := ⟨3, ![8, 4096, 128]⟩
abbrev S8x2x512x64 : Shape := ⟨4, ![8, 2, 512, 64]⟩
abbrev S8x4096x2x2x64 : Shape := ⟨5, ![8, 4096, 2, 2, 64]⟩
abbrev S8x2x2x4096x64 : Shape := ⟨5, ![8, 2, 2, 4096, 64]⟩
abbrev S8x4096x2x64 : Shape := ⟨4, ![8, 4096, 2, 64]⟩
abbrev S8x2x4096x64 : Shape := ⟨4, ![8, 2, 4096, 64]⟩
abbrev S8x2x4608x64 : Shape := ⟨4, ![8, 2, 4608, 64]⟩
abbrev S8x2x2x4096x4608 : Shape := ⟨5, ![8, 2, 2, 4096, 4608]⟩
abbrev S_ : Shape := ⟨0, ![]⟩
abbrev S8x2x2x4096 : Shape := ⟨4, ![8, 2, 2, 4096]⟩
abbrev S8x2x2x4096x1 : Shape := ⟨5, ![8, 2, 2, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x128, .f32⟩
  | .hbm, ⟨2, _⟩ => ⟨S8x4096x128, .f32⟩
  | .hbm, ⟨3, _⟩ => ⟨S8x2x512x64, .f32⟩
  | .hbm, ⟨4, _⟩ => ⟨S8x2x512x64, .f32⟩
  | .hbm, ⟨5, _⟩ => ⟨S8x4096x2x2x64, .f32⟩
  | .hbm, ⟨6, _⟩ => ⟨S8x2x2x4096x64, .f32⟩
  | .hbm, ⟨7, _⟩ => ⟨S8x4096x2x64, .f32⟩
  | .hbm, ⟨8, _⟩ => ⟨S8x2x4096x64, .f32⟩
  | .hbm, ⟨9, _⟩ => ⟨S8x4096x2x64, .f32⟩
  | .hbm, ⟨10, _⟩ => ⟨S8x2x4096x64, .f32⟩
  | .hbm, ⟨11, _⟩ => ⟨S8x2x4608x64, .f32⟩
  | .hbm, ⟨12, _⟩ => ⟨S8x2x4608x64, .f32⟩
  | .hbm, ⟨13, _⟩ => ⟨S8x2x2x4096x4608, .f32⟩
  | .hbm, ⟨14, _⟩ => ⟨S_, .f32⟩
  | .hbm, ⟨15, _⟩ => ⟨S8x2x2x4096x4608, .f32⟩
  | .hbm, ⟨16, _⟩ => ⟨S8x2x2x4096x4608, .f32⟩
  | .hbm, ⟨17, _⟩ => ⟨S_, .f32⟩
  | .hbm, ⟨18, _⟩ => ⟨S8x2x2x4096, .f32⟩
  | .hbm, ⟨19, _⟩ => ⟨S_, .f32⟩
  | .hbm, ⟨20, _⟩ => ⟨S8x2x2x4096, .f32⟩
  | .hbm, ⟨21, _⟩ => ⟨S8x2x2x4096, .f32⟩
  | .hbm, ⟨22, _⟩ => ⟨S8x2x2x4096x1, .f32⟩
  | .hbm, ⟨23, _⟩ => ⟨S8x2x2x4096x4608, .f32⟩
  | .hbm, ⟨24, _⟩ => ⟨S8x2x2x4096x4608, .f32⟩
  | .hbm, ⟨25, _⟩ => ⟨S8x2x2x4096x4608, .f32⟩
  | .hbm, ⟨26, _⟩ => ⟨S_, .f32⟩
  | .hbm, ⟨27, _⟩ => ⟨S8x2x2x4096, .f32⟩
  | .hbm, ⟨28, _⟩ => ⟨S8x2x2x4096x1, .f32⟩
  | .hbm, ⟨29, _⟩ => ⟨S8x2x2x4096x4608, .f32⟩
  | .hbm, ⟨30, _⟩ => ⟨S8x2x2x4096x4608, .f32⟩
  | .hbm, ⟨31, _⟩ => ⟨S8x2x2x4096x64, .f32⟩
  | .hbm, ⟨32, _⟩ => ⟨S8x4096x2x2x64, .f32⟩
  | .hbm, ⟨33, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1024 : Shape := ⟨2, ![8, 1024]⟩
abbrev S1024x3200 : Shape := ⟨2, ![1024, 3200]⟩
abbrev S32768x1024 : Shape := ⟨2, ![32768, 1024]⟩
abbrev S_ : Shape := ⟨0, ![]⟩
abbrev S1x1024 : Shape := ⟨2, ![1, 1024]⟩
abbrev S8x1x1024 : Shape := ⟨3, ![8, 1, 1024]⟩
abbrev S4096x9216 : Shape := ⟨2, ![4096, 9216]⟩
abbrev S32768x768 : Shape := ⟨2, ![32768, 768]⟩
abbrev S32768x512 : Shape := ⟨2, ![32768, 512]⟩
abbrev S256x1024 : Shape := ⟨2, ![256, 1024]⟩
abbrev S1x1x1024 : Shape := ⟨3, ![1, 1, 1024]⟩
abbrev S256x1152 : Shape := ⟨2, ![256, 1152]⟩
abbrev S256x768 : Shape := ⟨2, ![256, 768]⟩
abbrev S256x512 : Shape := ⟨2, ![256, 512]⟩
abbrev S256 : Shape := ⟨1, ![256]⟩
abbrev S256x1 : Shape := ⟨2, ![256, 1]⟩
abbrev S256x3200 : Shape := ⟨2, ![256, 3200]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3200, .f32⟩
  | .hbm, ⟨5, _⟩ => ⟨S32768x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S1024x3200, .bf16⟩
  | .hbm, ⟨10, _⟩ => ⟨S1x1024, .f32⟩
  | .hbm, ⟨11, _⟩ => ⟨S8x1x1024, .f32⟩
  | .hbm, ⟨12, _⟩ => ⟨S8x1x1024, .f32⟩
  | .hbm, ⟨13, _⟩ => ⟨S4096x9216, .f32⟩
  | .hbm, ⟨14, _⟩ => ⟨S32768x768, .f32⟩
  | .hbm, ⟨15, _⟩ => ⟨S32768x768, .f32⟩
  | .hbm, ⟨16, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S256x1152, .f32⟩
  | .local _ .vmem, ⟨9, _⟩ => ⟨S256x1152, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x512, .f32⟩
  | .local _ .vmem, ⟨15, _⟩ => ⟨S256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S1024 : Shape := ⟨1, ![1024]⟩
abbrev S8x1024 : Shape := ⟨2, ![8, 1024]⟩
abbrev S1024x3200 : Shape := ⟨2, ![1024, 3200]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3200 : Shape := ⟨3, ![8, 4096, 3200]⟩
abbrev S8x4096x1152 : Shape := ⟨3, ![8, 4096, 1152]⟩
abbrev S8x4096x768 : Shape := ⟨3, ![8, 4096, 768]⟩
abbrev S8x4096x512 : Shape := ⟨3, ![8, 4096, 512]⟩
abbrev S4096x8x1152 : Shape := ⟨3, ![4096, 8, 1152]⟩
abbrev S4096x9216 : Shape := ⟨2, ![4096, 9216]⟩
abbrev S32768x768 : Shape := ⟨2, ![32768, 768]⟩
abbrev S32768x512 : Shape := ⟨2, ![32768, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3200, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x3200, .f32⟩
  | .hbm, ⟨31, _⟩ => ⟨S8x4096x1152, .f32⟩
  | .hbm, ⟨32, _⟩ => ⟨S8x4096x768, .f32⟩
  | .hbm, ⟨33, _⟩ => ⟨S8x4096x768, .f32⟩
  | .hbm, ⟨34, _⟩ => ⟨S8x4096x512, .f32⟩
  | .hbm, ⟨35, _⟩ => ⟨S4096x8x1152, .f32⟩
  | .hbm, ⟨36, _⟩ => ⟨S4096x9216, .f32⟩
  | .hbm, ⟨37, _⟩ => ⟨S32768x768, .f32⟩
  | .hbm, ⟨38, _⟩ => ⟨S32768x768, .f32⟩
  | .hbm, ⟨39, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel3.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x3 : Shape := ⟨2, ![288, 3]⟩
abbrev S288x1x1024x512 : Shape := ⟨4, ![288, 1, 1024, 512]⟩
abbrev S288x1024x512 : Shape := ⟨3, ![288, 1024, 512]⟩
abbrev S288x256x512 : Shape := ⟨3, ![288, 256, 512]⟩
abbrev S288x1x512x1024 : Shape := ⟨4, ![288, 1, 512, 1024]⟩
abbrev S288x512x1024 : Shape := ⟨3, ![288, 512, 1024]⟩
abbrev S288x1x1 : Shape := ⟨3, ![288, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S288, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S288x1, .i32⟩
  | .hbm, ⟨31, _⟩ => ⟨S288x1, .i32⟩
  | .hbm, ⟨32, _⟩ => ⟨S288x1, .i32⟩
  | .hbm, ⟨33, _⟩ => ⟨S288x3, .i32⟩
  | .hbm, ⟨34, _⟩ => ⟨S288x1x1024x512, .f32⟩
  | .hbm, ⟨35, _⟩ => ⟨S288x1024x512, .f32⟩
  | .hbm, ⟨36, _⟩ => ⟨S288x256x512, .f32⟩
  | .hbm, ⟨37, _⟩ => ⟨S288x256x512, .f32⟩
  | .hbm, ⟨38, _⟩ => ⟨S288x256x512, .f32⟩
  | .hbm, ⟨39, _⟩ => ⟨S_, .f32⟩
  | .hbm, ⟨40, _⟩ => ⟨S288x256x512, .f32⟩
  | .hbm, ⟨41, _⟩ => ⟨S288x256x512, .f32⟩
  | .hbm, ⟨42, _⟩ => ⟨S_, .f32⟩
  | .hbm, ⟨43, _⟩ => ⟨S288x256x512, .f32⟩
  | .hbm, ⟨44, _⟩ => ⟨S288x256x512, .f32⟩
  | .hbm, ⟨45, _⟩ => ⟨S288x256x512, .f32⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S288x1, .i32⟩
  | .hbm, ⟨70, _⟩ => ⟨S288x1, .i32⟩
  | .hbm, ⟨71, _⟩ => ⟨S288x1, .i32⟩
  | .hbm, ⟨72, _⟩ => ⟨S288x3, .i32⟩
  | .hbm, ⟨73, _⟩ => ⟨S288x1x1024x512, .f32⟩
  | .hbm, ⟨74, _⟩ => ⟨S288x1024x512, .f32⟩
  | .hbm, ⟨75, _⟩ => ⟨S288x256x512, .f32⟩
  | .hbm, ⟨76, _⟩ => ⟨S288x256x512, .f32⟩
  | .hbm, ⟨77, _⟩ => ⟨S_, .i32⟩
  | .hbm, ⟨78, _⟩ => ⟨S288, .i32⟩
  | .hbm, ⟨79, _⟩ => ⟨S288, .i1⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S288, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S288x1, .i32⟩
  | .hbm, ⟨101, _⟩ => ⟨S288x1, .i32⟩
  | .hbm, ⟨102, _⟩ => ⟨S288x1, .i32⟩
  | .hbm, ⟨103, _⟩ => ⟨S288x3, .i32⟩
  | .hbm, ⟨104, _⟩ => ⟨S288x1x512x1024, .f32⟩
  | .hbm, ⟨105, _⟩ => ⟨S288x512x1024, .f32⟩
  | .hbm, ⟨106, _⟩ => ⟨S288x256x1024, .f32⟩
  | .hbm, ⟨107, _⟩ => ⟨S288, .i32⟩
  | .hbm, ⟨108, _⟩ => ⟨S288x1x1, .i32⟩
  | .hbm, ⟨109, _⟩ => ⟨S_, .i32⟩
  | .hbm, ⟨110, _⟩ => ⟨S288x1x1, .i32⟩
  | .hbm, ⟨111, _⟩ => ⟨S288x1x1, .i1⟩
  | .hbm, ⟨112, _⟩ => ⟨S_, .f32⟩
  | .hbm, ⟨113, _⟩ => ⟨S_, .f32⟩
  | .hbm, ⟨114, _⟩ => ⟨S288x256x1024, .i1⟩
  | .hbm, ⟨115, _⟩ => ⟨S288x256x1024, .f32⟩
  | .hbm, ⟨116, _⟩ => ⟨S288x256x1024, .f32⟩
  | .hbm, ⟨117, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_c_11 : Ref sig .tc := ⟨.hbm, 46, rfl⟩
abbrev main_v20 : Ref sig .tc := ⟨.hbm, 47, rfl⟩
abbrev main_v21 : Ref sig .tc := ⟨.hbm, 48, rfl⟩
abbrev main_c_12 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_13 : Ref sig .tc := ⟨.hbm, 53, rfl⟩
abbrev main_c_14 : Ref sig .tc := ⟨.hbm, 54, rfl⟩
abbrev main_v25 : Ref sig .tc := ⟨.hbm, 55, rfl⟩
abbrev main_c_15 : Ref sig .tc := ⟨.hbm, 56, rfl⟩
abbrev main_c_16 : Ref sig .tc := ⟨.hbm, 57, rfl⟩
abbrev main_v26 : Ref sig .tc := ⟨.hbm, 58, rfl⟩
abbrev main_c_17 : Ref sig .tc := ⟨.hbm, 59, rfl⟩
abbrev main_v27 : Ref sig .tc := ⟨.hbm, 60, rfl⟩
abbrev main_c_18 : Ref sig .tc := ⟨.hbm, 61, rfl⟩
abbrev main_c_19 : Ref sig .tc := ⟨.hbm, 62, rfl⟩
abbrev main_v28 : Ref sig .tc := ⟨.hbm, 63, rfl⟩
abbrev main_c_20 : Ref sig .tc := ⟨.hbm, 64, rfl⟩
abbrev main_c_21 : Ref sig .tc := ⟨.hbm, 65, rfl⟩
abbrev main_v29 : Ref sig .tc := ⟨.hbm, 66, rfl⟩
abbrev main_c_22 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_23 : Ref sig .tc := ⟨.hbm, 77, rfl⟩
abbrev main_v39 : Ref sig .tc := ⟨.hbm, 78, rfl⟩
abbrev main_v40 : Ref sig .tc := ⟨.hbm, 79, rfl⟩
abbrev main_c_24 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_25 : Ref sig .tc := ⟨.hbm, 84, rfl⟩
abbrev main_c_26 : Ref sig .tc := ⟨.hbm, 85, rfl⟩
abbrev main_v44 : Ref sig .tc := ⟨.hbm, 86, rfl⟩
abbrev main_c_27 : Ref sig .tc := ⟨.hbm, 87, rfl⟩
abbrev main_c_28 : Ref sig .tc := ⟨.hbm, 88, rfl⟩
abbrev main_v45 : Ref sig .tc := ⟨.hbm, 89, rfl⟩
abbrev main_c_29 : Ref sig .tc := ⟨.hbm, 90, rfl⟩
abbrev main_v46 : Ref sig .tc := ⟨.hbm, 91, rfl⟩
abbrev main_c_30 : Ref sig .tc := ⟨.hbm, 92, rfl⟩
abbrev main_c_31 : Ref sig .tc := ⟨.hbm, 93, rfl⟩
abbrev main_v47 : Ref sig .tc := ⟨.hbm, 94, rfl⟩
abbrev main_c_32 : Ref sig .tc := ⟨.hbm, 95, rfl⟩
abbrev main_c_33 : Ref sig .tc := ⟨.hbm, 96, rfl⟩
abbrev main_v48 : Ref sig .tc := ⟨.hbm, 97, rfl⟩
abbrev main_c_34 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]
-- ==== Kernel4.lean ====
abbrev S4096x8x256 : Shape := ⟨3, ![4096, 8, 256]⟩
abbrev S4096x8x512 : Shape := ⟨3, ![4096, 8, 512]⟩
abbrev S8x4096x256 : Shape := ⟨3, ![8, 4096, 256]⟩
abbrev S256 : Shape := ⟨1, ![256]⟩
abbrev S1024x1024 : Shape := ⟨2, ![1024, 1024]⟩
abbrev S8x4096x1024 : Shape := ⟨3, ![8, 4096, 1024]⟩
abbrev S8x1024 : Shape := ⟨2, ![8, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S32768x256 : Shape := ⟨2, ![32768, 256]⟩
abbrev S32768x1024 : Shape := ⟨2, ![32768, 1024]⟩
abbrev S4096x2048 : Shape := ⟨2, ![4096, 2048]⟩
abbrev S4096x4096 : Shape := ⟨2, ![4096, 4096]⟩
abbrev S1x256 : Shape := ⟨2, ![1, 256]⟩
abbrev S256x1 : Shape := ⟨2, ![256, 1]⟩
abbrev S256x256 : Shape := ⟨2, ![256, 256]⟩
abbrev S8x1x1024 : Shape := ⟨3, ![8, 1, 1024]⟩
abbrev S1x1024 : Shape := ⟨2, ![1, 1024]⟩
abbrev S32768x128 : Shape := ⟨2, ![32768, 128]⟩
abbrev S256x512 : Shape := ⟨2, ![256, 512]⟩
abbrev S256x1024 : Shape := ⟨2, ![256, 1024]⟩
abbrev S1x1x1024 : Shape := ⟨3, ![1, 1, 1024]⟩
abbrev S256x128 : Shape := ⟨2, ![256, 128]⟩

abbrev nBuf : Space → Nat
  | .hbm => 57
  | .vmem => 33
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x8x512, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S256, .f32⟩
  | .hbm, ⟨7, _⟩ => ⟨S256, .f32⟩
  | .hbm, ⟨8, _⟩ => ⟨S1024x1024, .f32⟩
  | .hbm, ⟨9, _⟩ => ⟨S8x4096x1024, .f32⟩
  | .hbm, ⟨10, _⟩ => ⟨S8x1024, .f32⟩
  | .hbm, ⟨11, _⟩ => ⟨S1024, .f32⟩
  | .hbm, ⟨12, _⟩ => ⟨S8x1024, .f32⟩
  | .hbm, ⟨13, _⟩ => ⟨S8x1024, .f32⟩
  | .hbm, ⟨14, _⟩ => ⟨S1024x4, .f32⟩
  | .hbm, ⟨15, _⟩ => ⟨S4, .f32⟩
  | .hbm, ⟨16, _⟩ => ⟨S1024x32, .f32⟩
  | .hbm, ⟨17, _⟩ => ⟨S32, .f32⟩
  | .hbm, ⟨18, _⟩ => ⟨S1024x36, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S1024x1024, .bf16⟩
  | .hbm, ⟨31, _⟩ => ⟨S32768x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S4096x2048, .f32⟩
  | .hbm, ⟨36, _⟩ => ⟨S4096x2048, .f32⟩
  | .hbm, ⟨37, _⟩ => ⟨S4096x4096, .f32⟩
  | .hbm, ⟨38, _⟩ => ⟨S1x256, .f32⟩
  | .hbm, ⟨39, _⟩ => ⟨S1x256, .f32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .bf16⟩
  | .hbm, ⟨50, _⟩ => ⟨S8x1x1024, .f32⟩
  | .hbm, ⟨51, _⟩ => ⟨S1x1024, .f32⟩
  | .hbm, ⟨52, _⟩ => ⟨S8x1x1024, .f32⟩
  | .hbm, ⟨53, _⟩ => ⟨S8x1x1024, .f32⟩
  | .hbm, ⟨54, _⟩ => ⟨S32768x1024, .f32⟩
  | .hbm, ⟨55, _⟩ => ⟨S32768x1024, .bf16⟩
  | .hbm, ⟨56, _⟩ => ⟨S32768x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1024x128, .f32⟩
  | .local _ .vmem, ⟨26, _⟩ => ⟨S1x128, .f32⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | .local _ .vmem, ⟨31, _⟩ => ⟨S256x128, .f32⟩
  | .local _ .vmem, ⟨32, _⟩ => ⟨S256x128, .f32⟩
  | _, _ => ⟨S4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4096x8x256 : Shape := ⟨3, ![4096, 8, 256]⟩
abbrev S4096x8x512 : Shape := ⟨3, ![4096, 8, 512]⟩
abbrev S8x4096x256 : Shape := ⟨3, ![8, 4096, 256]⟩
abbrev S256 : Shape := ⟨1, ![256]⟩
abbrev S1024x1024 : Shape := ⟨2, ![1024, 1024]⟩
abbrev S8x4096x1024 : Shape := ⟨3, ![8, 4096, 1024]⟩
abbrev S8x1024 : Shape := ⟨2, ![8, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x256 : Shape := ⟨3, ![1, 1, 256]⟩
abbrev S8x4096x512 : Shape := ⟨3, ![8, 4096, 512]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x36 : Shape := ⟨2, ![32768, 36]⟩
abbrev S32768x128 : Shape := ⟨2, ![32768, 128]⟩

abbrev nBuf : Space → Nat
  | .hbm => 102
  | .vmem => 0
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x8x512, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S256, .f32⟩
  | .hbm, ⟨7, _⟩ => ⟨S256, .f32⟩
  | .hbm, ⟨8, _⟩ => ⟨S1024x1024, .f32⟩
  | .hbm, ⟨9, _⟩ => ⟨S8x4096x1024, .f32⟩
  | .hbm, ⟨10, _⟩ => ⟨S8x1024, .f32⟩
  | .hbm, ⟨11, _⟩ => ⟨S1024, .f32⟩
  | .hbm, ⟨12, _⟩ => ⟨S8x1024, .f32⟩
  | .hbm, ⟨13, _⟩ => ⟨S8x1024, .f32⟩
  | .hbm, ⟨14, _⟩ => ⟨S1024x4, .f32⟩
  | .hbm, ⟨15, _⟩ => ⟨S4, .f32⟩
  | .hbm, ⟨16, _⟩ => ⟨S1024x32, .f32⟩
  | .hbm, ⟨17, _⟩ => ⟨S32, .f32⟩
  | .hbm, ⟨18, _⟩ => ⟨S4096x8x256, .f32⟩
  | .hbm, ⟨19, _⟩ => ⟨S8x4096x256, .f32⟩
  | .hbm, ⟨20, _⟩ => ⟨S8x4096x4x64, .f32⟩
  | .hbm, ⟨21, _⟩ => ⟨S_, .f32⟩
  | .hbm, ⟨22, _⟩ => ⟨S8x4096x4, .f32⟩
  | .hbm, ⟨23, _⟩ => ⟨S8x4096x4x1, .f32⟩
  | .hbm, ⟨24, _⟩ => ⟨S_, .f32⟩
  | .hbm, ⟨25, _⟩ => ⟨S8x4096x4x1, .f32⟩
  | .hbm, ⟨26, _⟩ => ⟨S8x4096x4x1, .f32⟩
  | .hbm, ⟨27, _⟩ => ⟨S8x4096x4x64, .f32⟩
  | .hbm, ⟨28, _⟩ => ⟨S8x4096x4x64, .f32⟩
  | .hbm, ⟨29, _⟩ => ⟨S8x4096x4x64, .f32⟩
  | .hbm, ⟨30, _⟩ => ⟨S_, .f32⟩
  | .hbm, ⟨31, _⟩ => ⟨S8x4096x4, .f32⟩
  | .hbm, ⟨32, _⟩ => ⟨S8x4096x4x1, .f32⟩
  | .hbm, ⟨33, _⟩ => ⟨S_, .f32⟩
  | .hbm, ⟨34, _⟩ => ⟨S8x4096x4x1, .f32⟩
  | .hbm, ⟨35, _⟩ => ⟨S8x4096x4x1, .f32⟩
  | .hbm, ⟨36, _⟩ => ⟨S8x4096x4x64, .f32⟩
  | .hbm, ⟨37, _⟩ => ⟨S8x4096x4x64, .f32⟩
  | .hbm, ⟨38, _⟩ => ⟨S_, .f32⟩
  | .hbm, ⟨39, _⟩ => ⟨S8x4096x4x1, .f32⟩
  | .hbm, ⟨40, _⟩ => ⟨S8x4096x4x1, .f32⟩
  | .hbm, ⟨41, _⟩ => ⟨S8x4096x4x1, .f32⟩
  | .hbm, ⟨42, _⟩ => ⟨S8x4096x4x64, .f32⟩
  | .hbm, ⟨43, _⟩ => ⟨S8x4096x4x64, .f32⟩
  | .hbm, ⟨44, _⟩ => ⟨S8x4096x256, .f32⟩
  | .hbm, ⟨45, _⟩ => ⟨S1x1x256, .f32⟩
  | .hbm, ⟨46, _⟩ => ⟨S8x4096x256, .f32⟩
  | .hbm, ⟨47, _⟩ => ⟨S8x4096x256, .f32⟩
  | .hbm, ⟨48, _⟩ => ⟨S1x1x256, .f32⟩
  | .hbm, ⟨49, _⟩ => ⟨S8x4096x256, .f32⟩
  | .hbm, ⟨50, _⟩ => ⟨S8x4096x256, .f32⟩
  | .hbm, ⟨51, _⟩ => ⟨S8x4096x512, .f32⟩
  | .hbm, ⟨52, _⟩ => ⟨S8x4096x256, .f32⟩
  | .hbm, ⟨53, _⟩ => ⟨S8x4096x256, .f32⟩
  | .hbm, ⟨54, _⟩ => ⟨S8x4096x256, .f32⟩
  | .hbm, ⟨55, _⟩ => ⟨S8x4096x256, .f32⟩
  | .hbm, ⟨56, _⟩ => ⟨S8x4096x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S8x1x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x4096x1024, .f32⟩
  | .hbm, ⟨83, _⟩ => ⟨S8x4096x1024, .f32⟩
  | .hbm, ⟨84, _⟩ => ⟨S8x1x1024, .f32⟩
  | .hbm, ⟨85, _⟩ => ⟨S8x4096x1024, .f32⟩
  | .hbm, ⟨86, _⟩ => ⟨S8x4096x1024, .f32⟩
  | .hbm, ⟨87, _⟩ => ⟨S32768x1024, .f32⟩
  | .hbm, ⟨88, _⟩ => ⟨S32768x4, .f32⟩
  | .hbm, ⟨89, _⟩ => ⟨S1x4, .f32⟩
  | .hbm, ⟨90, _⟩ => ⟨S32768x4, .f32⟩
  | .hbm, ⟨91, _⟩ => ⟨S32768x4, .f32⟩
  | .hbm, ⟨92, _⟩ => ⟨S32768x32, .f32⟩
  | .hbm, ⟨93, _⟩ => ⟨S1x32, .f32⟩
  | .hbm, ⟨94, _⟩ => ⟨S32768x32, .f32⟩
  | .hbm, ⟨95, _⟩ => ⟨S32768x32, .f32⟩
  | .hbm, ⟨96, _⟩ => ⟨S32768x36, .f32⟩
  | .hbm, ⟨97, _⟩ => ⟨S32768x1024, .f32⟩
  | .hbm, ⟨98, _⟩ => ⟨S32768x1024, .bf16⟩
  | .hbm, ⟨99, _⟩ => ⟨S_, .i32⟩
  | .hbm, ⟨100, _⟩ => ⟨S_, .f32⟩
  | .hbm, ⟨101, _⟩ => ⟨S32768x128, .f32⟩
  | _, _ => ⟨S4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c : Ref sig .tc := ⟨.hbm, 99, rfl⟩
abbrev main_call0_v0 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Proof.Rows.lean ====
/- Reading one plane of a three-axis scratch buffer after a list of stores.

   The kernel keeps, for each of its streams, one plane of every scratch buffer: the plane `j` is the box at offsets
   `![j, 0, 0]` of extent one along the first axis. A load of plane `j` skips the stores to other planes and reads the
   payload of the last store to plane `j`. -/
module

public import Idealize.ShloMosaic.Lib.Exec
public import Idealize.ShloMosaic.Lib.Pipeline.Value

@[expose] public section

noncomputable section

namespace Cert.Rows

open Idealize.ShloMosaic

variable {sig : RefSig} {κ : Kind} {sp : Space} {e : EltTy} {Val : EltTy → Type}

/-- A load of the very box the last store wrote reads its payload. -/
theorem readAt_same {s : Shape} (v : View sig κ sp s e) (f : v.ty.Contents Val) {off size : Fin s.rank → ℕ}
    (h h' : ∀ a, off a + size a ≤ s.size a) (w : (Rect.unit off size h').shape.Idx → Val e)
    (L : List (View.Piece Val s e)) :
    v.readAt Val (Rect.unit off size h).toLoadRect (v.writes Val f (⟨Rect.unit off size h', w⟩ :: L)) = w := by
  funext y
  rw [View.readAt_apply]
  exact View.read_writes_cons_emb v f (Rect.unit off size h') w L y

/-- A load of plane `j` skips a store to another plane `j'`. -/
theorem readAt_other {d size : Fin 3 → ℕ} (v : View sig κ sp (⟨3, d⟩ : Shape) e) (f : v.ty.Contents Val) {j j' : ℕ}
    (h : ∀ a, (![j, 0, 0] : Fin 3 → ℕ) a + size a ≤ d a) (h' : ∀ a, (![j', 0, 0] : Fin 3 → ℕ) a + size a ≤ d a)
    (hs : size 0 = 1) (hj : j ≠ j')
    (w : (Rect.unit (s := (⟨3, d⟩ : Shape)) ![j', 0, 0] size h').shape.Idx → Val e)
    (L : List (View.Piece Val (⟨3, d⟩ : Shape) e)) :
    v.readAt Val (Rect.unit (s := (⟨3, d⟩ : Shape)) ![j, 0, 0] size h).toLoadRect
        (v.writes Val f (⟨Rect.unit (s := (⟨3, d⟩ : Shape)) ![j', 0, 0] size h', w⟩ :: L))
      = v.readAt Val (Rect.unit (s := (⟨3, d⟩ : Shape)) ![j, 0, 0] size h).toLoadRect (v.writes Val f L) := by
  funext y
  rw [View.readAt_apply, View.readAt_apply]
  have hy : (y 0).val < 1 := lt_of_lt_of_eq (y 0).isLt hs
  refine View.read_writes_cons_miss_of_axis v f _ L _ (0 : Fin 3) j' 1 rfl rfl hs ?_
  show j + 1 * (y 0).val < j' ∨ j' + 1 ≤ j + 1 * (y 0).val
  omega

/-- A load of any box after one store over the whole buffer reads that store's payload at the box's indices. -/
theorem readAt_whole {s : Shape} (v : View sig κ sp s e) (f : v.ty.Contents Val) {off : Fin s.rank → ℕ}
    (h0 : off = fun _ => 0) (h : ∀ a, off a + s.size a ≤ s.size a) (r : Rect s) (w : s.Idx → Val e)
    (L : List (View.Piece Val s e)) :
    v.readAt Val r.toLoadRect (v.writes Val f (⟨Rect.unit off s.size h, w⟩ :: L)) = View.ld w r := by
  subst h0
  funext y
  rw [View.readAt_apply]
  have := View.read_writes_cons_emb v f (Rect.whole s) w L (r.idx y)
  rw [Rect.emb_whole_apply] at this
  exact this

end Cert.Rows

end
-- ==== Proof.Stage.lean ====
/- One stream of the kernel, one chunk of keys and values at a time.

   A stream keeps a running maximum (a row of 512 queries) and an accumulator (80 rows of 512 queries: 64 value rows,
   the row of the weights' sum, and 15 rows that are never read). `score` is what the kernel stores for a chunk of
   keys, `stepM` and `stepA` what it stores for the running maximum and the accumulator when it takes the chunk's
   values up, and `fold` the state after the first `n` chunks. -/
module

public import proofs.«01_k».proof.Proof.Gen.KernelIdeal.Value
public import proofs.«01_k».proof.Proof.Rows

@[expose] public section

noncomputable section

namespace Cert.Stage

open Cert.KernelIdeal Cert.KernelIdeal.Gen
open Idealize.ShloMosaic Idealize.ShloMosaic.TcCoe

variable {F : FTy → Type} [FloatOps F] [Named F]

/-- The scores of a chunk of keys against a stream's queries. -/
abbrev score (q : FVec F S128x512 .bf16) (k : Vec F S1x512x128 .bf16) : Vec F S1x512x512 .f32 := k0_pay74 q k

/-- The running maximum, once the scores `s` are taken up. -/
abbrev stepM (s : Vec F S1x512x512 .f32) (m : Vec F S1x1x512 .f32) : Vec F S1x1x512 .f32 := k0_pay80 s m

/-- The accumulator, once the scores `s` and the values `v` are taken up. -/
abbrev stepA (ones : FVec F S16x512 .bf16) (s : Vec F S1x512x512 .f32) (m : Vec F S1x1x512 .f32)
    (v : Vec F S1x64x512 .bf16) (a : Vec F S1x80x512 .f32) : Vec F S1x80x512 .f32 := k0_pay81 ones s m v a

/-- The state of a stream: its running maximum and its accumulator. -/
abbrev State (F : FTy → Type) := Vec F S1x1x512 .f32 × Vec F S1x80x512 .f32

/-- One chunk taken up. -/
def step (ones : FVec F S16x512 .bf16) (s : Vec F S1x512x512 .f32) (v : Vec F S1x64x512 .bf16) (x : State F) : State F :=
  (stepM s x.1, stepA ones s x.1 v x.2)

/-- The state after the first `n` chunks, of scores `s i` and values `v i`. -/
def fold (ones : FVec F S16x512 .bf16) (s : ℕ → Vec F S1x512x512 .f32) (v : ℕ → Vec F S1x64x512 .bf16) (x : State F) : ℕ → State F
  | 0 => x
  | n + 1 => step ones (s n) (v n) (fold ones s v x n)

theorem inbM : ∀ j : Fin 4, ∀ a, (![j.val, 0, 0] : Fin 3 → ℕ) a + S1x1x512.size a ≤ S4x1x512.size a := by decide
theorem inbA : ∀ j : Fin 4, ∀ a, (![j.val, 0, 0] : Fin 3 → ℕ) a + S1x80x512.size a ≤ S4x80x512.size a := by decide
theorem inbS : ∀ j : Fin 4, ∀ a, (![j.val, 0, 0] : Fin 3 → ℕ) a + S1x512x512.size a ≤ S4x512x512.size a := by decide

/-- Plane `j` of the buffer of running maxima. -/
abbrev planeM (r : Memref sig .tc .vmem S4x1x512 .f32) (j : Fin 4) (f : BufTy.Contents (Elt F) r.view.ty) : Vec F S1x1x512 .f32 :=
  r.view.readAt (Elt F) (Rect.unit (s := S4x1x512) ![j.val, 0, 0] S1x1x512.size (inbM j)).toLoadRect f
/-- Plane `j` of the buffer of accumulators. -/
abbrev planeA (r : Memref sig .tc .vmem S4x80x512 .f32) (j : Fin 4) (f : BufTy.Contents (Elt F) r.view.ty) : Vec F S1x80x512 .f32 :=
  r.view.readAt (Elt F) (Rect.unit (s := S4x80x512) ![j.val, 0, 0] S1x80x512.size (inbA j)).toLoadRect f
/-- Plane `j` of a buffer of scores. -/
abbrev planeS (r : Memref sig .tc .vmem S4x512x512 .f32) (j : Fin 4) (f : BufTy.Contents (Elt F) r.view.ty) : Vec F S1x512x512 .f32 :=
  r.view.readAt (Elt F) (Rect.unit (s := S4x512x512) ![j.val, 0, 0] S1x512x512.size (inbS j)).toLoadRect f

/-- The buffers hold, stream by stream, the states `x` and the scores `s`. -/
def Holds (r10 : Memref sig .tc .vmem S4x1x512 .f32) (r11 : Memref sig .tc .vmem S4x80x512 .f32) (r13 : Memref sig .tc .vmem S4x512x512 .f32)
    (f10 : BufTy.Contents (Elt F) r10.view.ty) (f11 : BufTy.Contents (Elt F) r11.view.ty) (f13 : BufTy.Contents (Elt F) r13.view.ty)
    (x : Fin 4 → State F) (s : Fin 4 → Vec F S1x512x512 .f32) : Prop :=
  ∀ j : Fin 4, planeM r10 j f10 = (x j).1 ∧ planeA r11 j f11 = (x j).2 ∧ planeS r13 j f13 = s j

/-- What holds of each of the four streams holds of all. -/
theorem forall4 {p : Fin 4 → Prop} (h0 : p 0) (h1 : p 1) (h2 : p 2) (h3 : p 3) : ∀ j, p j
  | 0 => h0
  | 1 => h1
  | 2 => h2
  | 3 => h3

theorem val0 : ((0 : Fin 4) : ℕ) = 0 := rfl
theorem val1 : ((1 : Fin 4) : ℕ) = 1 := rfl
theorem val2 : ((2 : Fin 4) : ℕ) = 2 := rfl
theorem val3 : ((3 : Fin 4) : ℕ) = 3 := rfl

/-- The first of the 64 value rows that stream `j` reads: two streams share a head of the values. -/
abbrev vrow : Fin 4 → ℕ := ![0, 0, 64, 64]

theorem inbK : ∀ c : Fin 8, ∀ a, (![0, 512 * c.val, 0] : Fin 3 → ℕ) a + S1x512x128.size a ≤ S1x4096x128.size a := by decide
theorem inbV : ∀ j : Fin 4, ∀ c : Fin 8, ∀ a, (![0, vrow j, 512 * c.val] : Fin 3 → ℕ) a + S1x64x512.size a ≤ S1x128x4096.size a := by decide

/-- The chunk `c` of 512 keys, of the latents' keys. -/
abbrev keys (r : Memref sig .tc .vmem S1x4096x128 .bf16) (X : BufTy.Contents (Elt F) r.view.ty) (c : Fin 8) : Vec F S1x512x128 .bf16 :=
  r.view.readAt (Elt F) (Rect.unit (s := S1x4096x128) ![0, 512 * c.val, 0] S1x512x128.size (inbK c)).toLoadRect X
/-- The chunk `c` of 512 columns of the 64 value rows stream `j` reads, of the latents' values. -/
abbrev vals (r : Memref sig .tc .vmem S1x128x4096 .bf16) (X : BufTy.Contents (Elt F) r.view.ty) (j : Fin 4) (c : Fin 8) : Vec F S1x64x512 .bf16 :=
  r.view.readAt (Elt F) (Rect.unit (s := S1x128x4096) ![0, vrow j, 512 * c.val] S1x64x512.size (inbV j c)).toLoadRect X

end Cert.Stage

end
-- ==== Proof.Trip.lean ====
/- One trip of the kernel's loop, stream by stream.

   A trip takes up two chunks of keys and values. It finds the first chunk's scores in the second buffer of scores
   (`f13`), leaves the second chunk's scores in the first (`f12`), and the scores of the chunk after it in the second
   again. -/
module

public import proofs.«01_k».proof.Proof.Stage

@[expose] public section

set_option maxRecDepth 16384
set_option maxHeartbeats 4000000

noncomputable section

namespace Cert.Trip

open Cert.KernelIdeal Cert.KernelIdeal.Gen Cert.Stage
open Idealize.ShloMosaic Idealize.ShloMosaic.TcCoe Idealize.ShloMosaic.Tactic

variable {F : FTy → Type} [FloatOps F] [Named F]

variable (𝒱 : Variants) (c : Dev nD) (bd : Option 𝒱.V) (i : grid0.Coords)
  (arg2 : Memref sig .tc .smem S2 .f32) (harg2 : arg2.IsWhole) (arg3 : Memref sig .tc .vmem S1x512x256 .f32) (harg3 : arg3.IsWhole)
  (arg4 : Memref sig .tc .vmem S1x512x128 .bf16) (harg4 : arg4.IsWhole) (arg5 : Memref sig .tc .vmem S1x128x512 .bf16) (harg5 : arg5.IsWhole)
  (arg6 : Memref sig .tc .vmem S1x4096x128 .bf16) (harg6 : arg6.IsWhole) (arg7 : Memref sig .tc .vmem S1x128x4096 .bf16) (harg7 : arg7.IsWhole)
  (arg8 : Memref sig .tc .vmem S64x1 .f32) (harg8 : arg8.IsWhole) (arg9 : Memref sig .tc .vmem S1x512x256 .f32) (harg9 : arg9.IsWhole)
  (arg10 : Memref sig .tc .vmem S4x1x512 .f32) (harg10 : arg10.IsWhole) (arg11 : Memref sig .tc .vmem S4x80x512 .f32) (harg11 : arg11.IsWhole)
  (arg12 : Memref sig .tc .vmem S4x512x512 .f32) (harg12 : arg12.IsWhole) (arg13 : Memref sig .tc .vmem S4x512x512 .f32) (harg13 : arg13.IsWhole)
  (v8 : FVec F S128x512 .bf16) (v11 : FVec F S128x512 .bf16) (v14 : FVec F S128x512 .bf16) (v17 : FVec F S128x512 .bf16)
  (v31 : FVec F S16x512 .bf16) (v182 : FVec F S512x512 .bf16) (v184 : FVec F S1x512 .f32) (v190 : FVec F S80x512 .bf16)
  (v191 : Vec F S1x80x512 .f32) (X_arg6 : BufTy.Contents (Elt F) arg6.view.ty) (X_arg7 : BufTy.Contents (Elt F) arg7.view.ty) (k : Fin k0_t1_loop.trips)
  (f10 : BufTy.Contents (Elt F) arg10.view.ty) (f11 : BufTy.Contents (Elt F) arg11.view.ty)
  (f12 : BufTy.Contents (Elt F) arg12.view.ty) (f13 : BufTy.Contents (Elt F) arg13.view.ty)

/-- Chunk `2 k + r` of the eight, for a trip `k` of the three and `r < 2`, or the one after. -/
abbrev chunk (k : Fin k0_t1_loop.trips) (r : Fin 3) : Fin 8 :=
  ⟨2 * k.val + r.val, by have := Nat.lt_of_lt_of_le k.isLt k0_t1_abs.2.1; omega⟩

theorem off1_1 : ∀ k : Fin k0_t1_loop.trips, (![0, 512 * (chunk k 1).val, 0] : Fin 3 → ℕ) = k0_off1 k 1#32 := by decide +kernel
theorem off1_2 : ∀ k : Fin k0_t1_loop.trips, (![0, 512 * (chunk k 2).val, 0] : Fin 3 → ℕ) = k0_off1 k 2#32 := by decide +kernel
theorem off2 : ∀ k : Fin k0_t1_loop.trips, (![0, 0, 512 * (chunk k 0).val] : Fin 3 → ℕ) = k0_off2 k := by decide +kernel
theorem off3 : ∀ k : Fin k0_t1_loop.trips, (![0, 64, 512 * (chunk k 0).val] : Fin 3 → ℕ) = k0_off3 k := by decide +kernel
theorem off4 : ∀ k : Fin k0_t1_loop.trips, (![0, 0, 512 * (chunk k 1).val] : Fin 3 → ℕ) = k0_off4 k := by decide +kernel
theorem off5 : ∀ k : Fin k0_t1_loop.trips, (![0, 64, 512 * (chunk k 1).val] : Fin 3 → ℕ) = k0_off5 k := by decide +kernel

/-- The queries of stream `j`. -/
abbrev qs (v8 v11 v14 v17 : FVec F S128x512 .bf16) : Fin 4 → FVec F S128x512 .bf16 := ![v8, v11, v14, v17]

/-- What a trip leaves, of what it finds: each stream takes up the chunks `2 k` (whose scores it finds) and `2 k + 1`,
    and the scores of chunk `2 k + 2` are ready. -/
theorem trip_holds (x : Fin 4 → State F) (s : Fin 4 → Vec F S1x512x512 .f32)
    (H : Holds arg10 arg11 arg13 f10 f11 f13 x s) :
    Holds arg10 arg11 arg13
      (arg10.view.writes (Elt F) f10 (tripL_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 k f10 f11 f12 f13).1)
      (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 k f10 f11 f12 f13).2.1)
      (arg13.view.writes (Elt F) f13 (tripL_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 k f10 f11 f12 f13).2.2.2)
      (fun j => step v31 (score (qs v8 v11 v14 v17 j) (keys arg6 X_arg6 (chunk k 1))) (vals arg7 X_arg7 j (chunk k 1))
        (step v31 (s j) (vals arg7 X_arg7 j (chunk k 0)) (x j)))
      (fun j => score (qs v8 v11 v14 v17 j) (keys arg6 X_arg6 (chunk k 2))) := by
  have hx : x = fun j => (planeM arg10 j f10, planeA arg11 j f11) := funext fun j => Prod.ext (H j).1.symm (H j).2.1.symm
  have hs : s = fun j => planeS arg13 j f13 := funext fun j => (H j).2.2.symm
  subst hx hs
  have e1 : keys arg6 X_arg6 (chunk k 1) = _ := View.readAt_unit_eq_of_eq arg6.view (inbK (chunk k 1)) (off1_1 k) X_arg6
  have e2 : keys arg6 X_arg6 (chunk k 2) = _ := View.readAt_unit_eq_of_eq arg6.view (inbK (chunk k 2)) (off1_2 k) X_arg6
  have e3 : vals arg7 X_arg7 0 (chunk k 0) = _ := View.readAt_unit_eq_of_eq arg7.view (inbV 0 (chunk k 0)) (off2 k) X_arg7
  have e4 : vals arg7 X_arg7 2 (chunk k 0) = _ := View.readAt_unit_eq_of_eq arg7.view (inbV 2 (chunk k 0)) (off3 k) X_arg7
  have e5 : vals arg7 X_arg7 0 (chunk k 1) = _ := View.readAt_unit_eq_of_eq arg7.view (inbV 0 (chunk k 1)) (off4 k) X_arg7
  have e6 : vals arg7 X_arg7 2 (chunk k 1) = _ := View.readAt_unit_eq_of_eq arg7.view (inbV 2 (chunk k 1)) (off5 k) X_arg7
  have e3' : vals arg7 X_arg7 1 (chunk k 0) = _ := e3
  have e4' : vals arg7 X_arg7 3 (chunk k 0) = _ := e4
  have e5' : vals arg7 X_arg7 1 (chunk k 1) = _ := e5
  have e6' : vals arg7 X_arg7 3 (chunk k 1) = _ := e6
  unfold Holds tripL_k0_t1 trip_k0_t1
  dsimp only
  simp only [step, e1, e2]
  refine forall4 ?_ ?_ ?_ ?_ <;> simp only [e3, e4, e5, e6, e3', e4', e5', e6'] <;> refine ⟨?_, ?_, ?_⟩
  all_goals
    sl_unfold_words
    simp (discharger := first | rfl | decide) only [planeM, planeA, planeS, Fin.isValue, val0, val1, val2, val3,
      View.readCov, Rows.readAt_same, Rows.readAt_other]
    rfl

end Cert.Trip

end
-- ==== Proof.Loop.lean ====
/- The kernel's loop: after `n` trips each stream has taken up `1 + 2 n` chunks, and the scores of the next are ready. -/
module

public import proofs.«01_k».proof.Proof.Trip

@[expose] public section

set_option maxRecDepth 16384

noncomputable section

namespace Cert.Loop

open Cert.KernelIdeal Cert.KernelIdeal.Gen Cert.Stage Cert.Trip
open Idealize.ShloMosaic Idealize.ShloMosaic.TcCoe Idealize.ShloMosaic.Tactic

variable {F : FTy → Type} [FloatOps F] [Named F]

/-- A context's chunk first, then the eight chunks of the latents. -/
def cons {α : Type} (c : α) (l : Fin 8 → α) : ℕ → α
  | 0 => c
  | n + 1 => l (Fin.ofNat 8 n)

theorem cons_chunk {α : Type} (c : α) (l : Fin 8 → α) (k : Fin k0_t1_loop.trips) (r : Fin 3) {n : ℕ} (hn : n = 2 * k.val + r.val + 1) :
    cons c l n = l (chunk k r) := by
  subst hn
  have hk := Nat.lt_of_lt_of_le k.isLt k0_t1_abs.2.1
  show l _ = l _
  congr 1
  apply Fin.ext
  show (2 * k.val + r.val) % 8 = 2 * k.val + r.val
  omega

variable (𝒱 : Variants) (c : Dev nD) (bd : Option 𝒱.V) (i : grid0.Coords)
  (arg2 : Memref sig .tc .smem S2 .f32) (harg2 : arg2.IsWhole) (arg3 : Memref sig .tc .vmem S1x512x256 .f32) (harg3 : arg3.IsWhole)
  (arg4 : Memref sig .tc .vmem S1x512x128 .bf16) (harg4 : arg4.IsWhole) (arg5 : Memref sig .tc .vmem S1x128x512 .bf16) (harg5 : arg5.IsWhole)
  (arg6 : Memref sig .tc .vmem S1x4096x128 .bf16) (harg6 : arg6.IsWhole) (arg7 : Memref sig .tc .vmem S1x128x4096 .bf16) (harg7 : arg7.IsWhole)
  (arg8 : Memref sig .tc .vmem S64x1 .f32) (harg8 : arg8.IsWhole) (arg9 : Memref sig .tc .vmem S1x512x256 .f32) (harg9 : arg9.IsWhole)
  (arg10 : Memref sig .tc .vmem S4x1x512 .f32) (harg10 : arg10.IsWhole) (arg11 : Memref sig .tc .vmem S4x80x512 .f32) (harg11 : arg11.IsWhole)
  (arg12 : Memref sig .tc .vmem S4x512x512 .f32) (harg12 : arg12.IsWhole) (arg13 : Memref sig .tc .vmem S4x512x512 .f32) (harg13 : arg13.IsWhole)
  (v8 : FVec F S128x512 .bf16) (v11 : FVec F S128x512 .bf16) (v14 : FVec F S128x512 .bf16) (v17 : FVec F S128x512 .bf16)
  (v31 : FVec F S16x512 .bf16) (v182 : FVec F S512x512 .bf16) (v184 : FVec F S1x512 .f32) (v190 : FVec F S80x512 .bf16)
  (v191 : Vec F S1x80x512 .f32) (X_arg6 : BufTy.Contents (Elt F) arg6.view.ty) (X_arg7 : BufTy.Contents (Elt F) arg7.view.ty)
  (G10 : BufTy.Contents (Elt F) arg10.view.ty)
  (G11 : BufTy.Contents (Elt F) arg11.view.ty)
  (G12 : BufTy.Contents (Elt F) arg12.view.ty)
  (G13 : BufTy.Contents (Elt F) arg13.view.ty)

theorem holds_congr {r10 : Memref sig .tc .vmem S4x1x512 .f32} {r11 : Memref sig .tc .vmem S4x80x512 .f32} {r13 : Memref sig .tc .vmem S4x512x512 .f32}
    {f10 : BufTy.Contents (Elt F) r10.view.ty} {f11 : BufTy.Contents (Elt F) r11.view.ty} {f13 : BufTy.Contents (Elt F) r13.view.ty}
    {x x' : Fin 4 → State F} {s s' : Fin 4 → Vec F S1x512x512 .f32} (hx : x = x') (hs : s = s')
    (H : Holds r10 r11 r13 f10 f11 f13 x s) : Holds r10 r11 r13 f10 f11 f13 x' s' := hx ▸ hs ▸ H

/-- What the loop's trips leave, of what the loop finds. -/
theorem loop_holds (sc : Fin 4 → Vec F S1x512x512 .f32) (vc : Fin 4 → Vec F S1x64x512 .bf16) (x : Fin 4 → State F)
    (H : Holds arg10 arg11 arg13 G10 G11 G13
      (fun j => fold v31 (cons (sc j) fun c => score (qs v8 v11 v14 v17 j) (keys arg6 X_arg6 c)) (cons (vc j) fun c => vals arg7 X_arg7 j c) (x j) 1)
      (fun j => cons (sc j) (fun c => score (qs v8 v11 v14 v17 j) (keys arg6 X_arg6 c)) 1)) :
    ∀ n, n ≤ 3 → Holds arg10 arg11 arg13
      (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 G10 G11 G12 G13 n).1)
      (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 G10 G11 G12 G13 n).2.1)
      (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 G10 G11 G12 G13 n).2.2.2)
      (fun j => fold v31 (cons (sc j) fun c => score (qs v8 v11 v14 v17 j) (keys arg6 X_arg6 c)) (cons (vc j) fun c => vals arg7 X_arg7 j c) (x j) (2 * n + 1))
      (fun j => cons (sc j) (fun c => score (qs v8 v11 v14 v17 j) (keys arg6 X_arg6 c)) (2 * n + 1))
  | 0, _ => H
  | n + 1, hn => by
    have ih := loop_holds sc vc x H n (by omega)
    have ht : k0_t1_loop.trips = 3 := by decide +kernel
    have hk : n < k0_t1_loop.trips := by omega
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 G10 G11 G12 G13 ⟨n, hk⟩
    rw [show n + 1 = (⟨n, hk⟩ : Fin k0_t1_loop.trips).val + 1 from rfl, e]
    simp only [View.writes_append]
    have T := trip_holds (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 ⟨n, hk⟩ _ _ (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 v8 v11 v14 v17 v31 v182 v184 v190 v191 X_arg6 X_arg7 G10 G11 G12 G13 n).2.2.1) _ _ _ ih
    refine holds_congr (funext fun j => ?_) (funext fun j => ?_) T
    · show _ = step v31 (cons _ _ (2 * n + 2)) (cons _ _ (2 * n + 2)) (step v31 (cons _ _ (2 * n + 1)) (cons _ _ (2 * n + 1)) _)
      rw [cons_chunk (n := 2 * n + 2) (sc j) _ ⟨n, hk⟩ 1 rfl, cons_chunk (n := 2 * n + 2) (vc j) _ ⟨n, hk⟩ 1 rfl,
        cons_chunk (n := 2 * n + 1) (vc j) _ ⟨n, hk⟩ 0 rfl]
      rfl
    · exact (cons_chunk (n := 2 * (n + 1) + 1) (sc j) (fun c => score (qs v8 v11 v14 v17 j) (keys arg6 X_arg6 c)) ⟨n, hk⟩ 2 rfl).symm

end Cert.Loop

end
-- ==== Proof.Point.lean ====
/- One point of the kernel's grid, from its input blocks to what it stores.

   The point takes up the context's chunk, then three trips of the loop take up the latents' chunks 0 to 5, and the
   last two are taken up after the loop: each stream ends in the state after nine chunks. -/
module

public import proofs.«01_k».proof.Proof.Loop

@[expose] public section

set_option maxRecDepth 16384
set_option maxHeartbeats 4000000

noncomputable section

namespace Cert.Point

open Cert.KernelIdeal Cert.KernelIdeal.Gen Cert.Stage Cert.Trip Cert.Loop
open Idealize.ShloMosaic Idealize.ShloMosaic.TcCoe Idealize.ShloMosaic.Tactic

variable {F : FTy → Type} [FloatOps F] [Named F]

theorem inbC : ∀ j : Fin 4, ∀ a, (![0, vrow j, 0] : Fin 3 → ℕ) a + S1x64x512.size a ≤ S1x128x512.size a := by decide

theorem z3 : (![0, 0, 0] : Fin 3 → ℕ) = fun _ => 0 := by decide

/-- The queries of each stream: 64 rows of the block's transpose, beside 64 rows of zeros. -/
abbrev queries (x1 : Vec F S1x512x256 .f32) : Fin 4 → FVec F S128x512 .bf16 :=
  qs (k0_pay63 x1) (k0_pay64 x1) (k0_pay65 x1) (k0_pay66 x1)

/-- The chunks of keys: the context's, then the latents'. -/
abbrev keySeq (x2 : Vec F S1x512x128 .bf16) (x4 : Vec F S1x4096x128 .bf16) : ℕ → Vec F S1x512x128 .bf16 :=
  cons x2 fun c => View.ld x4 (Rect.unit (s := S1x4096x128) ![0, 512 * c.val, 0] S1x512x128.size (inbK c))

/-- The chunks of values of stream `j`: the context's, then the latents'. -/
abbrev valSeq (x3 : Vec F S1x128x512 .bf16) (x5 : Vec F S1x128x4096 .bf16) (j : Fin 4) : ℕ → Vec F S1x64x512 .bf16 :=
  cons (View.ld x3 (Rect.unit (s := S1x128x512) ![0, vrow j, 0] S1x64x512.size (inbC j)))
    fun c => View.ld x5 (Rect.unit (s := S1x128x4096) ![0, vrow j, 512 * c.val] S1x64x512.size (inbV j c))

/-- The state every stream begins in. -/
abbrev init (j : Fin 4) : State F :=
  (View.ld (k0_pay67 (F := F)) (Rect.unit (s := S4x1x512) ![j.val, 0, 0] S1x1x512.size (inbM j)),
    View.ld (k0_pay68 (F := F)) (Rect.unit (s := S4x80x512) ![j.val, 0, 0] S1x80x512.size (inbA j)))

/-- The state of stream `j` after `n` chunks. -/
def state (x1 : Vec F S1x512x256 .f32) (x2 : Vec F S1x512x128 .bf16) (x3 : Vec F S1x128x512 .bf16)
    (x4 : Vec F S1x4096x128 .bf16) (x5 : Vec F S1x128x4096 .bf16) (j : Fin 4) (n : ℕ) : State F :=
  fold k0_pay69 (fun n => score (queries x1 j) (keySeq x2 x4 n)) (valSeq x3 x5 j) (init j) n

theorem inbQ : ∀ a, (![0, 0, 0] : Fin 3 → ℕ) a + S1x512x256.size a ≤ S1x512x256.size a := by decide
theorem inbX : ∀ a, (![0, 0, 0] : Fin 3 → ℕ) a + S1x512x128.size a ≤ S1x512x128.size a := by decide

variable (c : Dev nD)
  (i : grid0.Coords)
  (arg2 : Memref sig .tc .smem S2 .f32)
  (harg2 : arg2.IsWhole)
  (arg3 : Memref sig .tc .vmem S1x512x256 .f32)
  (harg3 : arg3.IsWhole)
  (arg4 : Memref sig .tc .vmem S1x512x128 .bf16)
  (harg4 : arg4.IsWhole)
  (arg5 : Memref sig .tc .vmem S1x128x512 .bf16)
  (harg5 : arg5.IsWhole)
  (arg6 : Memref sig .tc .vmem S1x4096x128 .bf16)
  (harg6 : arg6.IsWhole)
  (arg7 : Memref sig .tc .vmem S1x128x4096 .bf16)
  (harg7 : arg7.IsWhole)
  (arg8 : Memref sig .tc .vmem S64x1 .f32)
  (harg8 : arg8.IsWhole)
  (arg9 : Memref sig .tc .vmem S1x512x256 .f32)
  (harg9 : arg9.IsWhole)
  (arg10 : Memref sig .tc .vmem S4x1x512 .f32)
  (harg10 : arg10.IsWhole)
  (arg11 : Memref sig .tc .vmem S4x80x512 .f32)
  (harg11 : arg11.IsWhole)
  (arg12 : Memref sig .tc .vmem S4x512x512 .f32)
  (harg12 : arg12.IsWhole)
  (arg13 : Memref sig .tc .vmem S4x512x512 .f32)
  (harg13 : arg13.IsWhole)
  (x0 : Vec F S2 .f32)
  (x1 : Vec F S1x512x256 .f32)
  (x2 : Vec F S1x512x128 .bf16)
  (x3 : Vec F S1x128x512 .bf16)
  (x4 : Vec F S1x4096x128 .bf16)
  (x5 : Vec F S1x128x4096 .bf16)
  (x6 : Vec F S64x1 .f32)

/-- The words the loop takes for the streams' queries. -/
theorem queries_eq : qs (kernelRun0_A.sl.r c arg3 harg3 x1) (kernelRun0_A.sl.r_1 c arg3 harg3 x1) (kernelRun0_A.sl.r_2 c arg3 harg3 x1) (kernelRun0_A.sl.r_3 c arg3 harg3 x1) = queries x1 := by
  have hq : View.readAt (Elt F) arg3.view (Rect.unit (s := S1x512x256) ![0, 0, 0] S1x512x256.size inbQ).toLoadRect (harg3.unread x1) = x1 := by
    rw [View.readAt_eq_ld, harg3.read_unread]; exact View.ld_unit_zero (by decide) _ _
  sl_unfold_words; rw [hq]

/-- The last two chunks. -/
theorem state_nine (j : Fin 4) : state x1 x2 x3 x4 x5 j 9
    = step k0_pay69 (score (queries x1 j) (keySeq x2 x4 8)) (valSeq x3 x5 j 8)
        (step k0_pay69 (score (queries x1 j) (keySeq x2 x4 7)) (valSeq x3 x5 j 7) (state x1 x2 x3 x4 x5 j 7)) := rfl

/-- What the loop finds: the context's chunk is taken up, and the scores of the latents' first chunk are ready. -/
theorem entry_holds : Holds arg10 arg11 arg13
      (arg10.view.writes (Elt F) arg10.view.junk (kernelRun0_A.sl.HS0_5 c arg3 harg3 arg4 harg4 arg10 arg12 x1 x2))
      (arg11.view.writes (Elt F) arg11.view.junk (kernelRun0_A.sl.HS1_5 c arg3 harg3 arg4 harg4 arg5 harg5 arg10 arg11 arg12 x1 x2 x3))
      (arg13.view.writes (Elt F) arg13.view.junk (kernelRun0_A.sl.HS3_4 c arg3 harg3 arg6 harg6 x1 x4))
      (fun j => state x1 x2 x3 x4 x5 j 1) (fun j => score (queries x1 j) (keySeq x2 x4 1)) := by
  have hq : View.readAt (Elt F) arg3.view (Rect.unit (s := S1x512x256) ![0, 0, 0] S1x512x256.size inbQ).toLoadRect (harg3.unread x1) = x1 := by
    rw [View.readAt_eq_ld, harg3.read_unread]; exact View.ld_unit_zero (by decide) _ _
  have hk : View.readAt (Elt F) arg4.view (Rect.unit (s := S1x512x128) ![0, 0, 0] S1x512x128.size inbX).toLoadRect (harg4.unread x2) = x2 := by
    rw [View.readAt_eq_ld, harg4.read_unread]; exact View.ld_unit_zero (by decide) _ _
  have hv : ∀ r, View.readAt (Elt F) arg5.view r.toLoadRect (harg5.unread x3) = View.ld x3 r := fun r => by
    rw [View.readAt_eq_ld, harg5.read_unread]
  have hl : ∀ r, View.readAt (Elt F) arg6.view r.toLoadRect (harg6.unread x4) = View.ld x4 r := fun r => by
    rw [View.readAt_eq_ld, harg6.read_unread]
  have hm : ∀ r : Rect S4x1x512, View.readAt (Elt F) arg10.view r.toLoadRect (arg10.view.writes (Elt F) arg10.view.junk
      [⟨Rect.unit (s := S4x1x512) ![0, 0, 0] ![4, 1, 512] inb_S4x1x512_S4x1x512_0_0_0, k0_pay67⟩]) = View.ld k0_pay67 r :=
    fun r => Rows.readAt_whole (Val := Elt F) (s := S4x1x512) (off := ![0, 0, 0]) arg10.view arg10.view.junk z3 inb_S4x1x512_S4x1x512_0_0_0 r (k0_pay67 (F := F)) []
  have ha : ∀ r : Rect S4x80x512, View.readAt (Elt F) arg11.view r.toLoadRect (arg11.view.writes (Elt F) arg11.view.junk
      [⟨Rect.unit (s := S4x80x512) ![0, 0, 0] ![4, 80, 512] inb_S4x80x512_S4x80x512_0_0_0, k0_pay68⟩]) = View.ld k0_pay68 r :=
    fun r => Rows.readAt_whole (Val := Elt F) (s := S4x80x512) (off := ![0, 0, 0]) arg11.view arg11.view.junk z3 inb_S4x80x512_S4x80x512_0_0_0 r (k0_pay68 (F := F)) []
  have q0 : queries x1 0 = k0_pay63 x1 := rfl
  have q1 : queries x1 1 = k0_pay64 x1 := rfl
  have q2 : queries x1 2 = k0_pay65 x1 := rfl
  have q3 : queries x1 3 = k0_pay66 x1 := rfl
  have k0 : keySeq x2 x4 0 = x2 := rfl
  have k1 : keySeq x2 x4 1 = View.ld x4 (Rect.unit (s := S1x4096x128) ![0, 0, 0] S1x512x128.size (inbK 0)) := rfl
  have v0 : ∀ j, valSeq x3 x5 j 0 = View.ld x3 (Rect.unit (s := S1x128x512) ![0, vrow j, 0] S1x64x512.size (inbC j)) := fun _ => rfl
  refine forall4 ?_ ?_ ?_ ?_ <;> refine ⟨?_, ?_, ?_⟩
  all_goals
    simp only [state, fold, step, q0, q1, q2, q3, k0, k1, v0]
    sl_unfold_words
    simp (discharger := first | rfl | decide) only [planeM, planeA, planeS, Fin.isValue, val0, val1, val2, val3,
      View.readCov, Rows.readAt_same, Rows.readAt_other, hm, ha, hq, hk, hv, hl]
    rfl

/-- What the loop leaves: seven chunks are taken up, and the scores of the next are ready. -/
theorem exit_holds : Holds arg10 arg11 arg13
      (arg10.view.writes (Elt F) arg10.view.junk ((pb_k0_t1 Variants.none c none i arg2 harg2 arg3 harg3 arg4 harg4 arg5 harg5 arg6 harg6 arg7 harg7 arg8 harg8 arg9 harg9 arg10 harg10 arg11 harg11 arg12 harg12 arg13 harg13 (kernelRun0_A.sl.r c arg3 harg3 x1) (kernelRun0_A.sl.r_1 c arg3 harg3 x1) (kernelRun0_A.sl.r_2 c arg3 harg3 x1) (kernelRun0_A.sl.r_3 c arg3 harg3 x1) k0_pay69 (kernelRun0_A.sl.r_8 c arg3 harg3 arg4 harg4 arg10 arg12 x1 x2) (kernelRun0_A.sl.r_9 c arg3 harg3 arg4 harg4 arg10 arg12 x1 x2) (kernelRun0_A.sl.r_10 c arg5 harg5 x3) (kernelRun0_A.sl.v191 c arg3 harg3 arg4 harg4 arg5 harg5 arg10 arg11 arg12 x1 x2 x3) (harg6.unread x4) (harg7.unread x5) (arg10.view.writes (Elt F) arg10.view.junk (kernelRun0_A.sl.HS0_5 c arg3 harg3 arg4 harg4 arg10 arg12 x1 x2)) (arg11.view.writes (Elt F) arg11.view.junk (kernelRun0_A.sl.HS1_5 c arg3 harg3 arg4 harg4 arg5 harg5 arg10 arg11 arg12 x1 x2 x3)) (arg12.view.writes (Elt F) arg12.view.junk (kernelRun0_A.sl.HS2_4 c arg3 harg3 arg4 harg4 x1 x2)) (arg13.view.writes (Elt F) arg13.view.junk (kernelRun0_A.sl.HS3_4 c arg3 harg3 arg6 harg6 x1 x4)) (Scf.trips k0_t1_loop.lb k0_t1_loop.ub k0_t1_loop.st)).1 ++ (kernelRun0_A.sl.HS0_5 c arg3 harg3 arg4 harg4 arg10 arg12 x1 x2)))
      (arg11.view.writes (Elt F) arg11.view.junk ((pb_k0_t1 Variants.none c none i arg2 harg2 arg3 harg3 arg4 harg4 arg5 harg5 arg6 harg6 arg7 harg7 arg8 harg8 arg9 harg9 arg10 harg10 arg11 harg11 arg12 harg12 arg13 harg13 (kernelRun0_A.sl.r c arg3 harg3 x1) (kernelRun0_A.sl.r_1 c arg3 harg3 x1) (kernelRun0_A.sl.r_2 c arg3 harg3 x1) (kernelRun0_A.sl.r_3 c arg3 harg3 x1) k0_pay69 (kernelRun0_A.sl.r_8 c arg3 harg3 arg4 harg4 arg10 arg12 x1 x2) (kernelRun0_A.sl.r_9 c arg3 harg3 arg4 harg4 arg10 arg12 x1 x2) (kernelRun0_A.sl.r_10 c arg5 harg5 x3) (kernelRun0_A.sl.v191 c arg3 harg3 arg4 harg4 arg5 harg5 arg10 arg11 arg12 x1 x2 x3) (harg6.unread x4) (harg7.unread x5) (arg10.view.writes (Elt F) arg10.view.junk (kernelRun0_A.sl.HS0_5 c arg3 harg3 arg4 harg4 arg10 arg12 x1 x2)) (arg11.view.writes (Elt F) arg11.view.junk (kernelRun0_A.sl.HS1_5 c arg3 harg3 arg4 harg4 arg5 harg5 arg10 arg11 arg12 x1 x2 x3)) (arg12.view.writes (Elt F) arg12.view.junk (kernelRun0_A.sl.HS2_4 c arg3 harg3 arg4 harg4 x1 x2)) (arg13.view.writes (Elt F) arg13.view.junk (kernelRun0_A.sl.HS3_4 c arg3 harg3 arg6 harg6 x1 x4)) (Scf.trips k0_t1_loop.lb k0_t1_loop.ub k0_t1_loop.st)).2.1 ++ (kernelRun0_A.sl.HS1_5 c arg3 harg3 arg4 harg4 arg5 harg5 arg10 arg11 arg12 x1 x2 x3)))
      (arg13.view.writes (Elt F) arg13.view.junk ((pb_k0_t1 Variants.none c none i arg2 harg2 arg3 harg3 arg4 harg4 arg5 harg5 arg6 harg6 arg7 harg7 arg8 harg8 arg9 harg9 arg10 harg10 arg11 harg11 arg12 harg12 arg13 harg13 (kernelRun0_A.sl.r c arg3 harg3 x1) (kernelRun0_A.sl.r_1 c arg3 harg3 x1) (kernelRun0_A.sl.r_2 c arg3 harg3 x1) (kernelRun0_A.sl.r_3 c arg3 harg3 x1) k0_pay69 (kernelRun0_A.sl.r_8 c arg3 harg3 arg4 harg4 arg10 arg12 x1 x2) (kernelRun0_A.sl.r_9 c arg3 harg3 arg4 harg4 arg10 arg12 x1 x2) (kernelRun0_A.sl.r_10 c arg5 harg5 x3) (kernelRun0_A.sl.v191 c arg3 harg3 arg4 harg4 arg5 harg5 arg10 arg11 arg12 x1 x2 x3) (harg6.unread x4) (harg7.unread x5) (arg10.view.writes (Elt F) arg10.view.junk (kernelRun0_A.sl.HS0_5 c arg3 harg3 arg4 harg4 arg10 arg12 x1 x2)) (arg11.view.writes (Elt F) arg11.view.junk (kernelRun0_A.sl.HS1_5 c arg3 harg3 arg4 harg4 arg5 harg5 arg10 arg11 arg12 x1 x2 x3)) (arg12.view.writes (Elt F) arg12.view.junk (kernelRun0_A.sl.HS2_4 c arg3 harg3 arg4 harg4 x1 x2)) (arg13.view.writes (Elt F) arg13.view.junk (kernelRun0_A.sl.HS3_4 c arg3 harg3 arg6 harg6 x1 x4)) (Scf.trips k0_t1_loop.lb k0_t1_loop.ub k0_t1_loop.st)).2.2.2 ++ (kernelRun0_A.sl.HS3_4 c arg3 harg3 arg6 harg6 x1 x4)))
      (fun j => state x1 x2 x3 x4 x5 j 7) (fun j => score (queries x1 j) (keySeq x2 x4 7)) := by
  have hv : ∀ r, View.readAt (Elt F) arg7.view r.toLoadRect (harg7.unread x5) = View.ld x5 r := fun r => by
    rw [View.readAt_eq_ld, harg7.read_unread]
  have hl : ∀ r, View.readAt (Elt F) arg6.view r.toLoadRect (harg6.unread x4) = View.ld x4 r := fun r => by
    rw [View.readAt_eq_ld, harg6.read_unread]
  have hs : qs (kernelRun0_A.sl.r c arg3 harg3 x1) (kernelRun0_A.sl.r_1 c arg3 harg3 x1) (kernelRun0_A.sl.r_2 c arg3 harg3 x1) (kernelRun0_A.sl.r_3 c arg3 harg3 x1) = queries x1 := queries_eq c arg3 harg3 x1
  have ht : Scf.trips k0_t1_loop.lb k0_t1_loop.ub k0_t1_loop.st = 3 := by decide +kernel
  have L := loop_holds (F := F) Variants.none c none i arg2 harg2 arg3 harg3 arg4 harg4 arg5 harg5 arg6 harg6 arg7 harg7 arg8 harg8 arg9 harg9 arg10 harg10 arg11 harg11 arg12 harg12 arg13 harg13 (kernelRun0_A.sl.r c arg3 harg3 x1) (kernelRun0_A.sl.r_1 c arg3 harg3 x1) (kernelRun0_A.sl.r_2 c arg3 harg3 x1) (kernelRun0_A.sl.r_3 c arg3 harg3 x1) k0_pay69 (kernelRun0_A.sl.r_8 c arg3 harg3 arg4 harg4 arg10 arg12 x1 x2) (kernelRun0_A.sl.r_9 c arg3 harg3 arg4 harg4 arg10 arg12 x1 x2) (kernelRun0_A.sl.r_10 c arg5 harg5 x3) (kernelRun0_A.sl.v191 c arg3 harg3 arg4 harg4 arg5 harg5 arg10 arg11 arg12 x1 x2 x3) (harg6.unread x4) (harg7.unread x5) (arg10.view.writes (Elt F) arg10.view.junk (kernelRun0_A.sl.HS0_5 c arg3 harg3 arg4 harg4 arg10 arg12 x1 x2)) (arg11.view.writes (Elt F) arg11.view.junk (kernelRun0_A.sl.HS1_5 c arg3 harg3 arg4 harg4 arg5 harg5 arg10 arg11 arg12 x1 x2 x3)) (arg12.view.writes (Elt F) arg12.view.junk (kernelRun0_A.sl.HS2_4 c arg3 harg3 arg4 harg4 x1 x2)) (arg13.view.writes (Elt F) arg13.view.junk (kernelRun0_A.sl.HS3_4 c arg3 harg3 arg6 harg6 x1 x4))
    (fun j => score (queries x1 j) x2)
    (fun j => View.ld x3 (Rect.unit (s := S1x128x512) ![0, vrow j, 0] S1x64x512.size (inbC j)))
    init
  rw [hs] at L
  simp only [keys, vals, hl, hv] at L
  have e : ∀ j : Fin 4, (cons (score (queries x1 j) x2) fun c => score (queries x1 j)
      (View.ld x4 (Rect.unit (s := S1x4096x128) ![0, 512 * c.val, 0] S1x512x128.size (inbK c))))
      = fun n => score (queries x1 j) (keySeq x2 x4 n) := fun j => funext fun n => by cases n <;> rfl
  simp only [e] at L
  have L3 := L (entry_holds c arg3 harg3 arg4 harg4 arg5 harg5 arg6 harg6 arg10 arg11 arg12 arg13 x1 x2 x3 x4 x5) 3 le_rfl
  rw [ht]
  simp only [View.writes_append]
  exact L3

end Cert.Point

end
-- ==== Proof.Out.lean ====
/- What one point of the kernel's grid stores, as a function of its input blocks. -/
module

public import proofs.«01_k».proof.Proof.Point

@[expose] public section

set_option maxRecDepth 16384
set_option maxHeartbeats 1000000

noncomputable section

namespace Cert.Out

open Cert.KernelIdeal Cert.KernelIdeal.Gen Cert.Stage Cert.Trip Cert.Loop Cert.Point
open Idealize.ShloMosaic Idealize.ShloMosaic.TcCoe Idealize.ShloMosaic.Tactic

variable {F : FTy → Type} [FloatOps F] [Named F]

variable (c : Dev nD)
  (i : grid0.Coords)
  (arg2 : Memref sig .tc .smem S2 .f32)
  (harg2 : arg2.IsWhole)
  (arg3 : Memref sig .tc .vmem S1x512x256 .f32)
  (harg3 : arg3.IsWhole)
  (arg4 : Memref sig .tc .vmem S1x512x128 .bf16)
  (harg4 : arg4.IsWhole)
  (arg5 : Memref sig .tc .vmem S1x128x512 .bf16)
  (harg5 : arg5.IsWhole)
  (arg6 : Memref sig .tc .vmem S1x4096x128 .bf16)
  (harg6 : arg6.IsWhole)
  (arg7 : Memref sig .tc .vmem S1x128x4096 .bf16)
  (harg7 : arg7.IsWhole)
  (arg8 : Memref sig .tc .vmem S64x1 .f32)
  (harg8 : arg8.IsWhole)
  (arg9 : Memref sig .tc .vmem S1x512x256 .f32)
  (harg9 : arg9.IsWhole)
  (arg10 : Memref sig .tc .vmem S4x1x512 .f32)
  (harg10 : arg10.IsWhole)
  (arg11 : Memref sig .tc .vmem S4x80x512 .f32)
  (harg11 : arg11.IsWhole)
  (arg12 : Memref sig .tc .vmem S4x512x512 .f32)
  (harg12 : arg12.IsWhole)
  (arg13 : Memref sig .tc .vmem S4x512x512 .f32)
  (harg13 : arg13.IsWhole)
  (x0 : Vec F S2 .f32)
  (x1 : Vec F S1x512x256 .f32)
  (x2 : Vec F S1x512x128 .bf16)
  (x3 : Vec F S1x128x512 .bf16)
  (x4 : Vec F S1x4096x128 .bf16)
  (x5 : Vec F S1x128x4096 .bf16)
  (x6 : Vec F S64x1 .f32)

/-- The accumulators at the end: nine chunks are taken up. -/
theorem final_acc : ∀ j, planeA arg11 j (arg11.view.writes (Elt F) arg11.view.junk
      (kernelRun0_A.sl.HS1_8 c i arg2 harg2 arg3 harg3 arg4 harg4 arg5 harg5 arg6 harg6 arg7 harg7 arg8 harg8 arg9 harg9 arg10 harg10 arg11 harg11 arg12 harg12 arg13 harg13 x1 x2 x3 x4 x5))
      = (state x1 x2 x3 x4 x5 j 9).2 := by
  have hv : ∀ r, View.readAt (Elt F) arg7.view r.toLoadRect (harg7.unread x5) = View.ld x5 r := fun r => by
    rw [View.readAt_eq_ld, harg7.read_unread]
  have hl : ∀ r, View.readAt (Elt F) arg6.view r.toLoadRect (harg6.unread x4) = View.ld x4 r := fun r => by
    rw [View.readAt_eq_ld, harg6.read_unread]
  have hs : qs (kernelRun0_A.sl.r c arg3 harg3 x1) (kernelRun0_A.sl.r_1 c arg3 harg3 x1) (kernelRun0_A.sl.r_2 c arg3 harg3 x1) (kernelRun0_A.sl.r_3 c arg3 harg3 x1) = queries x1 := queries_eq c arg3 harg3 x1
  have q0 : (kernelRun0_A.sl.r c arg3 harg3 x1) = queries x1 0 := congrFun hs 0
  have q1 : (kernelRun0_A.sl.r_1 c arg3 harg3 x1) = queries x1 1 := congrFun hs 1
  have q2 : (kernelRun0_A.sl.r_2 c arg3 harg3 x1) = queries x1 2 := congrFun hs 2
  have q3 : (kernelRun0_A.sl.r_3 c arg3 harg3 x1) = queries x1 3 := congrFun hs 3
  have H := exit_holds (F := F) c i arg2 harg2 arg3 harg3 arg4 harg4 arg5 harg5 arg6 harg6 arg7 harg7 arg8 harg8 arg9 harg9 arg10 harg10 arg11 harg11 arg12 harg12 arg13 harg13 x1 x2 x3 x4 x5
  have H0 := H 0
  have H1 := H 1
  have H2 := H 2
  have H3 := H 3
  clear H
  simp only [planeM, planeA, planeS, Fin.isValue, val0, val1, val2, val3, View.writes_append, q0, q1, q2, q3] at H0 H1 H2 H3
  obtain ⟨m0, a0, s0⟩ := H0
  obtain ⟨m1, a1, s1⟩ := H1
  obtain ⟨m2, a2, s2⟩ := H2
  obtain ⟨m3, a3, s3⟩ := H3
  have k8 : keySeq x2 x4 8 = View.ld x4 (Rect.unit (s := S1x4096x128) ![0, 3584, 0] S1x512x128.size (inbK 7)) := rfl
  refine forall4 ?_ ?_ ?_ ?_
  all_goals
    refine Eq.trans ?_ (congrArg Prod.snd (state_nine x1 x2 x3 x4 x5 _)).symm
    simp only [step]
    simp (discharger := first | rfl | decide) only [planeA, Fin.isValue, val0, val1, val2, val3,
    kernelRun0_A.sl.HS0_1_1, kernelRun0_A.sl.HS0_2_1, kernelRun0_A.sl.HS0_3_1, kernelRun0_A.sl.HS0_4_1,
    kernelRun0_A.sl.HS0_5_1, kernelRun0_A.sl.HS0_6, kernelRun0_A.sl.HS0_7, kernelRun0_A.sl.HS1_1_1,
    kernelRun0_A.sl.HS1_2_1, kernelRun0_A.sl.HS1_3_1, kernelRun0_A.sl.HS1_4_1, kernelRun0_A.sl.HS1_5_1,
    kernelRun0_A.sl.HS1_6, kernelRun0_A.sl.HS1_7, kernelRun0_A.sl.HS1_8, kernelRun0_A.sl.HS2_4_1,
    kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22,
    kernelRun0_A.sl.r_23, kernelRun0_A.sl.r_24, kernelRun0_A.sl.r_25, kernelRun0_A.sl.r_26,
    kernelRun0_A.sl.r_27, kernelRun0_A.sl.r_28, kernelRun0_A.sl.v209, kernelRun0_A.sl.v211,
    kernelRun0_A.sl.v230, kernelRun0_A.sl.v247, kernelRun0_A.sl.v249, kernelRun0_A.sl.v268,
    kernelRun0_A.sl.v285, kernelRun0_A.sl.v287, kernelRun0_A.sl.v306, kernelRun0_A.sl.v323,
    kernelRun0_A.sl.v325, kernelRun0_A.sl.v344, kernelRun0_A.sl.v353, kernelRun0_A.sl.v355,
    kernelRun0_A.sl.v374, kernelRun0_A.sl.v383, kernelRun0_A.sl.v385, kernelRun0_A.sl.v404,
    kernelRun0_A.sl.v413, kernelRun0_A.sl.v415, kernelRun0_A.sl.v434, kernelRun0_A.sl.v443,
    kernelRun0_A.sl.v445, kernelRun0_A.sl.v464, kernelRun0_A.sl.v473, kernelRun0_A.sl.v479,
    kernelRun0_A.sl.v485, kernelRun0_A.sl.v491,
      View.readCov, Rows.readAt_same, Rows.readAt_other, View.writes_append, hv, hl, q0, q1, q2, q3,
      m0, a0, s0, m1, a1, s1, m2, a2, s2, m3, a3, s3]
    rfl

/-- What the point stores: each stream's accumulator, its value rows over its row of sums, side by side. -/
theorem out_eq : out0_A_7 (F := F) c i arg2 harg2 arg3 harg3 arg4 harg4 arg5 harg5 arg6 harg6 arg7 harg7 arg8 harg8 arg9 harg9 arg10 harg10 arg11 harg11 arg12 harg12 arg13 harg13 x0 x1 x2 x3 x4 x5 x6 = k0_pay1 (k0_pay158 (state x1 x2 x3 x4 x5 0 9).2
    (state x1 x2 x3 x4 x5 1 9).2 (state x1 x2 x3 x4 x5 2 9).2 (state x1 x2 x3 x4 x5 3 9).2) := by
  have A := final_acc (F := F) c i arg2 harg2 arg3 harg3 arg4 harg4 arg5 harg5 arg6 harg6 arg7 harg7 arg8 harg8 arg9 harg9 arg10 harg10 arg11 harg11 arg12 harg12 arg13 harg13 x1 x2 x3 x4 x5
  have A0 := A 0
  have A1 := A 1
  have A2 := A 2
  have A3 := A 3
  simp only [planeA, Fin.isValue, val0, val1, val2, val3] at A0 A1 A2 A3
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  rw [View.canon_unit_zero z3]
  simp only [kernelRun0_A.sl.r_28, kernelRun0_A.sl.v473, kernelRun0_A.sl.v479, kernelRun0_A.sl.v485, kernelRun0_A.sl.v491,
    View.readCov, A0, A1, A2, A3]

end Cert.Out

end
-- ==== Proof.Ops.lean ====
/- The kernel's values at an index, over the extended reals: the queries, a score, a running maximum, an accumulator
   and what is stored. -/
module

public import proofs.«01_k».proof.Proof.Out
public import Idealize.ShloMosaic.Lib.ValueLayout
public import Idealize.ShloMosaic.Lib.MatmulPlain
public import Idealize.ShloMosaic.PureOps.Ideal.Laws
public import Idealize.ShloMosaic.Lib.Pipeline.Value

@[expose] public section

set_option maxRecDepth 16384

noncomputable section

namespace Cert.Ops

open Cert.KernelIdeal Cert.KernelIdeal.Gen Cert.Stage Cert.Trip Cert.Loop Cert.Point
open Idealize.ShloMosaic Idealize.ShloMosaic.TcCoe Idealize.ShloMosaic.Tactic Idealize.ShloMosaic.ValueIdx
open scoped BigOperators

/-- A score: 128 products of a key's row and a query's column. -/
theorem score_apply (q : FVec Ideal S128x512 .bf16) (k : Vec Ideal S1x512x128 .bf16) (l n : Fin 512) :
    score q k (ix3 (0 : Fin 1) l n) = ∑ d : Fin 128, k (ix3 (0 : Fin 1) l d) * q (ix2 d n) := by
  unfold score k0_pay74
  rw [shapeCast_ab_1ab_apply]
  show (FloatOps.matmul (DotDims.plain 512 128 512) none _ _ _) (ix2 l n) = _
  rw [Ideal.matmul_plain_apply]
  show Ideal.ofBits .f32 0x00000000#32 + _ = _
  rw [Ideal.ofBits_zero_f32, zero_add]
  refine Finset.sum_congr rfl fun d _ => ?_
  rw [shapeCast_1ab_ab_apply]

/-- The running maximum and the chunk's scores: the new running maximum. -/
theorem pay79_apply (s : Vec Ideal S1x512x512 .f32) (m : Vec Ideal S1x1x512 .f32) (n : Fin 512) :
    k0_pay79 s m (ix2 (0 : Fin 1) n)
      = max (m (ix3 (0 : Fin 1) (0 : Fin 1) n)) (Finset.univ.fold max ⊥ fun l : Fin 512 => s (ix3 (0 : Fin 1) l n)) := by
  unfold k0_pay79 k0_pay78 k0_pay77
  dsimp only
  show max (shapeCast S1x512 m _ (ix2 (0 : Fin 1) n)) (shapeCast S1x512 _ _ (ix2 (0 : Fin 1) n)) = _
  rw [shapeCast_1ab_ab_apply, shapeCast_a_1a_apply]
  refine congrArg (max _) ((Ideal.multiReduction_maximumf_single _ _ _ _ _ _).trans ?_)
  have hb : (FloatOps.ofBits .f32 0xFF800000#32 : Ideal .f32) = ⊥ := by
    show Ideal.ofBits .f32 0xFF800000#32 = ⊥
    simp [Ideal.ofBits, Ideal.ieee]
  rw [hb]
  refine congrArg (fun f => Finset.univ.fold max ⊥ f) (funext fun l => ?_)
  show shapeCast S512x512 s _ _ = _
  exact (congrArg (shapeCast S512x512 s _) (eq_ix2 _)).trans (shapeCast_1ab_ab_apply s _ _ _)

theorem stepM_apply (s : Vec Ideal S1x512x512 .f32) (m : Vec Ideal S1x1x512 .f32) (n : Fin 512) :
    stepM s m (ix3 (0 : Fin 1) (0 : Fin 1) n)
      = max (m (ix3 (0 : Fin 1) (0 : Fin 1) n)) (Finset.univ.fold max ⊥ fun l : Fin 512 => s (ix3 (0 : Fin 1) l n)) := by
  unfold stepM k0_pay80
  rw [shapeCast_ab_1ab_apply, pay79_apply]

/-- The values and, below them, the rows of the weights' sum. -/
def rows (v : Vec Ideal S1x64x512 .bf16) (r : Fin 80) (l : Fin 512) : EReal :=
  if h : r.val < 64 then v (ix3 (0 : Fin 1) (⟨r.val, h⟩ : Fin 64) l) else k0_pay69 (F := Ideal) (ix2 (⟨r.val - 64, by omega⟩ : Fin 16) l)

theorem stepA_apply (s : Vec Ideal S1x512x512 .f32) (m : Vec Ideal S1x1x512 .f32)
    (v : Vec Ideal S1x64x512 .bf16) (a : Vec Ideal S1x80x512 .f32) (r : Fin 80) (n : Fin 512) :
    stepA k0_pay69 s m v a (ix3 (0 : Fin 1) r n)
      = Ideal.exp2 (m (ix3 (0 : Fin 1) (0 : Fin 1) n) - stepM s m (ix3 (0 : Fin 1) (0 : Fin 1) n)) * a (ix3 (0 : Fin 1) r n)
        + ∑ l : Fin 512, rows v r l * Ideal.exp2 (s (ix3 (0 : Fin 1) l n) - stepM s m (ix3 (0 : Fin 1) (0 : Fin 1) n)) := by
  rw [stepM_apply, ← pay79_apply]
  unfold stepA k0_pay81 k0_pay78 k0_pay77
  dsimp only
  rw [shapeCast_ab_1ab_apply]
  show broadcastTo S80x512 _ _ (ix2 r n) * shapeCast S80x512 a _ (ix2 r n) + FloatOps.matmul (F := Ideal) (DotDims.plain 80 512 512) none _ _ _ (ix2 r n) = _
  rw [broadcastTo_1b_ab_apply, shapeCast_1ab_ab_apply, Ideal.matmul_plain_apply]
  have h0 : constant (F := Ideal) S80x512 .f32 0x00000000#32 (ix2 r n) = (0 : EReal) := Ideal.ofBits_zero_f32
  rw [h0, zero_add]
  congr 1
  · show Ideal.exp2 (shapeCast S1x512 m _ (ix2 (0 : Fin 1) n) - _) * _ = _
    rw [shapeCast_1ab_ab_apply]
  · refine Finset.sum_congr rfl fun l _ => congrArg₂ (· * ·) ?_ ?_
    · unfold rows
      split
      · rename_i h
        refine (concatenate_pair_apply_left (s₁ := S64x512) (s₂ := S16x512) 0 _ _ _ (ix2 r l) rfl (ix2 (⟨r.val, h⟩ : Fin 64) l) fun b => ?_).trans (shapeCast_1ab_ab_apply v _ _ _)
        match b with
        | ⟨0, _⟩ => rfl
        | ⟨1, _⟩ => rfl
      · rename_i h
        refine concatenate_pair_apply_right (s₁ := S64x512) (s₂ := S16x512) 0 _ _ _ (ix2 r l) rfl rfl (ix2 (⟨r.val - 64, by omega⟩ : Fin 16) l) (fun b hb => ?_) ?_
        · match b with
          | ⟨0, _⟩ => exact absurd rfl hb
          | ⟨1, _⟩ => rfl
        · show r.val - 64 + 64 = r.val
          omega
    · show Ideal.exp2 (shapeCast S512x512 s _ (ix2 l n) - broadcastTo S512x512 _ _ (ix2 l n)) = _
      rw [shapeCast_1ab_ab_apply, broadcastTo_1b_ab_apply]

/-- The row of the weights' sum has ones for values. -/
theorem rows_ones (v : Vec Ideal S1x64x512 .bf16) (l : Fin 512) : rows v 64 l = 1 := by
  unfold rows
  rw [dif_neg (by decide)]
  unfold k0_pay69
  dsimp only
  have e : extui 32 (cmpi .eq (iota .tc S16x512 32 [0] iota_S16x512_d0_w32) (broadcast S16x512 0#32)) natLt_1_32
      (ix2 (⟨0, by decide⟩ : Fin 16) l) = 1#32 := by
    have i0 : iota .tc S16x512 32 [0] iota_S16x512_d0_w32 (ix2 (⟨0, by decide⟩ : Fin 16) l) = 0#32 := rfl
    show (Scalar.cmpi .eq (iota .tc S16x512 32 [0] iota_S16x512_d0_w32 (ix2 (⟨0, by decide⟩ : Fin 16) l)) 0#32).setWidth 32 = 1#32
    rw [i0]; decide
  show FloatOps.sitofp (F := Ideal) .f32 (extui 32 (cmpi .eq (iota .tc S16x512 32 [0] iota_S16x512_d0_w32) (broadcast S16x512 0#32)) natLt_1_32
      (ix2 (⟨0, by decide⟩ : Fin 16) l)) = (1 : EReal)
  rw [e]
  show (((BitVec.toInt 1#32 : ℝ)) : EReal) = 1
  norm_num

/-- The scaled queries, transposed. -/
theorem pay62_apply (x1 : Vec Ideal S1x512x256 .f32) (c : Fin 256) (n : Fin 512) :
    k0_pay62 x1 (ix2 c n) = x1 (ix3 (0 : Fin 1) n c) * ((((Real.log 2) * (Real.sqrt 64))⁻¹ : ℝ) : EReal) := by
  have e : (Named.named κ "scale" 0x3E38AA3B#32 : Ideal .f32) = ((((Real.log 2) * (Real.sqrt 64))⁻¹ : ℝ) : EReal) :=
    IdealRules.named_const.ideal_named_scalar _ _ _ _ rfl
  unfold k0_pay62
  dsimp only
  rw [e]
  have h := transpose_ix2_apply (mulf (F := Ideal) (φ := .f32) (shapeCast S512x256 x1 shapeCasts_S1x512x256_S512x256)
    (broadcast S512x256 ((((Real.log 2) * (Real.sqrt 64))⁻¹ : ℝ) : EReal))) transposes_S512x256_p1_0_S256x512 c n
  refine Eq.trans h ?_
  exact congrArg (· * ((((Real.log 2) * (Real.sqrt 64))⁻¹ : ℝ) : EReal)) (shapeCast_1ab_ab_apply x1 _ _ _)

/-- The query row `d` of stream `j`: the two streams of a head read the head's own 64 rows, the other 64 are zero. -/
theorem queries_apply (x1 : Vec Ideal S1x512x256 .f32) : ∀ (j : Fin 4) (d : Fin 128) (n : Fin 512),
    queries x1 j (ix2 d n) = if d.val / 64 = j.val / 2 then
      x1 (ix3 (0 : Fin 1) n (⟨64 * j.val + d.val % 64, by omega⟩ : Fin 256)) * ((((Real.log 2) * (Real.sqrt 64))⁻¹ : ℝ) : EReal)
      else 0 := by
  have h0 : (FloatOps.ofBits .bf16 0x0000#16 : Ideal .bf16) = 0 := by
    show Ideal.ofBits .bf16 0x0000#16 = 0
    simp [Ideal.ofBits, Ideal.ieee]
  have hp : ∀ (o : ℕ) (j : ℕ) (hj : j < 4) (hs) (d : Fin 64) (n : Fin 512), o = 64 * j →
      extractStridedSlice S64x512 ![o, 0] (k0_pay62 x1) hs (ix2 d n)
        = x1 (ix3 (0 : Fin 1) n (⟨64 * j + d.val, by omega⟩ : Fin 256)) * ((((Real.log 2) * (Real.sqrt 64))⁻¹ : ℝ) : EReal) := by
    intro o j hj hs d n ho
    rw [slice2_axis0_apply o _ _ d n (⟨64 * j + d.val, by omega⟩ : Fin 256) (by rw [ho]), pay62_apply]
  have hlo : ∀ (x y : FVec Ideal S64x512 .bf16) (hc) (d : Fin 128) (n : Fin 512),
      concatenate S128x512 0 [⟨S64x512, x⟩, ⟨S64x512, y⟩] hc (ix2 d n)
        = if h : d.val / 64 = 0 then x (ix2 (⟨d.val % 64, by omega⟩ : Fin 64) n) else y (ix2 (⟨d.val % 64, by omega⟩ : Fin 64) n) := by
    intro x y hc d n
    split
    · rename_i h
      refine concatenate_pair_apply_left (s₁ := S64x512) (s₂ := S64x512) 0 _ _ _ (ix2 d n) rfl _ fun b => ?_
      match b with
      | ⟨0, _⟩ => show d.val % 64 = d.val; omega
      | ⟨1, _⟩ => rfl
    · rename_i h
      refine concatenate_pair_apply_right (s₁ := S64x512) (s₂ := S64x512) 0 _ _ _ (ix2 d n) rfl rfl _ (fun b hb => ?_) ?_
      · match b with
        | ⟨0, _⟩ => exact absurd rfl hb
        | ⟨1, _⟩ => rfl
      · show d.val % 64 + 64 = d.val
        have := d.isLt
        omega
  have hc : ∀ (d : Fin 128), d.val / 64 = 0 ∨ d.val / 64 = 1 := fun d => by have := d.isLt; omega
  refine forall4 ?_ ?_ ?_ ?_
  · intro d n
    show k0_pay63 x1 (ix2 d n) = _
    unfold k0_pay63
    rw [hlo]
    rcases hc d with e | e
    · rw [dif_pos e, hp 0 0 (by decide) _ _ n rfl]; exact (if_pos e).symm
    · rw [dif_neg (by omega), h0]; exact (if_neg (by rw [e]; decide)).symm
  · intro d n
    show k0_pay64 x1 (ix2 d n) = _
    unfold k0_pay64
    rw [hlo]
    rcases hc d with e | e
    · rw [dif_pos e, hp 64 1 (by decide) _ _ n rfl]; exact (if_pos e).symm
    · rw [dif_neg (by omega), h0]; exact (if_neg (by rw [e]; decide)).symm
  · intro d n
    show k0_pay65 x1 (ix2 d n) = _
    unfold k0_pay65
    rw [hlo]
    rcases hc d with e | e
    · rw [dif_pos e, h0]; exact (if_neg (by rw [e]; decide)).symm
    · rw [dif_neg (by omega), hp 128 2 (by decide) _ _ n rfl]; exact (if_pos e).symm
  · intro d n
    show k0_pay66 x1 (ix2 d n) = _
    unfold k0_pay66
    rw [hlo]
    rcases hc d with e | e
    · rw [dif_pos e, h0]; exact (if_neg (by rw [e]; decide)).symm
    · rw [dif_neg (by omega), hp 192 3 (by decide) _ _ n rfl]; exact (if_pos e).symm

/-- What is stored: a stream's value row over its row of sums. -/
theorem store_apply (a : Fin 4 → Vec Ideal S1x80x512 .f32) (n : Fin 512) (d : Fin 64) : ∀ j : Fin 4,
    k0_pay1 (k0_pay158 (a 0) (a 1) (a 2) (a 3)) (ix3 (0 : Fin 1) n (⟨64 * j.val + d.val, by omega⟩ : Fin 256))
      = Ideal.div (a j (ix3 (0 : Fin 1) (⟨d.val, by omega⟩ : Fin 80) n)) (a j (ix3 (0 : Fin 1) (64 : Fin 80) n)) := by
  have h : ∀ x : Vec Ideal S1x80x512 .f32,
      divf (F := Ideal) (φ := .f32) (extractStridedSlice S64x512 ![0, 0] (shapeCast S80x512 x shapeCasts_S1x80x512_S80x512) slices_S80x512_o0_0_S64x512)
        (broadcastTo S64x512 (extractStridedSlice S1x512 ![64, 0] (shapeCast S80x512 x shapeCasts_S1x80x512_S80x512) slices_S80x512_o64_0_S1x512)
          broadcasts_S1x512_S64x512) (ix2 d n)
        = Ideal.div (x (ix3 (0 : Fin 1) (⟨d.val, by omega⟩ : Fin 80) n)) (x (ix3 (0 : Fin 1) (64 : Fin 80) n)) := by
    intro x
    show Ideal.div (extractStridedSlice S64x512 ![0, 0] (shapeCast S80x512 x shapeCasts_S1x80x512_S80x512) slices_S80x512_o0_0_S64x512 (ix2 d n)) (broadcastTo S64x512 _ _ (ix2 d n)) = _
    rw [broadcastTo_1b_ab_apply, slice2_axis0_apply 0 _ _ d n (⟨d.val, by omega⟩ : Fin 80) (Nat.zero_add _).symm,
      slice2_axis0_apply 64 _ _ (0 : Fin 1) n (64 : Fin 80) rfl, shapeCast_1ab_ab_apply, shapeCast_1ab_ab_apply]
  refine forall4 ?_ ?_ ?_ ?_
  all_goals
    unfold k0_pay1 k0_pay158
    dsimp only
    rw [shapeCast_ab_1ab_apply]
    refine (transpose_ix2_apply _ _ n _).trans ?_
  · refine (concatenate_apply_piece (t := S256x512) 0 _ _ _ 0 (Nat.lt_of_lt_of_eq (by decide : 0 < 4) rfl) S64x512 _ rfl rfl 0 rfl (ix2 d n) (fun b hb => ?_) ?_).trans (h (a 0))
    · match b with
      | ⟨0, _⟩ => exact absurd rfl hb
      | ⟨1, _⟩ => rfl
    · rfl
  · refine (concatenate_apply_piece (t := S256x512) 0 _ _ _ 1 (Nat.lt_of_lt_of_eq (by decide : 1 < 4) rfl) S64x512 _ rfl rfl 64 rfl (ix2 d n) (fun b hb => ?_) ?_).trans (h (a 1))
    · match b with
      | ⟨0, _⟩ => exact absurd rfl hb
      | ⟨1, _⟩ => rfl
    · rfl
  · refine (concatenate_apply_piece (t := S256x512) 0 _ _ _ 2 (Nat.lt_of_lt_of_eq (by decide : 2 < 4) rfl) S64x512 _ rfl rfl 128 rfl (ix2 d n) (fun b hb => ?_) ?_).trans (h (a 2))
    · match b with
      | ⟨0, _⟩ => exact absurd rfl hb
      | ⟨1, _⟩ => rfl
    · rfl
  · refine (concatenate_apply_piece (t := S256x512) 0 _ _ _ 3 (Nat.lt_of_lt_of_eq (by decide : 3 < 4) rfl) S64x512 _ rfl rfl 192 rfl (ix2 d n) (fun b hb => ?_) ?_).trans (h (a 3))
    · match b with
      | ⟨0, _⟩ => exact absurd rfl hb
      | ⟨1, _⟩ => rfl
    · rfl

end Cert.Ops

end
-- ==== Proof.Attn.lean ====
/- Softmax attention over the extended reals: one query's scores `x`, real numbers, and one column `v` of the values,
   any extended reals.

   `attn` is the mathematics. `runM` and `runA` are a running maximum and a running weighted sum which take the scores
   up chunk by chunk, in powers of two: their quotient is `attn` (`run_eq`). `soft_eq` is the same of weights taken from
   the scores less any one real number. -/
module

public import Idealize.ShloMosaic.PureOps.Ideal.Laws
public import Mathlib.Data.EReal.Inv

@[expose] public section

noncomputable section

namespace Cert.Attn

open Idealize.ShloMosaic
open scoped BigOperators

/-- Softmax attention: the values `v`, weighted by the exponentials of the scores `x` over their sum. -/
def attn {ι : Type} [Fintype ι] (x : ι → ℝ) (v : ι → EReal) : EReal :=
  ∑ i, v i * ((Real.exp (x i) / ∑ k, Real.exp (x k) : ℝ) : EReal)

/-- Another name of each key leaves the attention. -/
theorem attn_equiv {ι κ : Type} [Fintype ι] [Fintype κ] (e : κ ≃ ι) (x : ι → ℝ) (v : ι → EReal) :
    attn (fun k => x (e k)) (fun k => v (e k)) = attn x v := by
  unfold attn
  rw [Equiv.sum_comp e fun i => Real.exp (x i)]
  exact Equiv.sum_comp e fun i => v i * ((Real.exp (x i) / ∑ k, Real.exp (x k) : ℝ) : EReal)

/-- A real factor that is not negative goes into a sum. -/
theorem mul_sum {ι : Type} (t : Finset ι) (f : ι → EReal) {c : ℝ} (hc : 0 ≤ c) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

theorem sum_mul {ι : Type} (t : Finset ι) (f : ι → EReal) {c : ℝ} (hc : 0 ≤ c) :
    (∑ i ∈ t, f i) * (c : EReal) = ∑ i ∈ t, f i * (c : EReal) := by
  rw [mul_comm, mul_sum t f hc]
  exact Finset.sum_congr rfl fun i _ => mul_comm _ _

/-- A sum of reals is real. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The maximum of reals, with a real, is real. -/
theorem max_real {ι : Type} (t : Finset ι) (f : ι → ℝ) (a : ℝ) :
    ∃ b : ℝ, max (a : EReal) (t.fold max ⊥ fun i => ((f i : ℝ) : EReal)) = (b : EReal) := by
  classical
  induction t using Finset.induction_on with
  | empty => exact ⟨a, by simp⟩
  | insert i t hi ih =>
    obtain ⟨b, hb⟩ := ih
    refine ⟨max (f i) b, ?_⟩
    rw [Finset.fold_insert hi, max_left_comm, hb]
    exact (EReal.coe_strictMono.monotone.map_max).symm

/-- The maximum of reals, of at least one, is real. -/
theorem fold_real {ι : Type} [Fintype ι] [Nonempty ι] (f : ι → ℝ) :
    ∃ b : ℝ, (Finset.univ.fold max ⊥ fun i => ((f i : ℝ) : EReal)) = (b : EReal) := by
  classical
  obtain ⟨i⟩ := ‹Nonempty ι›
  obtain ⟨b, hb⟩ := max_real (Finset.univ.erase i) f (f i)
  have h := Finset.fold_insert (op := max) (b := (⊥ : EReal)) (f := fun i => ((f i : ℝ) : EReal)) (Finset.notMem_erase i Finset.univ)
  rw [Finset.insert_erase (Finset.mem_univ i)] at h
  exact ⟨b, h.trans hb⟩

/-- Weights from the scores less a real number, over the weights' sum: the attention. -/
theorem soft_eq {ι : Type} [Fintype ι] [Nonempty ι] (x : ι → ℝ) (v : ι → EReal) (M : ℝ) :
    ∑ i, Ideal.div (Ideal.exp ((x i : EReal) - (M : EReal))) (∑ k, Ideal.exp ((x k : EReal) - (M : EReal))) * v i = attn x v := by
  have he : ∀ i, Ideal.exp ((x i : EReal) - (M : EReal)) = ((Real.exp (x i - M) : ℝ) : EReal) := fun i => by
    rw [← EReal.coe_sub]; rfl
  have hpos : 0 < ∑ k, Real.exp (x k - M) := Finset.sum_pos (fun k _ => Real.exp_pos _) Finset.univ_nonempty
  unfold attn
  refine Finset.sum_congr rfl fun i _ => ?_
  rw [mul_comm]
  congr 1
  simp only [he]
  rw [coe_sum, Ideal.div_coe hpos.ne', ← EReal.coe_mul]
  congr 1
  have hx : ∀ k, Real.exp (x k - M) = Real.exp (x k) * Real.exp (-M) := fun k => by rw [← Real.exp_add, sub_eq_add_neg]
  simp only [hx]
  rw [← Finset.sum_mul, mul_one_div, mul_div_mul_right _ _ (Real.exp_pos _).ne']

section Run

variable {ι : Type} [Fintype ι] [Nonempty ι]

/-- A running maximum, chunk by chunk. -/
def runM (s : ℕ → ι → EReal) (m : EReal) : ℕ → EReal
  | 0 => m
  | n + 1 => max (runM s m n) (Finset.univ.fold max ⊥ (s n))

/-- A running weighted sum, chunk by chunk, rescaled as the running maximum moves. -/
def runA (s v : ℕ → ι → EReal) (m : EReal) : ℕ → EReal
  | 0 => 0
  | n + 1 => Ideal.exp2 (runM s m n - runM s m (n + 1)) * runA s v m n
      + ∑ l, v n l * Ideal.exp2 (s n l - runM s m (n + 1))

theorem runM_congr {s s' : ℕ → ι → EReal} (m : EReal) : ∀ n, (∀ i < n, s i = s' i) → runM s m n = runM s' m n
  | 0 => fun _ => rfl
  | n + 1 => fun h => by
    rw [runM, runM, runM_congr m n fun i hi => h i (hi.trans n.lt_succ_self), h n n.lt_succ_self]

/-- The first `n` chunks are all that matter. -/
theorem runA_congr {s s' v v' : ℕ → ι → EReal} (m : EReal) : ∀ n, (∀ i < n, s i = s' i) → (∀ i < n, v i = v' i) →
    runA s v m n = runA s' v' m n
  | 0 => fun _ _ => rfl
  | n + 1 => fun h h' => by
    rw [runA, runA, runM_congr m (n + 1) h, runM_congr m n fun i hi => h i (hi.trans n.lt_succ_self),
      runA_congr m n (fun i hi => h i (hi.trans n.lt_succ_self)) (fun i hi => h' i (hi.trans n.lt_succ_self)),
      h n n.lt_succ_self, h' n n.lt_succ_self]

/-- The running maximum of real scores is real. -/
theorem runM_real (x : ℕ → ι → ℝ) (m : ℝ) : ∀ n, ∃ b : ℝ, runM (fun i l => ((x i l : ℝ) : EReal)) (m : EReal) n = (b : EReal)
  | 0 => ⟨m, rfl⟩
  | n + 1 => by
    obtain ⟨b, hb⟩ := runM_real x m n
    obtain ⟨b', hb'⟩ := max_real Finset.univ (x n) b
    exact ⟨b', by rw [← hb', ← hb]; rfl⟩

theorem exp2_sub (a b : ℝ) : Ideal.exp2 ((a : EReal) - (b : EReal)) = (((2 : ℝ) ^ (a - b) : ℝ) : EReal) := by
  rw [← EReal.coe_sub]; rfl

/-- The running sum: every chunk's values, weighted by powers of two of the scores less the running maximum. -/
theorem runA_eq (x : ℕ → ι → ℝ) (v : ℕ → ι → EReal) (m : ℝ) : ∀ n, ∀ b : ℝ,
    runM (fun i l => ((x i l : ℝ) : EReal)) (m : EReal) n = (b : EReal) →
    runA (fun i l => ((x i l : ℝ) : EReal)) v (m : EReal) n
      = ∑ i ∈ Finset.range n, ∑ l, v i l * (((2 : ℝ) ^ (x i l - b) : ℝ) : EReal)
  | 0 => fun b _ => rfl
  | n + 1 => fun b hb => by
    obtain ⟨a, ha⟩ := runM_real x m n
    have ih := runA_eq x v m n a ha
    have hp : (0 : ℝ) ≤ (2 : ℝ) ^ (a - b) := (Real.rpow_pos_of_pos (by norm_num) _).le
    rw [runA, ha, hb, ih, exp2_sub, Finset.sum_range_succ, mul_sum _ _ hp]
    congr 1
    · refine Finset.sum_congr rfl fun i _ => ?_
      rw [mul_sum _ _ hp]
      refine Finset.sum_congr rfl fun l _ => ?_
      rw [mul_left_comm, ← EReal.coe_mul, ← Real.rpow_add (by norm_num)]
      congr 3
      ring

/-- The running weighted sum over the running sum of the weights alone is the attention, of scores which are the
    powers' exponents times `log 2`. -/
theorem run_eq (N : ℕ) (x : ℕ → ι → ℝ) (v : ℕ → ι → EReal) (m : ℝ) :
    Ideal.div (runA (fun i l => ((x i l : ℝ) : EReal)) v (m : EReal) (N + 1))
        (runA (fun i l => ((x i l : ℝ) : EReal)) (fun _ _ => 1) (m : EReal) (N + 1))
      = attn (fun p : Fin (N + 1) × ι => Real.log 2 * x p.1 p.2) fun p => v p.1 p.2 := by
  obtain ⟨b, hb⟩ := runM_real x m (N + 1)
  rw [runA_eq x v m _ b hb, runA_eq x _ m _ b hb]
  simp only [one_mul, coe_sum]
  have hw : ∀ y : ℝ, (2 : ℝ) ^ (y - b) = Real.exp (Real.log 2 * y) * Real.exp (Real.log 2 * (-b)) := fun y => by
    rw [← Real.exp_add, ← mul_add, ← sub_eq_add_neg, ← Real.rpow_def_of_pos (by norm_num)]
  have hpos : 0 < ∑ i ∈ Finset.range (N + 1), ∑ l, (2 : ℝ) ^ (x i l - b) :=
    Finset.sum_pos (fun i _ => Finset.sum_pos (fun l _ => Real.rpow_pos_of_pos (by norm_num) _) Finset.univ_nonempty)
      ⟨0, by simp⟩
  rw [Ideal.div_coe hpos.ne', Finset.sum_range, Finset.sum_range, sum_mul _ _ (one_div_pos.mpr (by rw [← Finset.sum_range fun i => ∑ l, (2 : ℝ) ^ (x i l - b)]; exact hpos)).le]
  unfold attn
  rw [Fintype.sum_prod_type, Fintype.sum_prod_type]
  refine Finset.sum_congr rfl fun i _ => ?_
  rw [sum_mul _ _ (one_div_pos.mpr (by rw [← Finset.sum_range fun i => ∑ l, (2 : ℝ) ^ (x i l - b)]; exact hpos)).le]
  refine Finset.sum_congr rfl fun l _ => ?_
  rw [mul_assoc, ← EReal.coe_mul]
  congr 2
  simp only [hw]
  simp only [← Finset.sum_mul]
  rw [mul_one_div, mul_div_mul_right _ _ (Real.exp_pos _).ne']

end Run

end Cert.Attn

end
-- ==== Proof.Block.lean ====
/- What one point of the grid stores, over the extended reals: the softmax attention of the block's queries, over the
   context's 512 keys and the 4096 latents'. -/
module

public import proofs.«01_k».proof.Proof.Ops
public import proofs.«01_k».proof.Proof.Attn

@[expose] public section

set_option maxRecDepth 16384

noncomputable section

namespace Cert.Block

open Cert.KernelIdeal Cert.KernelIdeal.Gen Cert.Stage Cert.Trip Cert.Loop Cert.Point Cert.Ops Cert.Attn
open Idealize.ShloMosaic Idealize.ShloMosaic.TcCoe Idealize.ShloMosaic.Tactic Idealize.ShloMosaic.ValueIdx
open scoped BigOperators

/-- A part of an array, read at an index. -/
theorem ld_apply {α : EltTy} {a b c a' b' c' : ℕ} (x : Vec Ideal ⟨3, ![a, b, c]⟩ α) (o0 o1 o2 : ℕ)
    (inb : ∀ w, (![o0, o1, o2] : Fin 3 → ℕ) w + (![a', b', c'] : Fin 3 → ℕ) w ≤ (⟨3, ![a, b, c]⟩ : Shape).size w)
    (i : Fin a') (j : Fin b') (k : Fin c') (i' : Fin a) (j' : Fin b) (k' : Fin c)
    (hi : i'.val = o0 + i.val) (hj : j'.val = o1 + j.val) (hk : k'.val = o2 + k.val) :
    View.ld x (Rect.unit (s := ⟨3, ![a, b, c]⟩) ![o0, o1, o2] ![a', b', c'] inb) (ix3 i j k) = x (ix3 i' j' k') := by
  refine congrArg x (funext fun w => Fin.ext ?_)
  match w with
  | ⟨0, _⟩ => show o0 + 1 * i.val = i'.val; omega
  | ⟨1, _⟩ => show o1 + 1 * j.val = j'.val; omega
  | ⟨2, _⟩ => show o2 + 1 * k.val = k'.val; omega

/-- The running maximum begins in a real number. -/
theorem init_fst : ∃ m : ℝ, ∀ (j : Fin 4) (n : Fin 512), (init (F := Ideal) j).1 (ix3 (0 : Fin 1) (0 : Fin 1) n) = (m : EReal) := by
  have h : ∃ m : ℝ, (FloatOps.ofBits .f32 0xF149F2CA#32 : Ideal .f32) = (m : EReal) := by
    show ∃ m : ℝ, Ideal.ofBits .f32 0xF149F2CA#32 = (m : EReal)
    simp only [Ideal.ofBits, Ideal.ieee]
    norm_num
    exact ⟨_, rfl⟩
  obtain ⟨m, hm⟩ := h
  exact ⟨m, fun j n => hm⟩

theorem init_snd (j : Fin 4) (r : Fin 80) (n : Fin 512) : (init (F := Ideal) j).2 (ix3 (0 : Fin 1) r n) = (0 : EReal) :=
  Ideal.ofBits_zero_f32

variable (x1 : Vec Ideal S1x512x256 .f32) (x2 : Vec Ideal S1x512x128 .bf16) (x3 : Vec Ideal S1x128x512 .bf16)
  (x4 : Vec Ideal S1x4096x128 .bf16) (x5 : Vec Ideal S1x128x4096 .bf16)

/-- A stream's state, column by column, is the running maximum and the running weighted sums. -/
theorem state_eq (j : Fin 4) (n : Fin 512) (m : ℝ) (hm : (init (F := Ideal) j).1 (ix3 (0 : Fin 1) (0 : Fin 1) n) = (m : EReal)) : ∀ t,
    (state x1 x2 x3 x4 x5 j t).1 (ix3 (0 : Fin 1) (0 : Fin 1) n)
        = runM (fun i l => score (queries x1 j) (keySeq x2 x4 i) (ix3 (0 : Fin 1) l n)) (m : EReal) t
      ∧ ∀ r : Fin 80, (state x1 x2 x3 x4 x5 j t).2 (ix3 (0 : Fin 1) r n)
        = runA (fun i (l : Fin 512) => score (queries x1 j) (keySeq x2 x4 i) (ix3 (0 : Fin 1) l n)) (fun i l => rows (valSeq x3 x5 j i) r l) (m : EReal) t
  | 0 => ⟨hm, fun r => init_snd j r n⟩
  | t + 1 => by
    obtain ⟨h1, h2⟩ := state_eq j n m hm t
    have e1 : (state x1 x2 x3 x4 x5 j (t + 1)).1 (ix3 (0 : Fin 1) (0 : Fin 1) n)
        = runM (fun i l => score (queries x1 j) (keySeq x2 x4 i) (ix3 (0 : Fin 1) l n)) (m : EReal) (t + 1) := by
      refine (stepM_apply _ _ n).trans ?_
      rw [runM, ← h1]
      rfl
    refine ⟨e1, fun r => ?_⟩
    refine (stepA_apply _ _ _ _ r n).trans ?_
    rw [runA, ← e1, ← h1, ← h2 r]
    rfl

/-- The key of name `L`: the context's first, then the latents'. -/
def kcat (x2 : Vec Ideal S1x512x128 .bf16) (x4 : Vec Ideal S1x4096x128 .bf16) (L : Fin 4608) (e : Fin 128) : EReal :=
  if h : L.val < 512 then x2 (ix3 (0 : Fin 1) (⟨L.val, h⟩ : Fin 512) e) else x4 (ix3 (0 : Fin 1) (⟨L.val - 512, by omega⟩ : Fin 4096) e)

/-- The value of name `L`: the context's first, then the latents'. -/
def vcat (x3 : Vec Ideal S1x128x512 .bf16) (x5 : Vec Ideal S1x128x4096 .bf16) (e : Fin 128) (L : Fin 4608) : EReal :=
  if h : L.val < 512 then x3 (ix3 (0 : Fin 1) e (⟨L.val, h⟩ : Fin 512)) else x5 (ix3 (0 : Fin 1) e (⟨L.val - 512, by omega⟩ : Fin 4096))

/-- The chunks' keys, by name. -/
abbrev name : Fin 9 × Fin 512 ≃ Fin 4608 := finProdFinEquiv

theorem name_val (p : Fin 9 × Fin 512) : (name p).val = p.2.val + 512 * p.1.val := rfl

theorem keySeq_apply : ∀ (i : Fin 9) (l : Fin 512) (e : Fin 128), keySeq x2 x4 i.val (ix3 (0 : Fin 1) l e) = kcat x2 x4 (name (i, l)) e
  | ⟨0, _⟩ => fun l e => by
    have h : (name (⟨0, by decide⟩, l)).val < 512 := by rw [name_val]; show l.val + 512 * 0 < 512; omega
    unfold kcat
    rw [dif_pos h]
    show x2 _ = x2 _
    congr 2
  | ⟨i + 1, hi⟩ => fun l e => by
    have h : ¬ (name (⟨i + 1, hi⟩, l)).val < 512 := by rw [name_val]; show ¬ l.val + 512 * (i + 1) < 512; omega
    unfold kcat
    rw [dif_neg h]
    refine ld_apply (α := .bf16) x4 _ _ _ _ _ _ _ _ _ _ rfl ?_ (Nat.zero_add _).symm
    show l.val + 512 * (i + 1) - 512 = 512 * (i % 8) + l.val
    omega

theorem vrow_eq : ∀ j : Fin 4, vrow j = 64 * (j.val / 2) := by decide

theorem valSeq_apply (j : Fin 4) (d : Fin 64) : ∀ (i : Fin 9) (l : Fin 512),
    rows (valSeq x3 x5 j i.val) (⟨d.val, by omega⟩ : Fin 80) l = vcat x3 x5 (⟨64 * (j.val / 2) + d.val, by omega⟩ : Fin 128) (name (i, l))
  | ⟨0, _⟩ => fun l => by
    have h : (name (⟨0, by decide⟩, l)).val < 512 := by rw [name_val]; show l.val + 512 * 0 < 512; omega
    unfold vcat rows
    rw [dif_pos h, dif_pos d.isLt]
    refine ld_apply (α := .bf16) x3 _ _ _ _ _ _ _ _ _ _ rfl ?_ ?_
    · show 64 * (j.val / 2) + d.val = vrow j + d.val
      rw [vrow_eq]
    · show l.val + 512 * 0 = 0 + l.val
      omega
  | ⟨i + 1, hi⟩ => fun l => by
    have h : ¬ (name (⟨i + 1, hi⟩, l)).val < 512 := by rw [name_val]; show ¬ l.val + 512 * (i + 1) < 512; omega
    unfold vcat rows
    rw [dif_neg h, dif_pos d.isLt]
    refine ld_apply (α := .bf16) x5 _ _ _ _ _ _ _ _ _ _ rfl ?_ ?_
    · show 64 * (j.val / 2) + d.val = vrow j + d.val
      rw [vrow_eq]
    · show l.val + 512 * (i + 1) - 512 = 512 * (i % 8) + l.val
      omega

/-- A sum over 128 of which 64, those of one head, are not zero. -/
theorem half_sum (g : Fin 2) (k : Fin 128 → EReal) (f : Fin 64 → EReal) :
    ∑ d : Fin 128, k d * (if d.val / 64 = g.val then f (⟨d.val % 64, by omega⟩ : Fin 64) else 0)
      = ∑ e : Fin 64, k (⟨64 * g.val + e.val, by omega⟩ : Fin 128) * f e := by
  rw [← Equiv.sum_comp (finProdFinEquiv : Fin 2 × Fin 64 ≃ Fin 128), Fintype.sum_prod_type, Finset.sum_eq_single g]
  · refine Finset.sum_congr rfl fun e _ => ?_
    have hv : ((finProdFinEquiv : Fin 2 × Fin 64 ≃ Fin 128) (g, e)).val = e.val + 64 * g.val := rfl
    rw [if_pos (by rw [hv]; omega)]
    congr 2
    · exact Fin.ext (by rw [hv]; show _ = 64 * g.val + e.val; omega)
    · exact Fin.ext (by show _ % 64 = _; rw [hv]; omega)
  · intro b _ hb
    refine Finset.sum_eq_zero fun e _ => ?_
    have hv : ((finProdFinEquiv : Fin 2 × Fin 64 ≃ Fin 128) (b, e)).val = e.val + 64 * b.val := rfl
    have hne : b.val ≠ g.val := fun h => hb (Fin.ext h)
    rw [if_neg (by rw [hv]; omega), mul_zero]
  · intro h
    exact absurd (Finset.mem_univ g) h

/-- A query's score against the key of name `L`, before the scaling. -/
def dot (q : S1x512x256.Idx → ℝ) (k : Fin 4608 → Fin 128 → ℝ) (j : Fin 4) (n : Fin 512) (L : Fin 4608) : ℝ :=
  ∑ e : Fin 64, q (ix3 (0 : Fin 1) n (⟨64 * j.val + e.val, by omega⟩ : Fin 256)) * k L (⟨64 * (j.val / 2) + e.val, by omega⟩ : Fin 128)

/-- The kernel's scores: the products' sum over `8 log 2`. -/
theorem score_real (q : S1x512x256.Idx → ℝ) (k : Fin 4608 → Fin 128 → ℝ) (hq : ∀ i, x1 i = ((q i : ℝ) : EReal))
    (hk : ∀ L e, kcat x2 x4 L e = ((k L e : ℝ) : EReal)) (j : Fin 4) (n l : Fin 512) (i : Fin 9) :
    score (queries x1 j) (keySeq x2 x4 i.val) (ix3 (0 : Fin 1) l n)
      = ((dot q k j n (name (i, l)) * ((Real.log 2) * (Real.sqrt 64))⁻¹ : ℝ) : EReal) := by
  rw [score_apply]
  have h : ∀ d : Fin 128, keySeq x2 x4 i.val (ix3 (0 : Fin 1) l d) * queries x1 j (ix2 d n)
      = kcat x2 x4 (name (i, l)) d * (if d.val / 64 = (⟨j.val / 2, by omega⟩ : Fin 2).val then
        (fun e : Fin 64 => ((q (ix3 (0 : Fin 1) n (⟨64 * j.val + e.val, by omega⟩ : Fin 256)) * ((Real.log 2) * (Real.sqrt 64))⁻¹ : ℝ) : EReal))
          (⟨d.val % 64, by omega⟩ : Fin 64) else 0) := fun d => by
    rw [keySeq_apply, queries_apply, hq, ← EReal.coe_mul]
  refine (Finset.sum_congr rfl fun d _ => h d).trans ((half_sum (⟨j.val / 2, by omega⟩ : Fin 2) (kcat x2 x4 (name (i, l)))
    fun e : Fin 64 => ((q (ix3 (0 : Fin 1) n (⟨64 * j.val + e.val, by omega⟩ : Fin 256)) * ((Real.log 2) * (Real.sqrt 64))⁻¹ : ℝ) : EReal)).trans ?_)
  unfold dot
  rw [Finset.sum_mul, ← coe_sum]
  refine Finset.sum_congr rfl fun e _ => ?_
  rw [hk, ← EReal.coe_mul]
  congr 1
  ring

/-- What the point stores, at query `n` of the block and column `d` of stream `j`. -/
theorem block_eq (q : S1x512x256.Idx → ℝ) (k : Fin 4608 → Fin 128 → ℝ) (hq : ∀ i, x1 i = ((q i : ℝ) : EReal))
    (hk : ∀ L e, kcat x2 x4 L e = ((k L e : ℝ) : EReal)) (j : Fin 4) (n : Fin 512) (d : Fin 64) :
    k0_pay1 (k0_pay158 (state x1 x2 x3 x4 x5 0 9).2 (state x1 x2 x3 x4 x5 1 9).2 (state x1 x2 x3 x4 x5 2 9).2 (state x1 x2 x3 x4 x5 3 9).2)
        (ix3 (0 : Fin 1) n (⟨64 * j.val + d.val, by omega⟩ : Fin 256))
      = attn (fun L => dot q k j n L / 8) (vcat x3 x5 (⟨64 * (j.val / 2) + d.val, by omega⟩ : Fin 128)) := by
  obtain ⟨m, hm⟩ := init_fst
  refine (store_apply (fun j => (state x1 x2 x3 x4 x5 j 9).2) n d j).trans ?_
  show Ideal.div ((state x1 x2 x3 x4 x5 j 9).2 _) ((state x1 x2 x3 x4 x5 j 9).2 _) = _
  rw [(state_eq x1 x2 x3 x4 x5 j n m (hm j n) 9).2, (state_eq x1 x2 x3 x4 x5 j n m (hm j n) 9).2]
  let x : ℕ → Fin 512 → ℝ := fun i l => if h : i < 9 then dot q k j n (name (⟨i, h⟩, l)) * ((Real.log 2) * (Real.sqrt 64))⁻¹ else 0
  let v : ℕ → Fin 512 → EReal := fun i l => if h : i < 9 then vcat x3 x5 (⟨64 * (j.val / 2) + d.val, by omega⟩ : Fin 128) (name (⟨i, h⟩, l)) else 0
  have hs : ∀ i < 9, (fun l : Fin 512 => score (queries x1 j) (keySeq x2 x4 i) (ix3 (0 : Fin 1) l n)) = fun l => ((x i l : ℝ) : EReal) := by
    intro i hi
    funext l
    refine (score_real x1 x2 x4 q k hq hk j n l ⟨i, hi⟩).trans ?_
    simp only [x, dif_pos hi]
  have hv : ∀ i < 9, (fun l : Fin 512 => rows (valSeq x3 x5 j i) (⟨d.val, by omega⟩ : Fin 80) l) = v i := by
    intro i hi
    funext l
    refine (valSeq_apply x3 x5 j d ⟨i, hi⟩ l).trans ?_
    simp only [v, dif_pos hi]
  have h1 : ∀ i < 9, (fun l : Fin 512 => rows (valSeq x3 x5 j i) (64 : Fin 80) l) = fun _ => 1 := fun i _ => funext fun l => rows_ones _ l
  rw [runA_congr (s' := fun i l => ((x i l : ℝ) : EReal)) (v' := v) (m : EReal) 9 hs hv,
    runA_congr (s' := fun i l => ((x i l : ℝ) : EReal)) (v' := fun _ _ => 1) (m : EReal) 9 hs h1]
  refine (run_eq 8 x v m).trans ?_
  rw [← attn_equiv name]
  have hlog : Real.log 2 ≠ 0 := (Real.log_pos (by norm_num)).ne'
  have h8 : Real.sqrt 64 = 8 := by rw [show (64 : ℝ) = 8 ^ 2 by norm_num, Real.sqrt_sq (by norm_num)]
  refine congrArg₂ attn (funext fun p => ?_) (funext fun p => ?_)
  · simp only [x, dif_pos p.1.isLt, h8]
    field_simp
  · simp only [v, dif_pos p.1.isLt]

end Cert.Block

end
-- ==== Proof.Spec.lean ====
/- The attention the two programs compute, at one index of the result.

   Four streams of queries share two heads of keys and values: stream `j` reads head `j / 2`. A head's keys are the
   context's 512, then the latents' 4096, and a result's column `64 j + d` is stream `j`'s column `d`. -/
module

public import proofs.«01_k».proof.Proof.Attn
public import Idealize.ShloMosaic.Lib.ValueIdxCore

@[expose] public section

noncomputable section

namespace Cert.Spec

open Cert.Attn Idealize.ShloMosaic Idealize.ShloMosaic.ValueIdx
open scoped BigOperators

/-- Entry `e` of head `g`'s row of name `L`: the context's rows first, then the latents'. -/
def row {α : Type} (ctx : (⟨4, ![8, 2, 512, 64]⟩ : Shape).Idx → α) (lat : (⟨3, ![8, 4096, 128]⟩ : Shape).Idx → α)
    (b : Fin 8) (g : Fin 2) (L : Fin 4608) (e : Fin 64) : α :=
  if h : L.val < 512 then ctx (ix4 b g (⟨L.val, h⟩ : Fin 512) e)
  else lat (ix3 b (⟨L.val - 512, by omega⟩ : Fin 4096) (⟨64 * g.val + e.val, by omega⟩ : Fin 128))

/-- The head that stream `j` reads. -/
abbrev head (j : Fin 4) : Fin 2 := ⟨j.val / 2, by omega⟩

/-- The product of stream `j`'s query `n` with the key of name `L`. -/
def dot (q : (⟨3, ![8, 4096, 256]⟩ : Shape).Idx → ℝ) (ck : (⟨4, ![8, 2, 512, 64]⟩ : Shape).Idx → ℝ) (k : (⟨3, ![8, 4096, 128]⟩ : Shape).Idx → ℝ)
    (b : Fin 8) (n : Fin 4096) (j : Fin 4) (L : Fin 4608) : ℝ :=
  ∑ e : Fin 64, q (ix3 b n (⟨64 * j.val + e.val, by omega⟩ : Fin 256)) * row ck k b (head j) L e

/-- The result: softmax attention, the scores the products over 8. -/
def out (q : (⟨3, ![8, 4096, 256]⟩ : Shape).Idx → ℝ) (ck : (⟨4, ![8, 2, 512, 64]⟩ : Shape).Idx → ℝ) (k : (⟨3, ![8, 4096, 128]⟩ : Shape).Idx → ℝ)
    (cv : (⟨4, ![8, 2, 512, 64]⟩ : Shape).Idx → EReal) (v : (⟨3, ![8, 4096, 128]⟩ : Shape).Idx → EReal)
    (b : Fin 8) (n : Fin 4096) (j : Fin 4) (d : Fin 64) : EReal :=
  attn (fun L => dot q ck k b n j L / 8) (fun L => row cv v b (head j) L d)

/-- A column of the result: its stream and the stream's column. -/
theorem column (e : Fin 256) : ∃ (j : Fin 4) (d : Fin 64), e = ⟨64 * j.val + d.val, by omega⟩ :=
  ⟨⟨e.val / 64, by omega⟩, ⟨e.val % 64, by omega⟩, Fin.ext (by show e.val = 64 * (e.val / 64) + e.val % 64; omega)⟩

end Cert.Spec

end
-- ==== Proof.Whole.lean ====
/- The kernel's result array, over the extended reals: index by index the attention of `Spec`.

   Point `t` of the grid reads batch `t / 8` and the block `t % 8` of 512 queries, and writes that block of the result. -/
module

public import proofs.«01_k».proof.Proof.Block
public import proofs.«01_k».proof.Proof.Spec

@[expose] public section

set_option maxRecDepth 16384

noncomputable section

namespace Cert.Whole

open Cert.KernelIdeal Cert.KernelIdeal.Gen
open Idealize.ShloMosaic Idealize.ShloMosaic.TcCoe Idealize.ShloMosaic.Tactic Idealize.ShloMosaic.ValueIdx
open Idealize.ShloMosaic.Pipeline (Dat)

variable (m : (ℓ : Loc nD τ sig) → Buf (Elt Ideal) ℓ) (c : Dev nD)

/-- What the host prepares: the latents' keys as they are, -/
theorem V_keys (i : S8x4096x128.Idx) : V m c main_v0 i = m ((c : Thread nD τ).loc main_arg1) i := by
  have h : V m c main_v0 = truncf (F := Ideal) .bf16 (m ((c : Thread nD τ).loc main_arg1)) bitsLt_bf16_f32 := by
    dsimp only [V, hostOps0]; after_results <;> rfl
  rw [h]; rfl

/-- the latents' values transposed, -/
theorem V_vals (b : Fin 8) (e : Fin 128) (l : Fin 4096) :
    V m c main_v2 (ix3 b e l) = m ((c : Thread nD τ).loc main_arg2) (ix3 b l e) := by
  have h : V m c main_v2 = truncf (F := Ideal) .bf16 (transpose S8x128x4096 [0, 2, 1] (m ((c : Thread nD τ).loc main_arg2)) transposes_S8x4096x128_S8x128x4096_0_2_1) bitsLt_bf16_f32 := by
    dsimp only [V, hostOps0]; after_results <;> rfl
  rw [h]
  exact transpose_ix3_021_apply _ _ _ _ _

/-- the context's keys head beside head, -/
theorem V_ckeys (b : Fin 8) (l : Fin 512) (g : Fin 2) (e : Fin 64) :
    V m c main_v5 (ix3 b l (⟨64 * g.val + e.val, by omega⟩ : Fin 128)) = m ((c : Thread nD τ).loc main_arg3) (ix4 b g l e) := by
  have h : V m c main_v5 = truncf (F := Ideal) .bf16 (shapeCast S8x512x128 (transpose S8x512x2x64 [0, 2, 1, 3] (m ((c : Thread nD τ).loc main_arg3)) transposes_S8x2x512x64_S8x512x2x64_0_2_1_3) shapeCasts_S8x512x2x64_S8x512x128) bitsLt_bf16_f32 := by
    dsimp only [V, hostOps0]; after_results <;> rfl
  rw [h]
  refine Eq.trans (shapeCast_apply (transpose S8x512x2x64 [0, 2, 1, 3] (m ((c : Thread nD τ).loc main_arg3)) transposes_S8x2x512x64_S8x512x2x64_0_2_1_3) shapeCasts_S8x512x2x64_S8x512x128 _ (ix4 b l g e) ?_) ?_
  · rw [Shape.rowMajor_val_three, Shape.rowMajor_val_four]
    show ((b.val * 512 + l.val) * 2 + g.val) * 64 + e.val = (b.val * 512 + l.val) * 128 + (64 * g.val + e.val)
    omega
  · refine congrArg (m ((c : Thread nD τ).loc main_arg3)) (funext fun a => ?_)
    match a with
    | ⟨0, _⟩ => rfl
    | ⟨1, _⟩ => rfl
    | ⟨2, _⟩ => rfl
    | ⟨3, _⟩ => rfl

/-- the context's values transposed, head above head. -/
theorem V_cvals (b : Fin 8) (g : Fin 2) (e : Fin 64) (l : Fin 512) :
    V m c main_v8 (ix3 b (⟨64 * g.val + e.val, by omega⟩ : Fin 128) l) = m ((c : Thread nD τ).loc main_arg4) (ix4 b g l e) := by
  have h : V m c main_v8 = truncf (F := Ideal) .bf16 (shapeCast S8x128x512 (transpose S8x2x64x512 [0, 1, 3, 2] (m ((c : Thread nD τ).loc main_arg4)) transposes_S8x2x512x64_S8x2x64x512_0_1_3_2) shapeCasts_S8x2x64x512_S8x128x512) bitsLt_bf16_f32 := by
    dsimp only [V, hostOps0]; after_results <;> rfl
  rw [h]
  refine Eq.trans (shapeCast_apply (transpose S8x2x64x512 [0, 1, 3, 2] (m ((c : Thread nD τ).loc main_arg4)) transposes_S8x2x512x64_S8x2x64x512_0_1_3_2) shapeCasts_S8x2x64x512_S8x128x512 _ (ix4 b g e l) ?_) ?_
  · rw [Shape.rowMajor_val_three, Shape.rowMajor_val_four]
    show ((b.val * 2 + g.val) * 64 + e.val) * 512 + l.val = (b.val * 128 + (64 * g.val + e.val)) * 512 + l.val
    omega
  · refine congrArg (m ((c : Thread nD τ).loc main_arg4)) (funext fun a => ?_)
    match a with
    | ⟨0, _⟩ => rfl
    | ⟨1, _⟩ => rfl
    | ⟨2, _⟩ => rfl
    | ⟨3, _⟩ => rfl

theorem lt64 (t : Fin cfg0.N) : t.val < 64 := Nat.lt_of_lt_of_eq t.isLt N_0

/-- Point `t`'s batch. -/
abbrev batch (t : Fin cfg0.N) : Fin 8 := ⟨t.val / 8, by have := lt64 t; omega⟩
/-- Query `n` of point `t`. -/
abbrev query (t : Fin cfg0.N) (n : Fin 512) : Fin 4096 := ⟨512 * (t.val % 8) + n.val, by omega⟩

theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem idx5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)
theorem idx7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

theorem iblk1 (t : Fin cfg0.N) (n : Fin 512) (e : Fin 256) :
    iblk m c 1 t (ix3 (0 : Fin 1) n e) = m ((c : Thread nD τ).loc main_arg0) (ix3 (batch t) (query t n) e) := by
  obtain ⟨h0, h1, h2⟩ := idx1 t
  refine (congrArg (V m c main_arg0) (?_ : _ = ix3 (batch t) (query t n) e)).trans (congrFun (V_main_arg0 m c) _)
  funext a
  match a with
  | ⟨0, _⟩ => exact Fin.ext (by show win0_1.index t 0 * 1 + 1 * 0 = t.val / 8; omega)
  | ⟨1, _⟩ => exact Fin.ext (by show win0_1.index t 1 * 512 + 1 * n.val = 512 * (t.val % 8) + n.val; omega)
  | ⟨2, _⟩ => exact Fin.ext (by show win0_1.index t 2 * 256 + 1 * e.val = e.val; omega)

theorem iblk2 (t : Fin cfg0.N) (l : Fin 512) (e : Fin 128) :
    iblk m c 2 t (ix3 (0 : Fin 1) l e) = V m c main_v5 (ix3 (batch t) l e) := by
  obtain ⟨h0, h1, h2⟩ := idx2 t
  refine congrArg (V m c main_v5) (?_ : _ = ix3 (batch t) l e)
  funext a
  match a with
  | ⟨0, _⟩ => exact Fin.ext (by show win0_2.index t 0 * 1 + 1 * 0 = t.val / 8; omega)
  | ⟨1, _⟩ => exact Fin.ext (by show win0_2.index t 1 * 512 + 1 * l.val = l.val; omega)
  | ⟨2, _⟩ => exact Fin.ext (by show win0_2.index t 2 * 128 + 1 * e.val = e.val; omega)

theorem iblk3 (t : Fin cfg0.N) (e : Fin 128) (l : Fin 512) :
    iblk m c 3 t (ix3 (0 : Fin 1) e l) = V m c main_v8 (ix3 (batch t) e l) := by
  obtain ⟨h0, h1, h2⟩ := idx3 t
  refine congrArg (V m c main_v8) (?_ : _ = ix3 (batch t) e l)
  funext a
  match a with
  | ⟨0, _⟩ => exact Fin.ext (by show win0_3.index t 0 * 1 + 1 * 0 = t.val / 8; omega)
  | ⟨1, _⟩ => exact Fin.ext (by show win0_3.index t 1 * 128 + 1 * e.val = e.val; omega)
  | ⟨2, _⟩ => exact Fin.ext (by show win0_3.index t 2 * 512 + 1 * l.val = l.val; omega)

theorem iblk4 (t : Fin cfg0.N) (l : Fin 4096) (e : Fin 128) :
    iblk m c 4 t (ix3 (0 : Fin 1) l e) = V m c main_v0 (ix3 (batch t) l e) := by
  obtain ⟨h0, h1, h2⟩ := idx4 t
  refine congrArg (V m c main_v0) (?_ : _ = ix3 (batch t) l e)
  funext a
  match a with
  | ⟨0, _⟩ => exact Fin.ext (by show win0_4.index t 0 * 1 + 1 * 0 = t.val / 8; omega)
  | ⟨1, _⟩ => exact Fin.ext (by show win0_4.index t 1 * 4096 + 1 * l.val = l.val; omega)
  | ⟨2, _⟩ => exact Fin.ext (by show win0_4.index t 2 * 128 + 1 * e.val = e.val; omega)

theorem iblk5 (t : Fin cfg0.N) (e : Fin 128) (l : Fin 4096) :
    iblk m c 5 t (ix3 (0 : Fin 1) e l) = V m c main_v2 (ix3 (batch t) e l) := by
  obtain ⟨h0, h1, h2⟩ := idx5 t
  refine congrArg (V m c main_v2) (?_ : _ = ix3 (batch t) e l)
  funext a
  match a with
  | ⟨0, _⟩ => exact Fin.ext (by show win0_5.index t 0 * 1 + 1 * 0 = t.val / 8; omega)
  | ⟨1, _⟩ => exact Fin.ext (by show win0_5.index t 1 * 128 + 1 * e.val = e.val; omega)
  | ⟨2, _⟩ => exact Fin.ext (by show win0_5.index t 2 * 4096 + 1 * l.val = l.val; omega)

variable (q : S8x4096x256.Idx → ℝ) (k : S8x4096x128.Idx → ℝ) (ck : S8x2x512x64.Idx → ℝ)

/-- The keys of a head, by name. -/
theorem kcat_eq (hk : m ((c : Thread nD τ).loc main_arg1) = fun i => ((k i : ℝ) : EReal))
    (hck : m ((c : Thread nD τ).loc main_arg3) = fun i => ((ck i : ℝ) : EReal)) (t : Fin cfg0.N) (L : Fin 4608) (e : Fin 128) :
    Cert.Block.kcat (iblk m c 2 t) (iblk m c 4 t) L e
      = ((Cert.Spec.row ck k (batch t) (⟨e.val / 64, by omega⟩ : Fin 2) L (⟨e.val % 64, by omega⟩ : Fin 64) : ℝ) : EReal) := by
  have he : e = ⟨64 * (e.val / 64) + e.val % 64, by omega⟩ := Fin.ext (by show e.val = 64 * (e.val / 64) + e.val % 64; omega)
  unfold Cert.Block.kcat Cert.Spec.row
  split
  · rw [iblk2]
    refine (congrArg (fun e => V m c main_v5 (ix3 (batch t) _ e)) he).trans ((V_ckeys m c _ _ (⟨e.val / 64, by omega⟩ : Fin 2) (⟨e.val % 64, by omega⟩ : Fin 64)).trans ?_)
    rw [hck]
  · rw [iblk4, V_keys, hk]
    exact congrArg (fun e => ((k (ix3 (batch t) _ e) : ℝ) : EReal)) he

/-- The values of a head, by name. -/
theorem vcat_eq (t : Fin cfg0.N) (L : Fin 4608) (g : Fin 2) (d : Fin 64) :
    Cert.Block.vcat (iblk m c 3 t) (iblk m c 5 t) (⟨64 * g.val + d.val, by omega⟩ : Fin 128) L
      = Cert.Spec.row (m ((c : Thread nD τ).loc main_arg4)) (m ((c : Thread nD τ).loc main_arg2)) (batch t) g L d := by
  unfold Cert.Block.vcat Cert.Spec.row
  split
  · rw [iblk3, V_cvals]
  · rw [iblk5, V_vals]

/-- The result array. -/
def result : Buf (Elt Ideal) ((c : Thread nD τ).loc main_v12) := fun i : S8x4096x256.Idx =>
  Cert.Spec.out q ck k (m ((c : Thread nD τ).loc main_arg4)) (m ((c : Thread nD τ).loc main_arg2)) (i 0) (i 1)
    (⟨(i 2).val / 64, by have : (i 2).val < 256 := (i 2).isLt; omega⟩ : Fin 4) (⟨(i 2).val % 64, by omega⟩ : Fin 64)

theorem result_apply (b : Fin 8) (n : Fin 4096) (j : Fin 4) (d : Fin 64) :
    result m c q k ck (ix3 b n (⟨64 * j.val + d.val, by omega⟩ : Fin 256))
      = Cert.Spec.out q ck k (m ((c : Thread nD τ).loc main_arg4)) (m ((c : Thread nD τ).loc main_arg2)) b n j d := by
  refine congrArg₂ (Cert.Spec.out q ck k (m ((c : Thread nD τ).loc main_arg4)) (m ((c : Thread nD τ).loc main_arg2)) b n) (Fin.ext ?_) (Fin.ext ?_)
  · show (64 * j.val + d.val) / 64 = j.val
    omega
  · show (64 * j.val + d.val) % 64 = d.val
    omega

/-- What point `t` writes back is the result's block. -/
theorem flushed_eq (hq : m ((c : Thread nD τ).loc main_arg0) = fun i => ((q i : ℝ) : EReal))
    (hk : m ((c : Thread nD τ).loc main_arg1) = fun i => ((k i : ℝ) : EReal))
    (hck : m ((c : Thread nD τ).loc main_arg3) = fun i => ((ck i : ℝ) : EReal)) (t : Fin cfg0.N) :
    (dats m 0 c).flushed 7 t = ((cfg0.win 7).blk t).view.read (Elt Ideal) (result m c q k ck) := by
  rw [Cert.KernelIdeal.Value.flushed7_A, Cert.Out.out_eq]
  obtain ⟨h0, h1, h2⟩ := idx7 t
  funext i
  obtain ⟨z, n, e, rfl⟩ : ∃ (z : Fin 1) (n : Fin 512) (e : Fin 256), i = ix3 z n e := ⟨i 0, i 1, i 2, eq_ix3 i⟩
  obtain ⟨j, d, rfl⟩ := Cert.Spec.column e
  obtain rfl : z = 0 := Subsingleton.elim _ _
  have hi : ((cfg0.win 7).blk t).view.read (Elt Ideal) (result m c q k ck) (ix3 (0 : Fin 1) n (⟨64 * j.val + d.val, by omega⟩ : Fin 256))
      = result m c q k ck (ix3 (batch t) (query t n) (⟨64 * j.val + d.val, by omega⟩ : Fin 256)) := by
    refine congrArg (result m c q k ck) (funext fun a => ?_)
    match a with
    | ⟨0, _⟩ => exact Fin.ext (by show win0_7.index t 0 * 1 + 1 * 0 = t.val / 8; omega)
    | ⟨1, _⟩ => exact Fin.ext (by show win0_7.index t 1 * 512 + 1 * n.val = 512 * (t.val % 8) + n.val; omega)
    | ⟨2, _⟩ => exact Fin.ext (by show win0_7.index t 2 * 256 + 1 * (64 * j.val + d.val) = 64 * j.val + d.val; omega)
  rw [hi, result_apply]
  have hb := Cert.Block.block_eq (iblk m c 1 t) (iblk m c 2 t) (iblk m c 3 t) (iblk m c 4 t) (iblk m c 5 t)
    (fun i => q (ix3 (batch t) (query t (i 1)) (i 2)))
    (fun L e => Cert.Spec.row ck k (batch t) (⟨e.val / 64, by omega⟩ : Fin 2) L (⟨e.val % 64, by omega⟩ : Fin 64))
    (fun i => by
      obtain ⟨z, n, e, rfl⟩ : ∃ (z : Fin 1) (n : Fin 512) (e : Fin 256), i = ix3 z n e := ⟨i 0, i 1, i 2, eq_ix3 i⟩
      obtain rfl : z = 0 := Subsingleton.elim _ _
      exact (iblk1 m c t _ _).trans (congrFun hq _))
    (kcat_eq m c k ck hk hck t) j n d
  refine Eq.trans ?_ (hb.trans ?_)
  · rfl
  · unfold Cert.Spec.out
    refine congrArg₂ Cert.Attn.attn (funext fun L => congrArg (· / 8) ?_) (funext fun L => vcat_eq m c t L (Cert.Spec.head j) d)
    refine Finset.sum_congr rfl fun e _ => congrArg₂ (· * ·) rfl ?_
    refine congrArg₂ (fun g e => Cert.Spec.row ck k (batch t) g L e) (Fin.ext ?_) (Fin.ext ?_)
    · show (64 * (j.val / 2) + e.val) / 64 = j.val / 2
      omega
    · show (64 * (j.val / 2) + e.val) % 64 = e.val
      omega

/-- Every index of the result is in a point's block. -/
theorem cover (i : S8x4096x256.Idx) : ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 256 := (i 2).isLt
  have hN : cfg0.N = 64 := N_0
  have ht : 8 * (i 0).val + (i 1).val / 512 < cfg0.N := by omega
  obtain ⟨t, hv⟩ : ∃ t : Fin cfg0.N, t.val = 8 * (i 0).val + (i 1).val / 512 := ⟨⟨_, ht⟩, rfl⟩
  obtain ⟨e0, e1, e2⟩ := idx7 t
  refine ⟨t, flush0_7 t, ?_⟩
  show i ∈ ((View.whole main_v12).slice (win0_7.rect t)).set
  rw [View.set_slice_whole, Rect.mem_set_unit]
  intro a
  match a with
  | ⟨0, _⟩ => show win0_7.index t 0 * 1 ≤ (i 0).val ∧ (i 0).val < win0_7.index t 0 * 1 + 1; omega
  | ⟨1, _⟩ => show win0_7.index t 1 * 512 ≤ (i 1).val ∧ (i 1).val < win0_7.index t 1 * 512 + 512; omega
  | ⟨2, _⟩ => show win0_7.index t 2 * 256 ≤ (i 2).val ∧ (i 2).val < win0_7.index t 2 * 256 + 256; omega

/-- The result array after the run. -/
theorem final (hq : m ((c : Thread nD τ).loc main_arg0) = fun i => ((q i : ℝ) : EReal))
    (hk : m ((c : Thread nD τ).loc main_arg1) = fun i => ((k i : ℝ) : EReal))
    (hck : m ((c : Thread nD τ).loc main_arg3) = fun i => ((ck i : ℝ) : EReal)) :
    (dats m 0 c).arrAt 7 cfg0.N = result m c q k ck :=
  (dats m 0 c).arrAt_eq_of_cover 7 (result m c q k ck) (fun t _ => flushed_eq m c q k ck hq hk hck t) cover

end Cert.Whole

end
-- ==== Proof.RefRead.lean ====
/- The reference's result, over the extended reals: index by index the attention of `Spec`.

   Its operations are named in turn: `keyRows` (a head's keys or values, the context's before the latents'), `scores`,
   `tops` (a query's largest score), `weights`, and the products with the values. -/
module

public import proofs.«01_k».proof.Proof.Spec
public import proofs.«01_k».proof.Proof.Gen.ReferenceIdeal.Run
public import Idealize.ShloMosaic.Lib.ValueLayout
public import Idealize.ShloMosaic.Lib.MatmulPlain
public import Idealize.ShloMosaic.Lib.KernelVsHost
public import Idealize.ShloMosaic.Lib.IdealHost
public import Idealize.ShloMosaic.Lib.Pipeline.Value

@[expose] public section

set_option maxRecDepth 16384

noncomputable section

namespace Cert.RefRead

open Cert.ReferenceIdeal Cert.ReferenceIdeal.Gen
open Idealize.ShloMosaic Idealize.ShloMosaic.TcCoe Idealize.ShloMosaic.ValueIdx
open scoped BigOperators

/-- The rows of each head, the context's before the latents'. -/
def keyRows (ctx : FVec Ideal S8x2x512x64 .f32) (lat : FVec Ideal S8x4096x128 .f32) : FVec Ideal S8x2x4608x64 .f32 :=
  concatenate S8x2x4608x64 2 [⟨S8x2x512x64, ctx⟩, ⟨S8x2x4096x64, (transpose S8x2x4096x64 [0, 2, 1, 3] (shapeCast _ lat shapeCasts_S8x4096x128_S8x4096x2x64) transposes_S8x4096x2x64_S8x2x4096x64_0_2_1_3)⟩] concatenates_S8x2x512x64_S8x2x4096x64_S8x2x4608x64_d2

/-- The queries of each stream. -/
def queryRows (q : FVec Ideal S8x4096x256 .f32) : FVec Ideal S8x2x2x4096x64 .f32 :=
  transpose S8x2x2x4096x64 [0, 2, 3, 1, 4] (shapeCast _ q shapeCasts_S8x4096x256_S8x4096x2x2x64) transposes_S8x4096x2x2x64_S8x2x2x4096x64_0_2_3_1_4

/-- The scores. -/
def scores (q : FVec Ideal S8x4096x256 .f32) (ctx : FVec Ideal S8x2x512x64 .f32) (lat : FVec Ideal S8x4096x128 .f32) : FVec Ideal S8x2x2x4096x4608 .f32 :=
  mulf (Host.dotGeneral dot_S8x2x2x4096x64_S8x2x4608x64_S8x2x2x4096x4608_4_3_23_2_01_01 none (queryRows q) (keyRows ctx lat))
    (broadcastInDim S8x2x2x4096x4608 ![] bcast_S_S8x2x2x4096x4608 (constant S_ .f32 0x3E000000#32))

/-- A query's value for every key. -/
def spread (x : FVec Ideal S8x2x2x4096 .f32) : FVec Ideal S8x2x2x4096x4608 .f32 :=
  broadcastInDim S8x2x2x4096x4608 ![0, 1, 2, 3, 4] bcast_S8x2x2x4096x1_S8x2x2x4096x4608_0_1_2_3_4
    (broadcastInDim S8x2x2x4096x1 ![0, 1, 2, 3] bcast_S8x2x2x4096_S8x2x2x4096x1_0_1_2_3 x)

/-- A query's largest score. -/
def tops (s : FVec Ideal S8x2x2x4096x4608 .f32) : FVec Ideal S8x2x2x4096 .f32 :=
  maximumf (broadcastInDim S8x2x2x4096 ![] bcast_S_S8x2x2x4096 (constant S_ .f32 0xFF800000#32))
    (Host.reduce FloatOps.maximumf s (constant S_ .f32 0xFF800000#32) reducesTo_S8x2x2x4096x4608_S8x2x2x4096_d4 h_S_)

/-- The exponentials of the scores less the query's largest. -/
def exps (s : FVec Ideal S8x2x2x4096x4608 .f32) : FVec Ideal S8x2x2x4096x4608 .f32 := Host.exp (subf s (spread (tops s)))

/-- A query's sum. -/
def sums (e : FVec Ideal S8x2x2x4096x4608 .f32) : FVec Ideal S8x2x2x4096 .f32 :=
  Host.reduceAdd e (constant S_ .f32 0x00000000#32) reducesTo_S8x2x2x4096x4608_S8x2x2x4096_d4 h_S_

/-- The weights' products with the values. -/
def mixed (e : FVec Ideal S8x2x2x4096x4608 .f32) (v : FVec Ideal S8x2x4608x64 .f32) : FVec Ideal S8x2x2x4096x64 .f32 :=
  Host.dotGeneral dot_S8x2x2x4096x4608_S8x2x4608x64_S8x2x2x4096x64_4_2_23_3_01_01 none (Host.divf e (spread (sums e))) v

/-- The result, of the operations named. -/
theorem res_eq (m : (ℓ : Loc nD τ sig) → Buf (Elt Ideal) ℓ) (c : Dev nD) :
    Cert.ReferenceIdeal.Value.res_main_v24 (F := Ideal) m c
      = shapeCast S8x4096x256 (transpose S8x4096x2x2x64 [0, 3, 1, 2, 4]
          (mixed (exps (scores (m ((c.tc : Thread nD τ).loc main_arg0)) (m ((c.tc : Thread nD τ).loc main_arg3)) (m ((c.tc : Thread nD τ).loc main_arg1))))
            (keyRows (m ((c.tc : Thread nD τ).loc main_arg4)) (m ((c.tc : Thread nD τ).loc main_arg2))))
          transposes_S8x2x2x4096x64_S8x4096x2x2x64_0_3_1_2_4) shapeCasts_S8x4096x2x2x64_S8x4096x256 := rfl

theorem keyRows_apply (ctx : FVec Ideal S8x2x512x64 .f32) (lat : FVec Ideal S8x4096x128 .f32) (b : Fin 8) (g : Fin 2) (L : Fin 4608) (e : Fin 64) :
    keyRows ctx lat (ix4 b g L e) = Cert.Spec.row ctx lat b g L e := by
  unfold keyRows Cert.Spec.row
  split
  · rename_i h
    refine concatenate_pair_apply_left (s₁ := S8x2x512x64) (s₂ := S8x2x4096x64) 2 _ _ _ (ix4 b g L e) rfl _ fun a => ?_
    match a with
    | ⟨0, _⟩ => rfl
    | ⟨1, _⟩ => rfl
    | ⟨2, _⟩ => rfl
    | ⟨3, _⟩ => rfl
  · rename_i h
    refine (concatenate_pair_apply_right (s₁ := S8x2x512x64) (s₂ := S8x2x4096x64) 2 _ _ _ (ix4 b g L e) rfl rfl
      (ix4 b g (⟨L.val - 512, by omega⟩ : Fin 4096) e) (fun a ha => ?_) ?_).trans ?_
    · match a with
      | ⟨0, _⟩ => rfl
      | ⟨1, _⟩ => rfl
      | ⟨2, _⟩ => exact absurd rfl ha
      | ⟨3, _⟩ => rfl
    · show L.val - 512 + 512 = L.val
      omega
    · refine Eq.trans (b := shapeCast S8x4096x2x64 lat shapeCasts_S8x4096x128_S8x4096x2x64 (ix4 b (⟨L.val - 512, by omega⟩ : Fin 4096) g e)) ?_ ?_
      · refine congrArg (shapeCast S8x4096x2x64 lat shapeCasts_S8x4096x128_S8x4096x2x64) (funext fun a => ?_)
        match a with
        | ⟨0, _⟩ => rfl
        | ⟨1, _⟩ => rfl
        | ⟨2, _⟩ => rfl
        | ⟨3, _⟩ => rfl
      · refine shapeCast_apply _ _ _ _ ?_
        rw [Shape.rowMajor_val_three, Shape.rowMajor_val_four]
        show (b.val * 4096 + (L.val - 512)) * 128 + (64 * g.val + e.val) = ((b.val * 4096 + (L.val - 512)) * 2 + g.val) * 64 + e.val
        omega

/-- The stream of a head's half. -/
abbrev stream (g u : Fin 2) : Fin 4 := ⟨2 * g.val + u.val, by omega⟩

theorem queryRows_apply (q : FVec Ideal S8x4096x256 .f32) (b : Fin 8) (g u : Fin 2) (n : Fin 4096) (e : Fin 64) :
    queryRows q (ix5 b g u n e) = q (ix3 b n (⟨64 * (stream g u).val + e.val, by omega⟩ : Fin 256)) := by
  unfold queryRows
  refine Eq.trans (b := shapeCast S8x4096x2x2x64 q shapeCasts_S8x4096x256_S8x4096x2x2x64 (ix5 b n g u e)) ?_ ?_
  · refine congrArg (shapeCast S8x4096x2x2x64 q shapeCasts_S8x4096x256_S8x4096x2x2x64) (funext fun a => ?_)
    match a with
    | ⟨0, _⟩ => rfl
    | ⟨1, _⟩ => rfl
    | ⟨2, _⟩ => rfl
    | ⟨3, _⟩ => rfl
    | ⟨4, _⟩ => rfl
  · refine shapeCast_apply _ _ _ _ ?_
    rw [Shape.rowMajor_val_three, Shape.rowMajor_val_five]
    show (b.val * 4096 + n.val) * 256 + (64 * (2 * g.val + u.val) + e.val) = (((b.val * 4096 + n.val) * 2 + g.val) * 2 + u.val) * 64 + e.val
    omega

/-- The first product, at an index. -/
theorem dotQK (x : FVec Ideal S8x2x2x4096x64 .f32) (y : FVec Ideal S8x2x4608x64 .f32) (b : Fin 8) (g u : Fin 2) (n : Fin 4096) (L : Fin 4608) :
    Host.dotGeneral (F := Ideal) dot_S8x2x2x4096x64_S8x2x4608x64_S8x2x2x4096x4608_4_3_23_2_01_01 none x y (ix5 b g u n L)
      = ∑ e : Fin 64, x (ix5 b g u n e) * y (ix4 b g L e) := by
  simp only [Host.dotGeneral]
  rw [Ideal.dotGeneral_apply, ← Equiv.sum_comp (contrEquiv1 dot_S8x2x2x4096x64_S8x2x4608x64_S8x2x2x4096x4608_4_3_23_2_01_01 64 rfl rfl).symm]
  refine Finset.sum_congr rfl fun e _ => ?_
  have he := contrEquiv1_symm_val dot_S8x2x2x4096x64_S8x2x4608x64_S8x2x2x4096x4608_4_3_23_2_01_01 64 rfl rfl e
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact he
  · match a with
    | ⟨0, _⟩ => rfl
    | ⟨1, _⟩ => rfl
    | ⟨2, _⟩ => rfl
    | ⟨3, _⟩ => exact he

/-- The second product, at an index. -/
theorem dotPV (x : FVec Ideal S8x2x2x4096x4608 .f32) (y : FVec Ideal S8x2x4608x64 .f32) (b : Fin 8) (g u : Fin 2) (n : Fin 4096) (d : Fin 64) :
    Host.dotGeneral (F := Ideal) dot_S8x2x2x4096x4608_S8x2x4608x64_S8x2x2x4096x64_4_2_23_3_01_01 none x y (ix5 b g u n d)
      = ∑ L : Fin 4608, x (ix5 b g u n L) * y (ix4 b g L d) := by
  simp only [Host.dotGeneral]
  rw [Ideal.dotGeneral_apply, ← Equiv.sum_comp (contrEquiv1 dot_S8x2x2x4096x4608_S8x2x4608x64_S8x2x2x4096x64_4_2_23_3_01_01 4608 rfl rfl).symm]
  refine Finset.sum_congr rfl fun L _ => ?_
  have hL := contrEquiv1_symm_val dot_S8x2x2x4096x4608_S8x2x4608x64_S8x2x2x4096x64_4_2_23_3_01_01 4608 rfl rfl L
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact hL
  · match a with
    | ⟨0, _⟩ => rfl
    | ⟨1, _⟩ => rfl
    | ⟨2, _⟩ => exact hL
    | ⟨3, _⟩ => rfl

theorem spread_apply (x : FVec Ideal S8x2x2x4096 .f32) (b : Fin 8) (g u : Fin 2) (n : Fin 4096) (L : Fin 4608) :
    spread x (ix5 b g u n L) = x (ix4 b g u n) := by
  unfold spread
  refine (broadcastInDim_apply _ _ _ _ (ix5 b g u n (0 : Fin 1)) fun a => ?_).trans (broadcastInDim_apply _ _ _ _ (ix4 b g u n) fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

theorem reduces : S8x2x2x4096x4608.Reduces [4] S8x2x2x4096 := by decide

theorem lift_eq (b : Fin 8) (g u : Fin 2) (n : Fin 4096) (L : Fin 4608) : reduces.lift (ix4 b g u n) L = ix5 b g u n L := by
  funext a
  match a with
  | ⟨0, _⟩ => rfl
  | ⟨1, _⟩ => rfl
  | ⟨2, _⟩ => rfl
  | ⟨3, _⟩ => rfl
  | ⟨4, _⟩ => rfl

theorem sums_apply (e : FVec Ideal S8x2x2x4096x4608 .f32) (b : Fin 8) (g u : Fin 2) (n : Fin 4096) :
    sums e (ix4 b g u n) = ∑ L : Fin 4608, e (ix5 b g u n L) := by
  unfold sums
  refine (Ideal.hostReduceAdd_single reducesTo_S8x2x2x4096x4608_S8x2x2x4096_d4 reduces e _ (ix4 b g u n)).trans ?_
  have h0 : constant (F := Ideal) S_ .f32 0x00000000#32 (Shape.Idx.first h_S_) = (0 : EReal) := Ideal.ofBits_zero_f32
  rw [h0, zero_add]
  exact Finset.sum_congr rfl fun L _ => congrArg e (lift_eq b g u n L)

theorem formats : FKind.Formats .f32 := by decide

theorem neutral : 0xFF800000#32 = FKind.maximumf.neutral .f32 formats := rfl

/-- A fold of maxima over the keys of a query, by the inserted index or by the five. -/
theorem fold_lift (z : EReal) (s : FVec Ideal S8x2x2x4096x4608 .f32) (b : Fin 8) (g u : Fin 2) (n : Fin 4096) :
    (Finset.univ : Finset (Fin 4608)).fold max z (s ∘ reduces.lift (ix4 b g u n)) = Finset.univ.fold max z fun L : Fin 4608 => s (ix5 b g u n L) :=
  Finset.fold_congr fun L _ => congrArg s (lift_eq b g u n L)

/-- The host's maximum over the keys, at an index. -/
theorem reduce_apply (s : FVec Ideal S8x2x2x4096x4608 .f32) (b : Fin 8) (g u : Fin 2) (n : Fin 4096) :
    Host.reduce FloatOps.maximumf s (constant S_ .f32 0xFF800000#32) reducesTo_S8x2x2x4096x4608_S8x2x2x4096_d4 h_S_ (ix4 b g u n)
      = Finset.univ.fold max (FloatOps.ofBits .f32 0xFF800000#32 : Ideal .f32) fun L : Fin 4608 => s (ix5 b g u n L) :=
  (congrFun (hostReduce_maximumf_eq_multiReduction (F := Ideal) (φ := .f32) s (b := 0xFF800000#32) reducesTo_S8x2x2x4096x4608_S8x2x2x4096_d4 h_S_ reduces formats neutral) (ix4 b g u n)).trans
    ((Ideal.multiReduction_maximumf_single s 0xFF800000#32 reduces formats neutral (ix4 b g u n)).trans (fold_lift _ s b g u n))

theorem maximumf_apply {t : Shape} (x y : FVec Ideal t .f32) (i : t.Idx) : maximumf x y i = max (x i : EReal) (y i) := rfl

theorem bot_word : (FloatOps.ofBits .f32 0xFF800000#32 : Ideal .f32) = (⊥ : EReal) := by
  show Ideal.ofBits .f32 0xFF800000#32 = ⊥
  simp [Ideal.ofBits, Ideal.ieee]

theorem bots_apply (i : S8x2x2x4096.Idx) : broadcastInDim S8x2x2x4096 ![] bcast_S_S8x2x2x4096 (constant (F := Ideal) S_ .f32 0xFF800000#32) i = (⊥ : EReal) :=
  bot_word

theorem tops_apply (s : FVec Ideal S8x2x2x4096x4608 .f32) (b : Fin 8) (g u : Fin 2) (n : Fin 4096) :
    tops s (ix4 b g u n) = Finset.univ.fold max ⊥ fun L : Fin 4608 => s (ix5 b g u n L) := by
  unfold tops
  rw [maximumf_apply, bots_apply, reduce_apply, bot_word]
  exact bot_sup_eq _

variable (q : S8x4096x256.Idx → ℝ) (k : S8x4096x128.Idx → ℝ) (ck : S8x2x512x64.Idx → ℝ)

/-- The scores of real queries and keys. -/
theorem scores_apply (b : Fin 8) (g u : Fin 2) (n : Fin 4096) (L : Fin 4608) :
    scores (fun i => ((q i : ℝ) : EReal)) (fun i => ((ck i : ℝ) : EReal)) (fun i => ((k i : ℝ) : EReal)) (ix5 b g u n L)
      = ((Cert.Spec.dot q ck k b n (stream g u) L / 8 : ℝ) : EReal) := by
  have h8 : (FloatOps.ofBits .f32 0x3E000000#32 : Ideal .f32) = ((1 / 8 : ℝ) : EReal) := by
    show Ideal.ofBits .f32 0x3E000000#32 = _
    simp [Ideal.ofBits, Ideal.ieee]
    rw [← EReal.coe_mul]
    norm_num
  have hh : Cert.Spec.head (stream g u) = g := Fin.ext (by show (2 * g.val + u.val) / 2 = g.val; omega)
  unfold scores
  show Host.dotGeneral (F := Ideal) _ none _ _ (ix5 b g u n L) * (FloatOps.ofBits .f32 0x3E000000#32 : Ideal .f32) = _
  rw [dotQK, h8]
  have hd : ∑ e : Fin 64, queryRows (fun i => ((q i : ℝ) : EReal)) (ix5 b g u n e) * keyRows (fun i => ((ck i : ℝ) : EReal)) (fun i => ((k i : ℝ) : EReal)) (ix4 b g L e)
      = ((Cert.Spec.dot q ck k b n (stream g u) L : ℝ) : EReal) := by
    unfold Cert.Spec.dot
    rw [← Cert.Attn.coe_sum, hh]
    refine Finset.sum_congr rfl fun e _ => ?_
    rw [queryRows_apply, keyRows_apply, EReal.coe_mul]
    refine congrArg₂ (· * ·) rfl ?_
    unfold Cert.Spec.row
    split <;> rfl
  rw [hd, ← EReal.coe_mul, mul_one_div]

/-- The reference's result, at an index. -/
theorem res_apply (m : (ℓ : Loc nD τ sig) → Buf (Elt Ideal) ℓ) (c : Dev nD)
    (hq : m ((c.tc : Thread nD τ).loc main_arg0) = fun i => ((q i : ℝ) : EReal))
    (hk : m ((c.tc : Thread nD τ).loc main_arg1) = fun i => ((k i : ℝ) : EReal))
    (hck : m ((c.tc : Thread nD τ).loc main_arg3) = fun i => ((ck i : ℝ) : EReal))
    (b : Fin 8) (n : Fin 4096) (j : Fin 4) (d : Fin 64) :
    Cert.ReferenceIdeal.Value.res_main_v24 (F := Ideal) m c (ix3 b n (⟨64 * j.val + d.val, by omega⟩ : Fin 256))
      = Cert.Spec.out q ck k (m ((c.tc : Thread nD τ).loc main_arg4)) (m ((c.tc : Thread nD τ).loc main_arg2)) b n j d := by
  obtain ⟨g, u, rfl⟩ : ∃ g u : Fin 2, j = stream g u :=
    ⟨⟨j.val / 2, by omega⟩, ⟨j.val % 2, by omega⟩, Fin.ext (by show j.val = 2 * (j.val / 2) + j.val % 2; omega)⟩
  have hh : Cert.Spec.head (stream g u) = g := Fin.ext (by show (2 * g.val + u.val) / 2 = g.val; omega)
  rw [res_eq, hq, hk, hck]
  refine (shapeCast_apply _ _ _ (ix5 b n g u d) ?_).trans ?_
  · rw [Shape.rowMajor_val_three, Shape.rowMajor_val_five]
    show (((b.val * 4096 + n.val) * 2 + g.val) * 2 + u.val) * 64 + d.val = (b.val * 4096 + n.val) * 256 + (64 * (2 * g.val + u.val) + d.val)
    omega
  generalize hs : scores (fun i => ((q i : ℝ) : EReal)) (fun i => ((ck i : ℝ) : EReal)) (fun i => ((k i : ℝ) : EReal)) = s
  generalize hv : keyRows (m ((c.tc : Thread nD τ).loc main_arg4)) (m ((c.tc : Thread nD τ).loc main_arg2)) = v
  refine Eq.trans (b := mixed (exps s) v (ix5 b g u n d)) ?_ ?_
  · refine congrArg (mixed (exps s) v) (funext fun a => ?_)
    match a with
    | ⟨0, _⟩ => rfl
    | ⟨1, _⟩ => rfl
    | ⟨2, _⟩ => rfl
    | ⟨3, _⟩ => rfl
    | ⟨4, _⟩ => rfl
  · have hx : ∀ L : Fin 4608, s (ix5 b g u n L) = ((Cert.Spec.dot q ck k b n (stream g u) L / 8 : ℝ) : EReal) := fun L => by
      rw [← hs]; exact scores_apply q k ck b g u n L
    obtain ⟨M, hM⟩ := Cert.Attn.fold_real fun L : Fin 4608 => Cert.Spec.dot q ck k b n (stream g u) L / 8
    have ht : tops s (ix4 b g u n) = (M : EReal) := by
      rw [tops_apply, ← hM]
      exact congrArg (fun f => Finset.univ.fold max ⊥ f) (funext hx)
    have he : ∀ L : Fin 4608, exps s (ix5 b g u n L) = Ideal.exp (((Cert.Spec.dot q ck k b n (stream g u) L / 8 : ℝ) : EReal) - (M : EReal)) := fun L => by
      unfold exps
      show Ideal.exp (s (ix5 b g u n L) - spread (tops s) (ix5 b g u n L)) = _
      rw [spread_apply, ht, hx]
    unfold mixed Cert.Spec.out
    rw [dotPV, ← Cert.Attn.soft_eq _ _ M]
    refine Finset.sum_congr rfl fun L _ => congrArg₂ (· * ·) ?_ ?_
    · show Ideal.div (exps s (ix5 b g u n L)) (spread (sums (exps s)) (ix5 b g u n L)) = _
      rw [spread_apply, sums_apply, he]
      exact congrArg (Ideal.div _) (Finset.sum_congr rfl fun L _ => he L)
    · rw [← hv, keyRows_apply, hh]

end Cert.RefRead

end
-- ==== Proof.Finite.lean ====
/- What the precondition gives: arrays of real numbers.

   `finite` compares each element's absolute value with infinity. Over the extended reals an element below infinity in
   absolute value is neither infinity nor minus infinity, so it is a real number. -/
module

public import proofs.«01_k».proof.Defs
public import Idealize.ShloMosaic.Lib.WordCmp

@[expose] public section

noncomputable section

namespace Cert.Finite

open Idealize.ShloMosaic

/-- The precondition's three shape facts. -/
theorem facts : Cert.Pre_finite.Facts := ⟨by decide, by decide, by decide⟩

theorem top_word : (FloatOps.ofBits .f32 0x7F800000#32 : Ideal .f32) = (⊤ : EReal) := by
  show Ideal.ofBits .f32 0x7F800000#32 = ⊤
  simp [Ideal.ofBits, Ideal.ieee]

/-- An element below infinity in absolute value is a real number. -/
theorem real_of_lt (x : EReal) (h : max x (-x) < ⊤) : ((x.toReal : ℝ) : EReal) = x := by
  refine EReal.coe_toReal (fun e => ?_) (fun e => ?_)
  · rw [e] at h; simp at h
  · rw [e] at h; simp at h

/-- An array whose comparison with infinity is all ones is an array of reals. -/
theorem real_array {s u : Shape} (dims : Fin u.rank → Fin s.rank) (hb : u.BroadcastsInDim s dims) (x : FVec Ideal s .f32)
    (h : cmpf .olt (Host.absf x) (broadcastInDim s dims hb (constant (F := Ideal) u .f32 0x7F800000#32)) = fun _ => 1#1) :
    x = fun i => (((EReal.toReal (x i)) : ℝ) : EReal) := by
  funext i
  refine (real_of_lt (x i) ?_).symm
  have hi : BitVec.ofBool (decide (max (x i : EReal) (-(x i : EReal)) < (FloatOps.ofBits .f32 0x7F800000#32 : Ideal .f32))) = 1#1 := congrFun h i
  rw [top_word] at hi
  exact (Idealize.ShloMosaic.WordCmp.ofBool_decide_eq_one_iff _).1 hi

end Cert.Finite

end
-- ==== Proof.Equal.lean ====
/- The two programs' results are equal: both are `Spec`'s attention of the arguments' real numbers. -/
module

public import proofs.«01_k».proof.Proof.Whole
public import proofs.«01_k».proof.Proof.RefRead
public import proofs.«01_k».proof.Proof.Finite

@[expose] public section

noncomputable section

namespace Cert.Equal

open Idealize.ShloMosaic Idealize.SL.Sem Idealize.ShloMosaic.TcCoe Idealize.ShloMosaic.ValueIdx

local instance : Cert.Pre_finite.Facts := Cert.Finite.facts
local instance : Cert.KernelIdeal.Facts := Cert.KernelIdeal.Gen.facts
local instance : Cert.ReferenceIdeal.Facts := Cert.ReferenceIdeal.Gen.facts

variable (m : (ℓ : Loc Cert.KernelIdeal.nD Cert.KernelIdeal.τ Cert.KernelIdeal.sig) → Buf (Elt Ideal) ℓ) (c : Dev Cert.KernelIdeal.nD)

/-- The real numbers of the queries, -/
def q (i : Cert.KernelIdeal.S8x4096x256.Idx) : ℝ := EReal.toReal (m ((c.tc : Thread Cert.KernelIdeal.nD Cert.KernelIdeal.τ).loc Cert.KernelIdeal.main_arg0) i)
/-- of the latents' keys, -/
def k (i : Cert.KernelIdeal.S8x4096x128.Idx) : ℝ := EReal.toReal (m ((c.tc : Thread Cert.KernelIdeal.nD Cert.KernelIdeal.τ).loc Cert.KernelIdeal.main_arg1) i)
/-- of the context's keys. -/
def ck (i : Cert.KernelIdeal.S8x2x512x64.Idx) : ℝ := EReal.toReal (m ((c.tc : Thread Cert.KernelIdeal.nD Cert.KernelIdeal.τ).loc Cert.KernelIdeal.main_arg3) i)

variable (hm : Cert.Pre_KernelIdeal_finite m)

include hm

theorem hq : m ((c.tc : Thread Cert.KernelIdeal.nD Cert.KernelIdeal.τ).loc Cert.KernelIdeal.main_arg0) = fun i => ((q m c i : ℝ) : EReal) :=
  Cert.Finite.real_array _ _ _ (hm c).1
theorem hk : m ((c.tc : Thread Cert.KernelIdeal.nD Cert.KernelIdeal.τ).loc Cert.KernelIdeal.main_arg1) = fun i => ((k m c i : ℝ) : EReal) :=
  Cert.Finite.real_array _ _ _ (hm c).2.1
theorem hck : m ((c.tc : Thread Cert.KernelIdeal.nD Cert.KernelIdeal.τ).loc Cert.KernelIdeal.main_arg3) = fun i => ((ck m c i : ℝ) : EReal) :=
  Cert.Finite.real_array _ _ _ (hm c).2.2

/-- The reference's array is the kernel's. -/
theorem same (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v24 (F := Ideal) m' c = Cert.Whole.result m c (q m c) (k m c) (ck m c) := by
  funext i
  obtain ⟨b, n, e, rfl⟩ : ∃ (b : Fin 8) (n : Fin 4096) (e : Fin 256), i = ix3 b n e := ⟨_, _, _, eq_ix3 i⟩
  obtain ⟨j, d, rfl⟩ := Cert.Spec.column e
  refine (Cert.RefRead.res_apply (q m c) (k m c) (ck m c) m' c (h0.trans (hq m c hm)) (h1.trans (hk m c hm)) (h3.trans (hck m c hm)) b n j d).trans ?_
  refine Eq.trans ?_ (Cert.Whole.result_apply m c (q m c) (k m c) (ck m c) b n j d).symm
  rw [h2, h4]

end Cert.Equal

end
-- ==== Proof.ProjSpec.lean ====
/- The input projection, over the extended reals: a token's activations normalised by their root mean square, scaled and
   shifted, times a column of the weights. -/
module

public import Idealize.ShloMosaic.PureOps.Ideal

@[expose] public section

noncomputable section

namespace Cert.ProjSpec

open Idealize.ShloMosaic
open scoped BigOperators

/-- The reciprocal of a token's root mean square. -/
def norm (x : Fin 1024 → EReal) : EReal :=
  Ideal.rsqrt (Ideal.div (∑ e, x e * x e) (Ideal.ofBits .f32 0x44800000#32) + Ideal.ofBits .f32 0x358637BD#32)

/-- A token's feature, normalised, times the gain, times the scale, plus the shift. -/
def act (x g s h : Fin 1024 → EReal) (e : Fin 1024) : EReal := x e * norm x * g e * s e + h e

/-- A column of the product. -/
def proj (x g s h w : Fin 1024 → EReal) : EReal := ∑ e, act x g s h e * w e

end Cert.ProjSpec

end
-- ==== Proof.ProjBlock.lean ====
/- The input projection's body, over the extended reals: at a row and a column of its block it is `ProjSpec.proj`. -/
module

public import proofs.«01_k».proof.Proof.ProjSpec
public import proofs.«01_k».proof.Proof.Gen.Kernel2Ideal.Value
public import Idealize.ShloMosaic.Lib.ValueLayout
public import Idealize.ShloMosaic.Lib.MatmulPlain
public import Idealize.ShloMosaic.Lib.Pipeline.Value

@[expose] public section

set_option maxRecDepth 16384

noncomputable section

namespace Cert.ProjBlock

open Cert.Kernel2Ideal Cert.Kernel2Ideal.Gen
open Idealize.ShloMosaic Idealize.ShloMosaic.ValueIdx
open scoped BigOperators

/-- The rows' sums of squares. -/
def squares (x : FVec Ideal S256x1024 .f32) : FVec Ideal S256 .f32 :=
  multiReduction .add [1] S256 (mulf x x) 0x00000000#32 reduces_S256x1024_S256 (.inl rfl) rfl

/-- The rows' norms. -/
def norms (x : FVec Ideal S256x1024 .f32) : FVec Ideal S256x1 .f32 :=
  rsqrt (addf (divf (shapeCast S256x1 (squares x) shapeCasts_S256_S256x1) (broadcast S256x1 (Scalar.ofBits .f32 0x44800000#32)))
    (broadcast S256x1 (Scalar.ofBits .f32 0x358637BD#32)))

/-- A row of features for every token. -/
def rows (g : FVec Ideal S1x1024 .f32) : FVec Ideal S256x1024 .f32 := broadcastTo S256x1024 g broadcasts_S1x1024_S256x1024

/-- The activations. -/
def acts (x : FVec Ideal S256x1024 .f32) (g : FVec Ideal S1x1024 .f32) (s h : FVec Ideal S1x1x1024 .f32) : FVec Ideal S256x1024 .f32 :=
  addf (mulf (mulf (mulf x (broadcastTo S256x1024 (norms x) broadcasts_S256x1_S256x1024)) (rows g))
    (rows (shapeCast S1x1024 s shapeCasts_S1x1x1024_S1x1024))) (rows (shapeCast S1x1024 h shapeCasts_S1x1x1024_S1x1024))

theorem squares_apply (x : FVec Ideal S256x1024 .f32) (r : Fin 256) :
    squares x (ix1 r) = ∑ e : Fin 1024, (x (ix2 r e) * x (ix2 r e) : EReal) := by
  unfold squares
  refine (Ideal.multiReduction_add_single (mulf x x) 0x00000000#32 reduces_S256x1024_S256 (.inl rfl) rfl (ix1 r)).trans ?_
  refine Finset.sum_congr rfl fun e _ => ?_
  have h : reduces_S256x1024_S256.lift (ix1 r) e = ix2 r e := by
    funext a
    match a with
    | ⟨0, _⟩ => rfl
    | ⟨1, _⟩ => rfl
  rw [h]
  rfl

theorem norms_apply (x : FVec Ideal S256x1024 .f32) (r : Fin 256) :
    norms x (ix2 r (0 : Fin 1)) = Cert.ProjSpec.norm fun e => x (ix2 r e) := by
  have h : shapeCast S256x1 (squares x) shapeCasts_S256_S256x1 (ix2 r (0 : Fin 1)) = squares x (ix1 r) :=
    shapeCast_apply (squares x) _ (ix2 r (0 : Fin 1)) (ix1 r) (by
      rw [Shape.rowMajor_val_one, Shape.rowMajor_val_two]
      show r.val = r.val * 1 + 0
      omega)
  show Ideal.rsqrt (Ideal.div (shapeCast S256x1 (squares x) shapeCasts_S256_S256x1 (ix2 r (0 : Fin 1))) (Ideal.ofBits .f32 0x44800000#32) + Ideal.ofBits .f32 0x358637BD#32) = _
  rw [h, squares_apply]
  rfl

theorem rows_apply (g : FVec Ideal S1x1024 .f32) (r : Fin 256) (e : Fin 1024) : rows g (ix2 r e) = g (ix2 (0 : Fin 1) e) :=
  broadcastTo_1b_ab_apply g broadcasts_S1x1024_S256x1024 r e

theorem cast_apply (s : FVec Ideal S1x1x1024 .f32) (e : Fin 1024) :
    shapeCast S1x1024 s shapeCasts_S1x1x1024_S1x1024 (ix2 (0 : Fin 1) e) = s (ix3 (0 : Fin 1) (0 : Fin 1) e) :=
  shapeCast_apply s _ (ix2 (0 : Fin 1) e) (ix3 (0 : Fin 1) (0 : Fin 1) e) (by
    rw [Shape.rowMajor_val_three, Shape.rowMajor_val_two]
    show ((0 * 1 + 0) * 1024 + e.val) = 0 * 1024 + e.val
    omega)

theorem acts_apply (x : FVec Ideal S256x1024 .f32) (g : FVec Ideal S1x1024 .f32) (s h : FVec Ideal S1x1x1024 .f32) (r : Fin 256) (e : Fin 1024) :
    acts x g s h (ix2 r e) = Cert.ProjSpec.act (fun e => x (ix2 r e)) (fun e => g (ix2 (0 : Fin 1) e))
      (fun e => s (ix3 (0 : Fin 1) (0 : Fin 1) e)) (fun e => h (ix3 (0 : Fin 1) (0 : Fin 1) e)) e := by
  have hn : broadcastTo S256x1024 (norms x) broadcasts_S256x1_S256x1024 (ix2 r e) = norms x (ix2 r (0 : Fin 1)) :=
    broadcastTo_apply (norms x) _ (ix2 r e) (ix2 r (0 : Fin 1)) fun a => by
      match a with
      | ⟨0, _⟩ => rfl
      | ⟨1, _⟩ => rfl
  show x (ix2 r e) * broadcastTo S256x1024 (norms x) broadcasts_S256x1_S256x1024 (ix2 r e) * rows g (ix2 r e)
    * rows (shapeCast S1x1024 s shapeCasts_S1x1x1024_S1x1024) (ix2 r e) + rows (shapeCast S1x1024 h shapeCasts_S1x1x1024_S1x1024) (ix2 r e) = _
  rw [hn, norms_apply, rows_apply, rows_apply, rows_apply, cast_apply, cast_apply]
  rfl

/-- The body's product, by the names above. -/
theorem body_eq (x : Vec Ideal S256x1024 .f32) (g : Vec Ideal S1x1024 .f32) (s h : Vec Ideal S1x1x1024 .f32) (w : Vec Ideal S1024x3200 .bf16) :
    k0_pay2 x g s h w = matmul (φ₂ := .bf16) dot_S256x1024_S1024x3200_S256x3200_1_0_0_1_n_n none
      (truncf .bf16 (acts (shapeCast S256x1024 x shapeCasts_S256x1024_S256x1024) (shapeCast S1x1024 g shapeCasts_S1x1024_S1x1024) s h) bitsLt_bf16_f32)
      (shapeCast S1024x3200 (w : FVec Ideal S1024x3200 .bf16) shapeCasts_S1024x3200_S1024x3200) (constant S256x3200 .f32 0x00000000#32) := rfl

/-- The body at a row and a column. -/
theorem body_apply (x : Vec Ideal S256x1024 .f32) (g : Vec Ideal S1x1024 .f32) (s h : Vec Ideal S1x1x1024 .f32) (w : Vec Ideal S1024x3200 .bf16)
    (r : Fin 256) (j : Fin 3200) :
    k0_pay2 x g s h w (ix2 r j) = Cert.ProjSpec.proj (fun e => x (ix2 r e)) (fun e => g (ix2 (0 : Fin 1) e))
      (fun e => s (ix3 (0 : Fin 1) (0 : Fin 1) e)) (fun e => h (ix3 (0 : Fin 1) (0 : Fin 1) e)) (fun e => w (ix2 e j)) := by
  rw [body_eq, shapeCast_self, shapeCast_self, shapeCast_self]
  refine (Ideal.matmul_plain_apply none _ _ _ r j).trans ?_
  have h0 : constant (F := Ideal) S256x3200 .f32 0x00000000#32 (ix2 r j) = (0 : EReal) := Ideal.ofBits_zero_f32
  rw [h0, zero_add]
  refine Finset.sum_congr rfl fun e _ => congrArg (· * (w (ix2 e j) : EReal)) ?_
  exact acts_apply x g s h r e

end Cert.ProjBlock

end
-- ==== Proof.ProjWhole.lean ====
/- The input projection's four result arrays, over the extended reals: `ProjSpec.proj` of a token and a column.

   Point `t` of the grid reads tokens `256 (t % 16) …` of sequence `t / 16`, and writes their columns to the four arrays:
   the first with the sequences side by side, the others with the sequences one after another. -/
module

public import proofs.«01_k».proof.Proof.ProjBlock

@[expose] public section

set_option maxRecDepth 16384

noncomputable section

namespace Cert.ProjWhole

open Cert.Kernel2Ideal Cert.Kernel2Ideal.Gen
open Idealize.ShloMosaic Idealize.ShloMosaic.TcCoe Idealize.ShloMosaic.Tactic Idealize.ShloMosaic.ValueIdx
open Idealize.ShloMosaic.Pipeline (Dat)

variable (m : (ℓ : Loc nD τ sig) → Buf (Elt Ideal) ℓ) (c : Dev nD)

/-- A token's value in a column of the projection. -/
def value (b : Fin 8) (n : Fin 4096) (j : Fin 3200) : EReal :=
  Cert.ProjSpec.proj (fun e => m ((c : Thread nD τ).loc main_arg0) (ix3 b n e)) (fun e => m ((c : Thread nD τ).loc main_arg1) (ix1 e))
    (fun e => Ideal.ofBits .f32 0x3F800000#32 + m ((c : Thread nD τ).loc main_arg2) (ix2 b e))
    (fun e => m ((c : Thread nD τ).loc main_arg3) (ix2 b e)) (fun e => m ((c : Thread nD τ).loc main_arg4) (ix2 e j))

/-- What the host prepares: the tokens of all sequences one after another, -/
theorem V_tokens (b : Fin 8) (n : Fin 4096) (e : Fin 1024) :
    V m c main_v0 (ix2 (⟨4096 * b.val + n.val, by omega⟩ : Fin 32768) e) = m ((c : Thread nD τ).loc main_arg0) (ix3 b n e) := by
  have h : V m c main_v0 = shapeCast S32768x1024 (m ((c : Thread nD τ).loc main_arg0)) shapeCasts_S8x4096x1024_S32768x1024 := by
    dsimp only [V, hostOps0]; after_results <;> rfl
  rw [h]
  exact shapeCast_apply _ _ _ (ix3 b n e) (by
    rw [Shape.rowMajor_val_three, Shape.rowMajor_val_two]
    show (b.val * 4096 + n.val) * 1024 + e.val = (4096 * b.val + n.val) * 1024 + e.val
    omega)

/-- the weights as they are, -/
theorem V_weights (e : Fin 1024) (j : Fin 3200) : V m c main_v3 (ix2 e j) = m ((c : Thread nD τ).loc main_arg4) (ix2 e j) := by
  have h : V m c main_v3 = truncf (F := Ideal) .bf16 (m ((c : Thread nD τ).loc main_arg4)) bitsLt_bf16_f32 := by
    dsimp only [V, hostOps0]; after_results <;> rfl
  rw [h]; rfl

/-- the gain as a row, -/
theorem V_gain (e : Fin 1024) : V m c main_v4 (ix2 (0 : Fin 1) e) = m ((c : Thread nD τ).loc main_arg1) (ix1 e) := by
  have h : V m c main_v4 = shapeCast S1x1024 (m ((c : Thread nD τ).loc main_arg1)) shapeCasts_S1024_S1x1024 := by
    dsimp only [V, hostOps0]; after_results <;> rfl
  rw [h]
  exact shapeCast_apply _ _ _ (ix1 e) (by
    rw [Shape.rowMajor_val_one, Shape.rowMajor_val_two]
    show e.val = 0 * 1024 + e.val
    omega)

/-- one plus the scale, a row for each sequence, -/
theorem V_scale (b : Fin 8) (e : Fin 1024) :
    V m c main_v5 (ix3 b (0 : Fin 1) e) = Ideal.ofBits .f32 0x3F800000#32 + m ((c : Thread nD τ).loc main_arg2) (ix2 b e) := by
  have h : V m c main_v5 = shapeCast S8x1x1024 (addf (F := Ideal) (broadcastInDim S8x1024 ![] bcast_S_S8x1024 (constant S_ .f32 0x3F800000#32)) (m ((c : Thread nD τ).loc main_arg2))) shapeCasts_S8x1024_S8x1x1024 := by
    dsimp only [V, hostOps0]; after_results <;> rfl
  rw [h]
  refine (shapeCast_apply _ _ _ (ix2 b e) ?_).trans rfl
  rw [Shape.rowMajor_val_three, Shape.rowMajor_val_two]
  show b.val * 1024 + e.val = (b.val * 1 + 0) * 1024 + e.val
  omega

/-- the shift likewise. -/
theorem V_shift (b : Fin 8) (e : Fin 1024) : V m c main_v6 (ix3 b (0 : Fin 1) e) = m ((c : Thread nD τ).loc main_arg3) (ix2 b e) := by
  have h : V m c main_v6 = shapeCast S8x1x1024 (m ((c : Thread nD τ).loc main_arg3)) shapeCasts_S8x1024_S8x1x1024 := by
    dsimp only [V, hostOps0]; after_results <;> rfl
  rw [h]
  exact shapeCast_apply _ _ _ (ix2 b e) (by
    rw [Shape.rowMajor_val_three, Shape.rowMajor_val_two]
    show b.val * 1024 + e.val = (b.val * 1 + 0) * 1024 + e.val
    omega)

theorem lt128 (t : Fin cfg0.N) : t.val < 128 := Nat.lt_of_lt_of_eq t.isLt N_0

/-- Point `t`'s sequence. -/
abbrev seq (t : Fin cfg0.N) : Fin 8 := ⟨t.val / 16, by have := lt128 t; omega⟩
/-- Token `r` of point `t`. -/
abbrev token (t : Fin cfg0.N) (r : Fin 256) : Fin 4096 := ⟨256 * (t.val % 16) + r.val, by omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

theorem iblk0 (t : Fin cfg0.N) (r : Fin 256) (e : Fin 1024) :
    iblk m c 0 t (ix2 r e) = m ((c : Thread nD τ).loc main_arg0) (ix3 (seq t) (token t r) e) := by
  obtain ⟨h0, h1⟩ := idx0 t
  refine (congrArg (V m c main_v0) (?_ : _ = ix2 (⟨4096 * (seq t).val + (token t r).val, by have := (seq t).isLt; have := (token t r).isLt; omega⟩ : Fin 32768) e)).trans (V_tokens m c _ _ e)
  funext a
  match a with
  | ⟨0, _⟩ => exact Fin.ext (by show win0_0.index t 0 * 256 + 1 * r.val = 4096 * (t.val / 16) + (256 * (t.val % 16) + r.val); omega)
  | ⟨1, _⟩ => exact Fin.ext (by show win0_0.index t 1 * 1024 + 1 * e.val = e.val; omega)

theorem iblk1 (t : Fin cfg0.N) (e : Fin 1024) : iblk m c 1 t (ix2 (0 : Fin 1) e) = m ((c : Thread nD τ).loc main_arg1) (ix1 e) := by
  obtain ⟨h0, h1⟩ := idx1 t
  refine (congrArg (V m c main_v4) (?_ : _ = ix2 (0 : Fin 1) e)).trans (V_gain m c e)
  funext a
  match a with
  | ⟨0, _⟩ => exact Fin.ext (by show win0_1.index t 0 * 1 + 1 * 0 = 0; omega)
  | ⟨1, _⟩ => exact Fin.ext (by show win0_1.index t 1 * 1024 + 1 * e.val = e.val; omega)

theorem iblk2 (t : Fin cfg0.N) (e : Fin 1024) :
    iblk m c 2 t (ix3 (0 : Fin 1) (0 : Fin 1) e) = Ideal.ofBits .f32 0x3F800000#32 + m ((c : Thread nD τ).loc main_arg2) (ix2 (seq t) e) := by
  obtain ⟨h0, h1, h2⟩ := idx2 t
  refine (congrArg (V m c main_v5) (?_ : _ = ix3 (seq t) (0 : Fin 1) e)).trans (V_scale m c _ e)
  funext a
  match a with
  | ⟨0, _⟩ => exact Fin.ext (by show win0_2.index t 0 * 1 + 1 * 0 = t.val / 16; omega)
  | ⟨1, _⟩ => exact Fin.ext (by show win0_2.index t 1 * 1 + 1 * 0 = 0; omega)
  | ⟨2, _⟩ => exact Fin.ext (by show win0_2.index t 2 * 1024 + 1 * e.val = e.val; omega)

theorem iblk3 (t : Fin cfg0.N) (e : Fin 1024) :
    iblk m c 3 t (ix3 (0 : Fin 1) (0 : Fin 1) e) = m ((c : Thread nD τ).loc main_arg3) (ix2 (seq t) e) := by
  obtain ⟨h0, h1, h2⟩ := idx3 t
  refine (congrArg (V m c main_v6) (?_ : _ = ix3 (seq t) (0 : Fin 1) e)).trans (V_shift m c _ e)
  funext a
  match a with
  | ⟨0, _⟩ => exact Fin.ext (by show win0_3.index t 0 * 1 + 1 * 0 = t.val / 16; omega)
  | ⟨1, _⟩ => exact Fin.ext (by show win0_3.index t 1 * 1 + 1 * 0 = 0; omega)
  | ⟨2, _⟩ => exact Fin.ext (by show win0_3.index t 2 * 1024 + 1 * e.val = e.val; omega)

theorem iblk4 (t : Fin cfg0.N) (e : Fin 1024) (j : Fin 3200) :
    iblk m c 4 t (ix2 e j) = m ((c : Thread nD τ).loc main_arg4) (ix2 e j) := by
  obtain ⟨h0, h1⟩ := idx4 t
  refine (congrArg (V m c main_v3) (?_ : _ = ix2 e j)).trans (V_weights m c e j)
  funext a
  match a with
  | ⟨0, _⟩ => exact Fin.ext (by show win0_4.index t 0 * 1024 + 1 * e.val = e.val; omega)
  | ⟨1, _⟩ => exact Fin.ext (by show win0_4.index t 1 * 3200 + 1 * j.val = j.val; omega)

/-- The body's product at point `t`. -/
theorem point_apply (t : Fin cfg0.N) (r : Fin 256) (j : Fin 3200) :
    k0_pay2 (F := Ideal) (iblk m c 0 t) (iblk m c 1 t) (iblk m c 2 t) (iblk m c 3 t) (iblk m c 4 t) (ix2 r j) = value m c (seq t) (token t r) j := by
  refine (Cert.ProjBlock.body_apply (iblk m c 0 t) (iblk m c 1 t) (iblk m c 2 t) (iblk m c 3 t) (iblk m c 4 t) r j).trans ?_
  unfold value
  rw [funext (iblk0 m c t r), funext (iblk1 m c t), funext (iblk2 m c t), funext (iblk3 m c t), funext fun e => iblk4 m c t e j]

theorem load0 (x : Vec Ideal S256x1024 .f32) : View.ld x r0_0 = x := View.ld_unit_zero (by decide) _ x
theorem load1 (x : Vec Ideal S1x1024 .f32) : View.ld x r0_1 = x := View.ld_unit_zero (by decide) _ x
theorem load2 (x : Vec Ideal S1x1x1024 .f32) : View.ld x r0_2 = x := View.ld_unit_zero (by decide) _ x
theorem load3 (x : Vec Ideal S1024x3200 .bf16) : View.ld x r0_3 = x := View.ld_unit_zero (by decide) _ x

/-- The first result array: the sequences side by side. -/
def result5 : Buf (Elt Ideal) ((c : Thread nD τ).loc main_v7_0) := fun i : S4096x9216.Idx =>
  value m c (⟨(i 1).val / 1152, by have : (i 1).val < 9216 := (i 1).isLt; omega⟩ : Fin 8) (i 0) (⟨(i 1).val % 1152, by omega⟩ : Fin 3200)

theorem result5_apply (b : Fin 8) (n : Fin 4096) (j : Fin 1152) :
    result5 m c (ix2 n (⟨1152 * b.val + j.val, by omega⟩ : Fin 9216)) = value m c b n (⟨j.val, by omega⟩ : Fin 3200) := by
  refine congrArg₂ (fun b j => value m c b n j) (Fin.ext ?_) (Fin.ext ?_)
  · show (1152 * b.val + j.val) / 1152 = b.val
    omega
  · show (1152 * b.val + j.val) % 1152 = j.val
    omega

/-- What the body leaves for it. -/
theorem out5 (t : Fin cfg0.N) (r : Fin 256) (j : Fin 1152) :
    out0_5 (F := Ideal) (iblk m c 0 t) (iblk m c 1 t) (iblk m c 2 t) (iblk m c 3 t) (iblk m c 4 t) (ix2 r j)
      = value m c (seq t) (token t r) (⟨j.val, by omega⟩ : Fin 3200) := by
  unfold out0_5
  rw [Cert.Kernel2Ideal.Value.canon5_eq, load0, load1, load2, load2, load3]
  refine Eq.trans ?_ (point_apply m c t r _)
  refine congrArg (k0_pay2 (F := Ideal) (iblk m c 0 t) (iblk m c 1 t) (iblk m c 2 t) (iblk m c 3 t) (iblk m c 4 t)) (funext fun a => ?_)
  match a with
  | ⟨0, _⟩ => rfl
  | ⟨1, _⟩ => rfl

theorem flushed5 (t : Fin cfg0.N) :
    (dats m 0 c).flushed 5 t = ((cfg0.win 5).blk t).view.read (Elt Ideal) (result5 m c) := by
  rw [Cert.Kernel2Ideal.Value.flushed5]
  obtain ⟨h0, h1⟩ := idx5 t
  funext i
  obtain ⟨r, j, rfl⟩ : ∃ (r : Fin 256) (j : Fin 1152), i = ix2 r j := ⟨i 0, i 1, eq_ix2 i⟩
  refine Eq.trans (b := value m c (seq t) (token t r) (⟨j.val, by omega⟩ : Fin 3200)) ?_ (((congrArg (result5 m c) (funext fun a => ?_)).trans (result5_apply m c (seq t) (token t r) j)).symm)
  · exact out5 m c t r j
  · match a with
    | ⟨0, _⟩ => exact Fin.ext (by show win0_5.index t 0 * 256 + 1 * r.val = 256 * (t.val % 16) + r.val; omega)
    | ⟨1, _⟩ => exact Fin.ext (by show win0_5.index t 1 * 1152 + 1 * j.val = 1152 * (t.val / 16) + j.val; omega)

theorem cover5 (i : S4096x9216.Idx) : ∃ t : Fin cfg0.N, (cfg0.win 5).flush t = true ∧ i ∈ ((cfg0.win 5).blk t).view.set := by
  have h0 : (i 0).val < 4096 := (i 0).isLt
  have h1 : (i 1).val < 9216 := (i 1).isLt
  have hN : cfg0.N = 128 := N_0
  have ht : 16 * ((i 1).val / 1152) + (i 0).val / 256 < cfg0.N := by omega
  obtain ⟨t, hv⟩ : ∃ t : Fin cfg0.N, t.val = 16 * ((i 1).val / 1152) + (i 0).val / 256 := ⟨⟨_, ht⟩, rfl⟩
  obtain ⟨e0, e1⟩ := idx5 t
  refine ⟨t, flush0_5 t, ?_⟩
  show i ∈ ((View.whole main_v7_0).slice (win0_5.rect t)).set
  rw [View.set_slice_whole, Rect.mem_set_unit]
  intro a
  match a with
  | ⟨0, _⟩ => show win0_5.index t 0 * 256 ≤ (i 0).val ∧ (i 0).val < win0_5.index t 0 * 256 + 256; omega
  | ⟨1, _⟩ => show win0_5.index t 1 * 1152 ≤ (i 1).val ∧ (i 1).val < win0_5.index t 1 * 1152 + 1152; omega

/-- The first array after the run. -/
theorem final5 : (dats m 0 c).arrAt 5 cfg0.N = result5 m c :=
  (dats m 0 c).arrAt_eq_of_cover 5 (result5 m c) (fun t _ => flushed5 m c t) cover5

/-- The second result array: the sequences one after another. -/
def result6 : Buf (Elt Ideal) ((c : Thread nD τ).loc main_v7_1) := fun i : S32768x768.Idx =>
  value m c (⟨(i 0).val / 4096, by have : (i 0).val < 32768 := (i 0).isLt; omega⟩ : Fin 8) (⟨(i 0).val % 4096, by omega⟩ : Fin 4096)
    (⟨(i 1).val + 1152, by have : (i 1).val < 768 := (i 1).isLt; omega⟩ : Fin 3200)

theorem result6_apply (b : Fin 8) (n : Fin 4096) (j : Fin 768) :
    result6 m c (ix2 (⟨4096 * b.val + n.val, by omega⟩ : Fin 32768) j) = value m c b n (⟨j.val + 1152, by omega⟩ : Fin 3200) := by
  refine congrArg₂ (fun b n => value m c b n (⟨j.val + 1152, by omega⟩ : Fin 3200)) (Fin.ext ?_) (Fin.ext ?_)
  · show (4096 * b.val + n.val) / 4096 = b.val
    omega
  · show (4096 * b.val + n.val) % 4096 = n.val
    omega

/-- What the body leaves for it. -/
theorem out6 (t : Fin cfg0.N) (r : Fin 256) (j : Fin 768) :
    out0_6 (F := Ideal) (iblk m c 0 t) (iblk m c 1 t) (iblk m c 2 t) (iblk m c 3 t) (iblk m c 4 t) (ix2 r j)
      = value m c (seq t) (token t r) (⟨j.val + 1152, by omega⟩ : Fin 3200) := by
  unfold out0_6
  rw [Cert.Kernel2Ideal.Value.canon6_eq, load0, load1, load2, load2, load3]
  refine Eq.trans ?_ (point_apply m c t r _)
  refine congrArg (k0_pay2 (F := Ideal) (iblk m c 0 t) (iblk m c 1 t) (iblk m c 2 t) (iblk m c 3 t) (iblk m c 4 t)) (funext fun a => ?_)
  match a with
  | ⟨0, _⟩ => rfl
  | ⟨1, _⟩ => rfl

theorem flushed6 (t : Fin cfg0.N) :
    (dats m 0 c).flushed 6 t = ((cfg0.win 6).blk t).view.read (Elt Ideal) (result6 m c) := by
  rw [Cert.Kernel2Ideal.Value.flushed6]
  obtain ⟨h0, h1⟩ := idx6 t
  funext i
  obtain ⟨r, j, rfl⟩ : ∃ (r : Fin 256) (j : Fin 768), i = ix2 r j := ⟨i 0, i 1, eq_ix2 i⟩
  refine Eq.trans (b := value m c (seq t) (token t r) (⟨j.val + 1152, by omega⟩ : Fin 3200)) ?_ (((congrArg (result6 m c) (funext fun a => ?_)).trans (result6_apply m c (seq t) (token t r) j)).symm)
  · exact out6 m c t r j
  · match a with
    | ⟨0, _⟩ => exact Fin.ext (by show win0_6.index t 0 * 256 + 1 * r.val = 4096 * (t.val / 16) + (256 * (t.val % 16) + r.val); omega)
    | ⟨1, _⟩ => exact Fin.ext (by show win0_6.index t 1 * 768 + 1 * j.val = j.val; omega)

theorem cover6 (i : S32768x768.Idx) : ∃ t : Fin cfg0.N, (cfg0.win 6).flush t = true ∧ i ∈ ((cfg0.win 6).blk t).view.set := by
  have h0 : (i 0).val < 32768 := (i 0).isLt
  have h1 : (i 1).val < 768 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx6 t
  refine ⟨t, flush0_6 t, ?_⟩
  show i ∈ ((View.whole main_v7_1).slice (win0_6.rect t)).set
  rw [View.set_slice_whole, Rect.mem_set_unit]
  intro a
  match a with
  | ⟨0, _⟩ => show win0_6.index t 0 * 256 ≤ (i 0).val ∧ (i 0).val < win0_6.index t 0 * 256 + 256; omega
  | ⟨1, _⟩ => show win0_6.index t 1 * 768 ≤ (i 1).val ∧ (i 1).val < win0_6.index t 1 * 768 + 768; omega

/-- The second array after the run. -/
theorem final6 : (dats m 0 c).arrAt 6 cfg0.N = result6 m c :=
  (dats m 0 c).arrAt_eq_of_cover 6 (result6 m c) (fun t _ => flushed6 m c t) cover6

/-- The third result array: the sequences one after another. -/
def result7 : Buf (Elt Ideal) ((c : Thread nD τ).loc main_v7_2) := fun i : S32768x768.Idx =>
  value m c (⟨(i 0).val / 4096, by have : (i 0).val < 32768 := (i 0).isLt; omega⟩ : Fin 8) (⟨(i 0).val % 4096, by omega⟩ : Fin 4096)
    (⟨(i 1).val + 1920, by have : (i 1).val < 768 := (i 1).isLt; omega⟩ : Fin 3200)

theorem result7_apply (b : Fin 8) (n : Fin 4096) (j : Fin 768) :
    result7 m c (ix2 (⟨4096 * b.val + n.val, by omega⟩ : Fin 32768) j) = value m c b n (⟨j.val + 1920, by omega⟩ : Fin 3200) := by
  refine congrArg₂ (fun b n => value m c b n (⟨j.val + 1920, by omega⟩ : Fin 3200)) (Fin.ext ?_) (Fin.ext ?_)
  · show (4096 * b.val + n.val) / 4096 = b.val
    omega
  · show (4096 * b.val + n.val) % 4096 = n.val
    omega

/-- What the body leaves for it. -/
theorem out7 (t : Fin cfg0.N) (r : Fin 256) (j : Fin 768) :
    out0_7 (F := Ideal) (iblk m c 0 t) (iblk m c 1 t) (iblk m c 2 t) (iblk m c 3 t) (iblk m c 4 t) (ix2 r j)
      = value m c (seq t) (token t r) (⟨j.val + 1920, by omega⟩ : Fin 3200) := by
  unfold out0_7
  rw [Cert.Kernel2Ideal.Value.canon7_eq, load0, load1, load2, load2, load3]
  refine Eq.trans ?_ (point_apply m c t r _)
  refine congrArg (k0_pay2 (F := Ideal) (iblk m c 0 t) (iblk m c 1 t) (iblk m c 2 t) (iblk m c 3 t) (iblk m c 4 t)) (funext fun a => ?_)
  match a with
  | ⟨0, _⟩ => rfl
  | ⟨1, _⟩ => rfl

theorem flushed7 (t : Fin cfg0.N) :
    (dats m 0 c).flushed 7 t = ((cfg0.win 7).blk t).view.read (Elt Ideal) (result7 m c) := by
  rw [Cert.Kernel2Ideal.Value.flushed7]
  obtain ⟨h0, h1⟩ := idx7 t
  funext i
  obtain ⟨r, j, rfl⟩ : ∃ (r : Fin 256) (j : Fin 768), i = ix2 r j := ⟨i 0, i 1, eq_ix2 i⟩
  refine Eq.trans (b := value m c (seq t) (token t r) (⟨j.val + 1920, by omega⟩ : Fin 3200)) ?_ (((congrArg (result7 m c) (funext fun a => ?_)).trans (result7_apply m c (seq t) (token t r) j)).symm)
  · exact out7 m c t r j
  · match a with
    | ⟨0, _⟩ => exact Fin.ext (by show win0_7.index t 0 * 256 + 1 * r.val = 4096 * (t.val / 16) + (256 * (t.val % 16) + r.val); omega)
    | ⟨1, _⟩ => exact Fin.ext (by show win0_7.index t 1 * 768 + 1 * j.val = j.val; omega)

theorem cover7 (i : S32768x768.Idx) : ∃ t : Fin cfg0.N, (cfg0.win 7).flush t = true ∧ i ∈ ((cfg0.win 7).blk t).view.set := by
  have h0 : (i 0).val < 32768 := (i 0).isLt
  have h1 : (i 1).val < 768 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx7 t
  refine ⟨t, flush0_7 t, ?_⟩
  show i ∈ ((View.whole main_v7_2).slice (win0_7.rect t)).set
  rw [View.set_slice_whole, Rect.mem_set_unit]
  intro a
  match a with
  | ⟨0, _⟩ => show win0_7.index t 0 * 256 ≤ (i 0).val ∧ (i 0).val < win0_7.index t 0 * 256 + 256; omega
  | ⟨1, _⟩ => show win0_7.index t 1 * 768 ≤ (i 1).val ∧ (i 1).val < win0_7.index t 1 * 768 + 768; omega

/-- The third array after the run. -/
theorem final7 : (dats m 0 c).arrAt 7 cfg0.N = result7 m c :=
  (dats m 0 c).arrAt_eq_of_cover 7 (result7 m c) (fun t _ => flushed7 m c t) cover7

/-- The fourth result array: the sequences one after another. -/
def result8 : Buf (Elt Ideal) ((c : Thread nD τ).loc main_v7_3) := fun i : S32768x512.Idx =>
  value m c (⟨(i 0).val / 4096, by have : (i 0).val < 32768 := (i 0).isLt; omega⟩ : Fin 8) (⟨(i 0).val % 4096, by omega⟩ : Fin 4096)
    (⟨(i 1).val + 2688, by have : (i 1).val < 512 := (i 1).isLt; omega⟩ : Fin 3200)

theorem result8_apply (b : Fin 8) (n : Fin 4096) (j : Fin 512) :
    result8 m c (ix2 (⟨4096 * b.val + n.val, by omega⟩ : Fin 32768) j) = value m c b n (⟨j.val + 2688, by omega⟩ : Fin 3200) := by
  refine congrArg₂ (fun b n => value m c b n (⟨j.val + 2688, by omega⟩ : Fin 3200)) (Fin.ext ?_) (Fin.ext ?_)
  · show (4096 * b.val + n.val) / 4096 = b.val
    omega
  · show (4096 * b.val + n.val) % 4096 = n.val
    omega

/-- What the body leaves for it. -/
theorem out8 (t : Fin cfg0.N) (r : Fin 256) (j : Fin 512) :
    out0_8 (F := Ideal) (iblk m c 0 t) (iblk m c 1 t) (iblk m c 2 t) (iblk m c 3 t) (iblk m c 4 t) (ix2 r j)
      = value m c (seq t) (token t r) (⟨j.val + 2688, by omega⟩ : Fin 3200) := by
  unfold out0_8
  rw [Cert.Kernel2Ideal.Value.canon8_eq, load0, load1, load2, load2, load3]
  refine Eq.trans ?_ (point_apply m c t r _)
  refine congrArg (k0_pay2 (F := Ideal) (iblk m c 0 t) (iblk m c 1 t) (iblk m c 2 t) (iblk m c 3 t) (iblk m c 4 t)) (funext fun a => ?_)
  match a with
  | ⟨0, _⟩ => rfl
  | ⟨1, _⟩ => rfl

theorem flushed8 (t : Fin cfg0.N) :
    (dats m 0 c).flushed 8 t = ((cfg0.win 8).blk t).view.read (Elt Ideal) (result8 m c) := by
  rw [Cert.Kernel2Ideal.Value.flushed8]
  obtain ⟨h0, h1⟩ := idx8 t
  funext i
  obtain ⟨r, j, rfl⟩ : ∃ (r : Fin 256) (j : Fin 512), i = ix2 r j := ⟨i 0, i 1, eq_ix2 i⟩
  refine Eq.trans (b := value m c (seq t) (token t r) (⟨j.val + 2688, by omega⟩ : Fin 3200)) ?_ (((congrArg (result8 m c) (funext fun a => ?_)).trans (result8_apply m c (seq t) (token t r) j)).symm)
  · exact out8 m c t r j
  · match a with
    | ⟨0, _⟩ => exact Fin.ext (by show win0_8.index t 0 * 256 + 1 * r.val = 4096 * (t.val / 16) + (256 * (t.val % 16) + r.val); omega)
    | ⟨1, _⟩ => exact Fin.ext (by show win0_8.index t 1 * 512 + 1 * j.val = j.val; omega)

theorem cover8 (i : S32768x512.Idx) : ∃ t : Fin cfg0.N, (cfg0.win 8).flush t = true ∧ i ∈ ((cfg0.win 8).blk t).view.set := by
  have h0 : (i 0).val < 32768 := (i 0).isLt
  have h1 : (i 1).val < 512 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx8 t
  refine ⟨t, flush0_8 t, ?_⟩
  show i ∈ ((View.whole main_v7_3).slice (win0_8.rect t)).set
  rw [View.set_slice_whole, Rect.mem_set_unit]
  intro a
  match a with
  | ⟨0, _⟩ => show win0_8.index t 0 * 256 ≤ (i 0).val ∧ (i 0).val < win0_8.index t 0 * 256 + 256; omega
  | ⟨1, _⟩ => show win0_8.index t 1 * 512 ≤ (i 1).val ∧ (i 1).val < win0_8.index t 1 * 512 + 512; omega

/-- The fourth array after the run. -/
theorem final8 : (dats m 0 c).arrAt 8 cfg0.N = result8 m c :=
  (dats m 0 c).arrAt_eq_of_cover 8 (result8 m c) (fun t _ => flushed8 m c t) cover8

end Cert.ProjWhole

end
-- ==== Proof.ProjRef.lean ====
/- The reference's input projection, over the extended reals: at a token and a column it is `ProjSpec.proj`. -/
module

public import proofs.«01_k».proof.Proof.ProjSpec
public import proofs.«01_k».proof.Proof.Gen.Reference2Ideal.Run
public import Idealize.ShloMosaic.Lib.ValueLayout
public import Idealize.ShloMosaic.Lib.MatmulPlain
public import Idealize.ShloMosaic.Lib.IdealHost
public import Idealize.ShloMosaic.Lib.Pipeline.Value

@[expose] public section

set_option maxRecDepth 16384

noncomputable section

namespace Cert.ProjRef

open Cert.Reference2Ideal Cert.Reference2Ideal.Gen
open Idealize.ShloMosaic Idealize.ShloMosaic.ValueIdx
open scoped BigOperators

/-- The tokens' sums of squares. -/
def squares (x : FVec Ideal S8x4096x1024 .f32) : FVec Ideal S8x4096 .f32 :=
  Host.reduceAdd (mulf x x) (constant S_ .f32 0x00000000#32) reducesTo_S8x4096x1024_S8x4096_d2 h_S_

/-- The tokens' norms. -/
def norms (x : FVec Ideal S8x4096x1024 .f32) : FVec Ideal S8x4096x1 .f32 :=
  Host.rsqrt (addf (Host.divf (broadcastInDim S8x4096x1 ![0, 1] bcast_S8x4096_S8x4096x1_0_1 (squares x))
    (broadcastInDim S8x4096x1 ![] bcast_S_S8x4096x1 (constant S_ .f32 0x44800000#32)))
    (broadcastInDim S8x4096x1 ![] bcast_S_S8x4096x1 (constant S_ .f32 0x358637BD#32)))

/-- The gain for every token. -/
def gains (g : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 g)

/-- A sequence's row for each of its tokens. -/
def rows (s : FVec Ideal S8x1x1024 .f32) : FVec Ideal S8x4096x1024 .f32 :=
  broadcastInDim S8x4096x1024 ![0, 1, 2] bcast_S8x1x1024_S8x4096x1024_0_1_2 s

/-- The sequences' rows with an axis for the tokens. -/
def lifted (s : FVec Ideal S8x1024 .f32) : FVec Ideal S8x1x1024 .f32 := broadcastInDim S8x1x1024 ![0, 2] bcast_S8x1024_S8x1x1024_0_2 s

/-- The activations. -/
def acts (x : FVec Ideal S8x4096x1024 .f32) (g : FVec Ideal S1024 .f32) (s h : FVec Ideal S8x1024 .f32) : FVec Ideal S8x4096x1024 .f32 :=
  addf (mulf (mulf (mulf x (broadcastInDim S8x4096x1024 ![0, 1, 2] bcast_S8x4096x1_S8x4096x1024_0_1_2 (norms x))) (gains g))
    (rows (addf (broadcastInDim S8x1x1024 ![] bcast_S_S8x1x1024 (constant S_ .f32 0x3F800000#32)) (lifted s)))) (rows (lifted h))

/-- The product. -/
def product (x : FVec Ideal S8x4096x1024 .f32) (g : FVec Ideal S1024 .f32) (s h : FVec Ideal S8x1024 .f32) (w : FVec Ideal S1024x3200 .f32) :
    FVec Ideal S8x4096x3200 .f32 :=
  Host.dotGeneral dot_S8x4096x1024_S1024x3200_S8x4096x3200_2_0_01_1_n_n none (acts x g s h) w

theorem reduces : S8x4096x1024.Reduces [2] S8x4096 := by decide

theorem lift_eq (b : Fin 8) (n : Fin 4096) (e : Fin 1024) : reduces.lift (ix2 b n) e = ix3 b n e := by
  funext a
  match a with
  | ⟨0, _⟩ => rfl
  | ⟨1, _⟩ => rfl
  | ⟨2, _⟩ => rfl

theorem squares_apply (x : FVec Ideal S8x4096x1024 .f32) (b : Fin 8) (n : Fin 4096) :
    squares x (ix2 b n) = ∑ e : Fin 1024, (x (ix3 b n e) * x (ix3 b n e) : EReal) := by
  unfold squares
  refine (Ideal.hostReduceAdd_single reducesTo_S8x4096x1024_S8x4096_d2 reduces (mulf x x) _ (ix2 b n)).trans ?_
  have h0 : constant (F := Ideal) S_ .f32 0x00000000#32 (Shape.Idx.first h_S_) = (0 : EReal) := Ideal.ofBits_zero_f32
  rw [h0, zero_add]
  exact Finset.sum_congr rfl fun e _ => congrArg (mulf x x) (lift_eq b n e)

theorem norms_apply (x : FVec Ideal S8x4096x1024 .f32) (b : Fin 8) (n : Fin 4096) :
    norms x (ix3 b n (0 : Fin 1)) = Cert.ProjSpec.norm fun e => x (ix3 b n e) := by
  have h : broadcastInDim S8x4096x1 ![0, 1] bcast_S8x4096_S8x4096x1_0_1 (squares x) (ix3 b n (0 : Fin 1)) = squares x (ix2 b n) :=
    broadcastInDim_apply _ _ _ _ (ix2 b n) fun a => by
      match a with
      | ⟨0, _⟩ => rfl
      | ⟨1, _⟩ => rfl
  show Ideal.rsqrt (Ideal.div (broadcastInDim S8x4096x1 ![0, 1] bcast_S8x4096_S8x4096x1_0_1 (squares x) (ix3 b n (0 : Fin 1)))
    (Ideal.ofBits .f32 0x44800000#32) + Ideal.ofBits .f32 0x358637BD#32) = _
  rw [h, squares_apply]
  rfl

theorem gains_apply (g : FVec Ideal S1024 .f32) (b : Fin 8) (n : Fin 4096) (e : Fin 1024) : gains g (ix3 b n e) = g (ix1 e) := by
  unfold gains
  refine (broadcastInDim_apply _ _ _ _ (ix3 (0 : Fin 1) (0 : Fin 1) e) fun a => ?_).trans (broadcastInDim_apply _ _ _ _ (ix1 e) fun a => ?_)
  · match a with
    | ⟨0, _⟩ => rfl
    | ⟨1, _⟩ => rfl
    | ⟨2, _⟩ => rfl
  · match a with
    | ⟨0, _⟩ => rfl

theorem rows_apply (s : FVec Ideal S8x1x1024 .f32) (b : Fin 8) (n : Fin 4096) (e : Fin 1024) : rows s (ix3 b n e) = s (ix3 b (0 : Fin 1) e) :=
  broadcastInDim_apply _ _ _ _ (ix3 b (0 : Fin 1) e) fun a => by
    match a with
    | ⟨0, _⟩ => rfl
    | ⟨1, _⟩ => rfl
    | ⟨2, _⟩ => rfl

theorem lifted_apply (s : FVec Ideal S8x1024 .f32) (b : Fin 8) (e : Fin 1024) : lifted s (ix3 b (0 : Fin 1) e) = s (ix2 b e) :=
  broadcastInDim_apply _ _ _ _ (ix2 b e) fun a => by
    match a with
    | ⟨0, _⟩ => rfl
    | ⟨1, _⟩ => rfl

theorem acts_apply (x : FVec Ideal S8x4096x1024 .f32) (g : FVec Ideal S1024 .f32) (s h : FVec Ideal S8x1024 .f32) (b : Fin 8) (n : Fin 4096) (e : Fin 1024) :
    acts x g s h (ix3 b n e) = Cert.ProjSpec.act (fun e => x (ix3 b n e)) (fun e => g (ix1 e))
      (fun e => Ideal.ofBits .f32 0x3F800000#32 + s (ix2 b e)) (fun e => h (ix2 b e)) e := by
  have hn : broadcastInDim S8x4096x1024 ![0, 1, 2] bcast_S8x4096x1_S8x4096x1024_0_1_2 (norms x) (ix3 b n e) = norms x (ix3 b n (0 : Fin 1)) :=
    broadcastInDim_apply _ _ _ _ (ix3 b n (0 : Fin 1)) fun a => by
      match a with
      | ⟨0, _⟩ => rfl
      | ⟨1, _⟩ => rfl
      | ⟨2, _⟩ => rfl
  show x (ix3 b n e) * broadcastInDim S8x4096x1024 ![0, 1, 2] bcast_S8x4096x1_S8x4096x1024_0_1_2 (norms x) (ix3 b n e) * gains g (ix3 b n e)
    * rows (addf (broadcastInDim S8x1x1024 ![] bcast_S_S8x1x1024 (constant S_ .f32 0x3F800000#32)) (lifted s)) (ix3 b n e) + rows (lifted h) (ix3 b n e) = _
  rw [hn, norms_apply, gains_apply, rows_apply, rows_apply, lifted_apply]
  show _ * (Ideal.ofBits .f32 0x3F800000#32 + lifted s (ix3 b (0 : Fin 1) e)) + _ = _
  rw [lifted_apply]
  rfl

/-- The product, at a token and a column. -/
theorem product_apply (x : FVec Ideal S8x4096x1024 .f32) (g : FVec Ideal S1024 .f32) (s h : FVec Ideal S8x1024 .f32) (w : FVec Ideal S1024x3200 .f32)
    (b : Fin 8) (n : Fin 4096) (j : Fin 3200) :
    product x g s h w (ix3 b n j) = Cert.ProjSpec.proj (fun e => x (ix3 b n e)) (fun e => g (ix1 e))
      (fun e => Ideal.ofBits .f32 0x3F800000#32 + s (ix2 b e)) (fun e => h (ix2 b e)) (fun e => w (ix2 e j)) := by
  unfold product
  simp only [Host.dotGeneral]
  rw [Ideal.dotGeneral_apply, ← Equiv.sum_comp (contrEquiv1 dot_S8x4096x1024_S1024x3200_S8x4096x3200_2_0_01_1_n_n 1024 rfl rfl).symm]
  refine Finset.sum_congr rfl fun e _ => ?_
  have he := contrEquiv1_symm_val dot_S8x4096x1024_S1024x3200_S8x4096x3200_2_0_01_1_n_n 1024 rfl rfl e
  refine congrArg₂ (· * ·) ((congrArg (acts x g s h) (funext fun a => Fin.ext ?_)).trans (acts_apply x g s h b n e)) (congrArg w (funext fun a => Fin.ext ?_))
  · match a with
    | ⟨0, _⟩ => rfl
    | ⟨1, _⟩ => rfl
    | ⟨2, _⟩ => exact he
  · match a with
    | ⟨0, _⟩ => exact he
    | ⟨1, _⟩ => rfl

/-- The first group of columns, the sequences side by side. -/
def first (u : FVec Ideal S8x4096x3200 .f32) : FVec Ideal S4096x9216 .f32 :=
  shapeCast _ (transpose S4096x8x1152 [1, 0, 2] (extractStridedSlice S8x4096x1152 ![0, 0, 0] u slices_S8x4096x3200_S8x4096x1152_0_0_0)
    transposes_S8x4096x1152_S4096x8x1152_1_0_2) shapeCasts_S4096x8x1152_S4096x9216

/-- The second. -/
def second (u : FVec Ideal S8x4096x3200 .f32) : FVec Ideal S32768x768 .f32 :=
  shapeCast _ (extractStridedSlice S8x4096x768 ![0, 0, 1152] u slices_S8x4096x3200_S8x4096x768_0_0_1152) shapeCasts_S8x4096x768_S32768x768

/-- The third. -/
def third (u : FVec Ideal S8x4096x3200 .f32) : FVec Ideal S32768x768 .f32 :=
  shapeCast _ (extractStridedSlice S8x4096x768 ![0, 0, 1920] u slices_S8x4096x3200_S8x4096x768_0_0_1920) shapeCasts_S8x4096x768_S32768x768

/-- The fourth. -/
def fourth (u : FVec Ideal S8x4096x3200 .f32) : FVec Ideal S32768x512 .f32 :=
  shapeCast _ (extractStridedSlice S8x4096x512 ![0, 0, 2688] u slices_S8x4096x3200_S8x4096x512_0_0_2688) shapeCasts_S8x4096x512_S32768x512

theorem first_apply (u : FVec Ideal S8x4096x3200 .f32) (b : Fin 8) (n : Fin 4096) (j : Fin 1152) :
    first u (ix2 n (⟨1152 * b.val + j.val, by omega⟩ : Fin 9216)) = u (ix3 b n (⟨j.val, by omega⟩ : Fin 3200)) := by
  unfold first
  refine (shapeCast_apply _ _ _ (ix3 n b j) ?_).trans ?_
  · rw [Shape.rowMajor_val_three, Shape.rowMajor_val_two]
    show (n.val * 8 + b.val) * 1152 + j.val = n.val * 9216 + (1152 * b.val + j.val)
    omega
  · refine Eq.trans (b := extractStridedSlice S8x4096x1152 ![0, 0, 0] u slices_S8x4096x3200_S8x4096x1152_0_0_0 (ix3 b n j)) ?_
      (extractStridedSlice_apply ![0, 0, 0] u slices_S8x4096x3200_S8x4096x1152_0_0_0 (ix3 b n j) (ix3 b n (⟨j.val, by omega⟩ : Fin 3200)) fun a => ?_)
    · refine congrArg (extractStridedSlice S8x4096x1152 ![0, 0, 0] u slices_S8x4096x3200_S8x4096x1152_0_0_0) (funext fun a => ?_)
      match a with
      | ⟨0, _⟩ => rfl
      | ⟨1, _⟩ => rfl
      | ⟨2, _⟩ => rfl
    · match a with
      | ⟨0, _⟩ => show b.val = 0 + b.val; omega
      | ⟨1, _⟩ => show n.val = 0 + n.val; omega
      | ⟨2, _⟩ => show j.val = 0 + j.val; omega

theorem second_apply (u : FVec Ideal S8x4096x3200 .f32) (b : Fin 8) (n : Fin 4096) (j : Fin 768) :
    second u (ix2 (⟨4096 * b.val + n.val, by omega⟩ : Fin 32768) j) = u (ix3 b n (⟨j.val + 1152, by omega⟩ : Fin 3200)) := by
  unfold second
  refine (shapeCast_apply _ _ _ (ix3 b n j) ?_).trans (extractStridedSlice_apply ![0, 0, 1152] u _ (ix3 b n j) _ fun a => ?_)
  · rw [Shape.rowMajor_val_three, Shape.rowMajor_val_two]
    show (b.val * 4096 + n.val) * 768 + j.val = (4096 * b.val + n.val) * 768 + j.val
    omega
  · match a with
    | ⟨0, _⟩ => show b.val = 0 + b.val; omega
    | ⟨1, _⟩ => show n.val = 0 + n.val; omega
    | ⟨2, _⟩ => show j.val + 1152 = 1152 + j.val; omega

theorem third_apply (u : FVec Ideal S8x4096x3200 .f32) (b : Fin 8) (n : Fin 4096) (j : Fin 768) :
    third u (ix2 (⟨4096 * b.val + n.val, by omega⟩ : Fin 32768) j) = u (ix3 b n (⟨j.val + 1920, by omega⟩ : Fin 3200)) := by
  unfold third
  refine (shapeCast_apply _ _ _ (ix3 b n j) ?_).trans (extractStridedSlice_apply ![0, 0, 1920] u _ (ix3 b n j) _ fun a => ?_)
  · rw [Shape.rowMajor_val_three, Shape.rowMajor_val_two]
    show (b.val * 4096 + n.val) * 768 + j.val = (4096 * b.val + n.val) * 768 + j.val
    omega
  · match a with
    | ⟨0, _⟩ => show b.val = 0 + b.val; omega
    | ⟨1, _⟩ => show n.val = 0 + n.val; omega
    | ⟨2, _⟩ => show j.val + 1920 = 1920 + j.val; omega

theorem fourth_apply (u : FVec Ideal S8x4096x3200 .f32) (b : Fin 8) (n : Fin 4096) (j : Fin 512) :
    fourth u (ix2 (⟨4096 * b.val + n.val, by omega⟩ : Fin 32768) j) = u (ix3 b n (⟨j.val + 2688, by omega⟩ : Fin 3200)) := by
  unfold fourth
  refine (shapeCast_apply _ _ _ (ix3 b n j) ?_).trans (extractStridedSlice_apply ![0, 0, 2688] u _ (ix3 b n j) _ fun a => ?_)
  · rw [Shape.rowMajor_val_three, Shape.rowMajor_val_two]
    show (b.val * 4096 + n.val) * 512 + j.val = (4096 * b.val + n.val) * 512 + j.val
    omega
  · match a with
    | ⟨0, _⟩ => show b.val = 0 + b.val; omega
    | ⟨1, _⟩ => show n.val = 0 + n.val; omega
    | ⟨2, _⟩ => show j.val + 2688 = 2688 + j.val; omega

end Cert.ProjRef

end
-- ==== Proof.ProjEqual.lean ====
/- The two programs' projections are the same arrays. -/
module

public import proofs.«01_k».proof.Proof.ProjWhole
public import proofs.«01_k».proof.Proof.ProjRef

@[expose] public section

set_option maxRecDepth 16384

noncomputable section

namespace Cert.ProjEqual

open Idealize.ShloMosaic Idealize.ShloMosaic.TcCoe Idealize.ShloMosaic.ValueIdx
open Cert.Kernel2Ideal

variable (m : (ℓ : Loc nD τ sig) → Buf (Elt Ideal) ℓ) (c : Dev nD)

/-- The reference's product, from the same arguments. -/
def product : FVec Ideal Cert.Reference2Ideal.S8x4096x3200 .f32 :=
  Cert.ProjRef.product (m ((c : Thread nD τ).loc main_arg0)) (m ((c : Thread nD τ).loc main_arg1)) (m ((c : Thread nD τ).loc main_arg2))
    (m ((c : Thread nD τ).loc main_arg3)) (m ((c : Thread nD τ).loc main_arg4))

theorem product_apply (b : Fin 8) (n : Fin 4096) (j : Fin 3200) : product m c (ix3 b n j) = Cert.ProjWhole.value m c b n j :=
  Cert.ProjRef.product_apply _ _ _ _ _ b n j

theorem same5 : Cert.ProjRef.first (product m c) = Cert.ProjWhole.result5 m c := by
  funext i
  obtain ⟨n, k, rfl⟩ : ∃ (n : Fin 4096) (k : Fin 9216), i = ix2 n k := ⟨i 0, i 1, eq_ix2 i⟩
  obtain ⟨b, j, rfl⟩ : ∃ (b : Fin 8) (j : Fin 1152), k = ⟨1152 * b.val + j.val, by omega⟩ :=
    ⟨⟨k.val / 1152, by omega⟩, ⟨k.val % 1152, by omega⟩, Fin.ext (by show k.val = 1152 * (k.val / 1152) + k.val % 1152; omega)⟩
  exact (Cert.ProjRef.first_apply _ b n j).trans ((product_apply m c b n _).trans (Cert.ProjWhole.result5_apply m c b n j).symm)

/-- A row of all sequences, by its sequence and its token. -/
theorem row (k : Fin 32768) : ∃ (b : Fin 8) (n : Fin 4096), k = ⟨4096 * b.val + n.val, by omega⟩ :=
  ⟨⟨k.val / 4096, by omega⟩, ⟨k.val % 4096, by omega⟩, Fin.ext (by show k.val = 4096 * (k.val / 4096) + k.val % 4096; omega)⟩

theorem same6 : Cert.ProjRef.second (product m c) = Cert.ProjWhole.result6 m c := by
  funext i
  obtain ⟨k, j, rfl⟩ : ∃ (k : Fin 32768) (j : Fin 768), i = ix2 k j := ⟨i 0, i 1, eq_ix2 i⟩
  obtain ⟨b, n, rfl⟩ := row k
  exact (Cert.ProjRef.second_apply _ b n j).trans ((product_apply m c b n _).trans (Cert.ProjWhole.result6_apply m c b n j).symm)

theorem same7 : Cert.ProjRef.third (product m c) = Cert.ProjWhole.result7 m c := by
  funext i
  obtain ⟨k, j, rfl⟩ : ∃ (k : Fin 32768) (j : Fin 768), i = ix2 k j := ⟨i 0, i 1, eq_ix2 i⟩
  obtain ⟨b, n, rfl⟩ := row k
  exact (Cert.ProjRef.third_apply _ b n j).trans ((product_apply m c b n _).trans (Cert.ProjWhole.result7_apply m c b n j).symm)

theorem same8 : Cert.ProjRef.fourth (product m c) = Cert.ProjWhole.result8 m c := by
  funext i
  obtain ⟨k, j, rfl⟩ : ∃ (k : Fin 32768) (j : Fin 512), i = ix2 k j := ⟨i 0, i 1, eq_ix2 i⟩
  obtain ⟨b, n, rfl⟩ := row k
  exact (Cert.ProjRef.fourth_apply _ b n j).trans ((product_apply m c b n _).trans (Cert.ProjWhole.result8_apply m c b n j).symm)

end Cert.ProjEqual

end
-- ==== Proof.ProjFrame.lean ====
/- The projection's frame at the words, from the run of the same text read over any float values. -/
module

public import proofs.«01_k».proof.Proof.Gen.Kernel2Ideal.Frame
public import proofs.«01_k».proof.Proof.Gen.Kernel2
public import proofs.«01_k».proof.Defs

@[expose] public section

set_option maxRecDepth 65536

namespace Cert.ProjFrame

open Idealize.ShloMosaic Idealize.SL.Sem

local instance : Cert.Kernel2.Facts := Cert.Kernel2.Gen.facts
local instance : Cert.Kernel2Ideal.Facts := Cert.Kernel2Ideal.Gen.facts

/-- The two texts' bodies are one, -/
theorem bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl
  | ⟨_ + 1, h⟩, _ => exact absurd h (Nat.not_lt.2 (Nat.le_add_left _ _))

/-- and so are their calls. -/
theorem defs_eq : Cert.Kernel2.defs (F := Bits) = Cert.Kernel2Ideal.defs (F := Bits) :=
  congrArg (Pipeline.defs Cert.Kernel2.pcfgs) bodies

/-- The frame at the words. -/
theorem frame : Cert.quiescent_Kernel2 := fun m g _ => by
  rw [defs_eq]
  exact Cert.Kernel2Ideal.Gen.frame (F := Bits) m g

end Cert.ProjFrame
-- ==== Proof.MlpBody.lean ====
/- One grid point of the expert MLP, for any float values and any contents of its two tables.

   The point reads its expert and the expert of the point before. At the first point, and where the two differ, it takes
   the three weight blocks into scratch. It then stores the block's result, or zeros at a point beyond the blocks in use. -/
module

public import proofs.«01_k».proof.Proof.Rows
public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.MlpBody

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The two tables and the three scratch buffers. -/
abbrev experts : Memref sig .tc .smem S288 .i32 := Memref.whole main_arg1
abbrev used : Memref sig .tc .smem S1 .i32 := Memref.whole main_arg2
abbrev gate : Memref sig .tc .vmem S1024x512 .bf16 := Memref.whole cc0_scratch0
abbrev up : Memref sig .tc .vmem S1024x512 .bf16 := Memref.whole cc0_scratch1
abbrev down : Memref sig .tc .vmem S512x1024 .bf16 := Memref.whole cc0_scratch2

/-- The words the point reads: its expert, the expert of the point before, the number of blocks in use. -/
abbrev here (T : S288.Idx → BitVec 32) (i : grid0.Coords) : BitVec 32 :=
  View.readAt (Elt F) experts.view (Rect.unit (s := S288) (k0_off1 i) S1.size (k0_off1_inb i)).toLoadRect T (Shape.Idx.first (numel1_S1.symm ▸ Nat.one_pos))
abbrev before (T : S288.Idx → BitVec 32) (i : grid0.Coords) : BitVec 32 :=
  View.readAt (Elt F) experts.view (Rect.unit (s := S288) (k0_off2 i) S1.size (k0_off2_inb i)).toLoadRect T (Shape.Idx.first (numel1_S1.symm ▸ Nat.one_pos))
abbrev count (U : S1.Idx → BitVec 32) : BitVec 32 :=
  View.readAt (Elt F) used.view (Rect.unit (s := S1) ![0] S1.size inb_S1_S1_0).toLoadRect U (Shape.Idx.first (numel1_S1.symm ▸ Nat.one_pos))

/-- Whether the point takes the weights into scratch. -/
abbrev Takes (F : FTy → Type) [FloatOps F] (T : S288.Idx → BitVec 32) (i : grid0.Coords) : Prop :=
  Scalar.cmpi .ne (Scalar.extui (Scalar.ori (Scalar.cmpi .eq (BitVec.ofNat 32 (i 0).val) 0#32) (Scalar.cmpi .ne (here (F := F) T i) (before (F := F) T i)))) 0#32 = 1#1

/-- A point is in use or beyond use, never both. -/
theorem beyond_iff (i : grid0.Coords) (u : BitVec 32) : k0_cond3 i u = 1#1 ↔ ¬ k0_cond2 i u = 1#1 := by
  unfold k0_cond3 k0_cond2
  generalize BitVec.ofNat 32 (i 0).val = a
  have e : u.sle a = !a.slt u := by simp [BitVec.sle_eq_not_slt]
  by_cases h : a.slt u = true
  · simp [Scalar.cmpi, Scalar.extui, IntOp.cmpi, e, h]
  · simp [Scalar.cmpi, Scalar.extui, IntOp.cmpi, e, h]

/-- A load of a whole buffer reads what it holds, -/
theorem load_whole {sp : Space} {s : Shape} {e : EltTy} (v : View sig .tc sp s e) {off : Fin s.rank → ℕ} (h0 : off = fun _ => 0)
    (h : ∀ a, off a + s.size a ≤ s.size a) (x : s.Idx → Elt F e) :
    v.readAt (Elt F) (Rect.unit off s.size h).toLoadRect (v.rep x) = x := by
  rw [View.readAt_eq_ld, View.read_rep]; exact View.ld_unit_zero h0 h x

/-- and a store over a whole buffer leaves its payload. -/
theorem store_whole {sp : Space} {s : Shape} {e : EltTy} (v : View sig .tc sp s e) (f : v.ty.Contents (Elt F)) {off : Fin s.rank → ℕ}
    (h0 : off = fun _ => 0) (h : ∀ a, off a + s.size a ≤ s.size a) (x : s.Idx → Elt F e) :
    v.read (Elt F) (v.writes (Elt F) f [⟨Rect.unit off s.size h, x⟩]) = x := by
  subst h0
  funext y
  have := View.read_writes_cons_emb v f (Rect.whole s) x [] y
  rw [Rect.emb_whole_apply] at this
  exact this

/-- The same of a buffer named whole. -/
theorem fill (b : Ref sig .tc) (f : b.ty.Contents (Elt F)) {off : Fin b.ty.shape.rank → ℕ} (h0 : off = fun _ => 0)
    (h : ∀ a, off a + b.ty.shape.size a ≤ b.ty.shape.size a) (x : b.ty.shape.Idx → Elt F b.ty.elt) :
    (View.whole b).writes (Elt F) f [⟨Rect.unit off b.ty.shape.size h, x⟩] = x :=
  (View.read_whole b _).symm.trans (store_whole (View.whole b) f h0 h x)

/-- A load of a whole buffer just stored over reads the payload. -/
theorem load_stored {sp : Space} {s : Shape} {e : EltTy} (v : View sig .tc sp s e) {off : Fin s.rank → ℕ}
    (h h' : ∀ a, off a + s.size a ≤ s.size a) (x : s.Idx → Elt F e) :
    v.readCov (Val := Elt F) [⟨Rect.unit off s.size h', x⟩] (Rect.unit off s.size h).toLoadRect = x :=
  Rows.readAt_same v _ h h' x []

/-- A load of a whole scratch buffer. -/
theorem load_gate (h : ∀ a, (![0, 0] : Fin 2 → ℕ) a + S1024x512.size a ≤ S1024x512.size a) (b : Vec F S1024x512 .bf16) :
    View.readAt (Elt F) gate.view (Rect.unit (s := S1024x512) ![0, 0] S1024x512.size h).toLoadRect b = b := by
  rw [View.readAt_eq_ld]; exact View.ld_unit_zero (by decide) h _
theorem load_up (h : ∀ a, (![0, 0] : Fin 2 → ℕ) a + S1024x512.size a ≤ S1024x512.size a) (b : Vec F S1024x512 .bf16) :
    View.readAt (Elt F) up.view (Rect.unit (s := S1024x512) ![0, 0] S1024x512.size h).toLoadRect b = b := by
  rw [View.readAt_eq_ld]; exact View.ld_unit_zero (by decide) h _
theorem load_down (h : ∀ a, (![0, 0] : Fin 2 → ℕ) a + S512x1024.size a ≤ S512x1024.size a) (b : Vec F S512x1024 .bf16) :
    View.readAt (Elt F) down.view (Rect.unit (s := S512x1024) ![0, 0] S512x1024.size h).toLoadRect b = b := by
  rw [View.readAt_eq_ld]; exact View.ld_unit_zero (by decide) h _

theorem z2 : (![0, 0] : Fin 2 → ℕ) = fun _ => 0 := by decide
theorem z3 : (![0, 0, 0] : Fin 3 → ℕ) = fun _ => 0 := by decide

/-- A store over a whole scratch buffer. -/
theorem fill_gate (h : ∀ a, (![0, 0] : Fin 2 → ℕ) a + S1024x512.size a ≤ S1024x512.size a) (f : gate.view.ty.Contents (Elt F)) (b : Vec F S1024x512 .bf16) :
    gate.view.writes (Elt F) f [⟨Rect.unit (s := S1024x512) ![0, 0] S1024x512.size h, b⟩] = b := fill cc0_scratch0 f z2 h b
theorem fill_up (h : ∀ a, (![0, 0] : Fin 2 → ℕ) a + S1024x512.size a ≤ S1024x512.size a) (f : up.view.ty.Contents (Elt F)) (b : Vec F S1024x512 .bf16) :
    up.view.writes (Elt F) f [⟨Rect.unit (s := S1024x512) ![0, 0] S1024x512.size h, b⟩] = b := fill cc0_scratch1 f z2 h b
theorem fill_down (h : ∀ a, (![0, 0] : Fin 2 → ℕ) a + S512x1024.size a ≤ S512x1024.size a) (f : down.view.ty.Contents (Elt F)) (b : Vec F S512x1024 .bf16) :
    down.view.writes (Elt F) f [⟨Rect.unit (s := S512x1024) ![0, 0] S512x1024.size h, b⟩] = b := fill cc0_scratch2 f z2 h b

variable (c : Dev nD) (i : grid0.Coords)
  (arg3 : Memref sig .tc .vmem S256x1024 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x512x1024 .f32) (harg6 : arg6.IsWhole)
  (arg7 : Memref sig .tc .vmem S256x1024 .f32) (harg7 : arg7.IsWhole)
  (T : S288.Idx → BitVec 32) (U : S1.Idx → BitVec 32)
  (x : Vec F S256x1024 .f32) (w1 w3 : Vec F S1x1024x512 .f32) (w2 : Vec F S1x512x1024 .f32)

/-- What the point stores, from the block and the scratch buffers' contents. -/
def stored (a1 a3 : Vec F S1024x512 .bf16) (a2 : Vec F S512x1024 .bf16) : Vec F S256x1024 .f32 :=
  if k0_cond2 i (count (F := F) U) = 1#1 then k0_pay4 x a1 a3 a2 else k0_pay5

set_option maxHeartbeats 8000000 in
/-- A point that takes the weights leaves their casts in scratch. -/
theorem run_takes (b1 b3 : Vec F S1024x512 .bf16) (b2 : Vec F S512x1024 .bf16)
    (hc : Takes F T i)
    (K : PUnit → sProp (MT nD τ sig Unit (Elt F) ℕ (UR sig nD τ) ℕ)) :
    iprop((arg3.view.loc (c : Thread nD τ) ↦[arg3.view.set]{fullShare} arg3.view.rep x) ∗ (arg4.view.loc (c : Thread nD τ) ↦[arg4.view.set]{fullShare} arg4.view.rep w1)
        ∗ (arg5.view.loc (c : Thread nD τ) ↦[arg5.view.set]{fullShare} arg5.view.rep w3) ∗ (arg6.view.loc (c : Thread nD τ) ↦[arg6.view.set]{fullShare} arg6.view.rep w2)
        ∗ (experts.view.loc (c : Thread nD τ) ↦{fullShare.right} T) ∗ (used.view.loc (c : Thread nD τ) ↦{fullShare.right} U)
        ∗ (∃ d, owns (c : Thread nD τ) arg7 fullShare d)
        ∗ (gate.view.loc (c : Thread nD τ) ↦{fullShare} b1) ∗ (up.view.loc (c : Thread nD τ) ↦{fullShare} b3) ∗ (down.view.loc (c : Thread nD τ) ↦{fullShare} b2)
        ∗ (iprop((arg3.view.loc (c : Thread nD τ) ↦[arg3.view.set]{fullShare} arg3.view.rep x) ∗ (arg4.view.loc (c : Thread nD τ) ↦[arg4.view.set]{fullShare} arg4.view.rep w1)
            ∗ (arg5.view.loc (c : Thread nD τ) ↦[arg5.view.set]{fullShare} arg5.view.rep w3) ∗ (arg6.view.loc (c : Thread nD τ) ↦[arg6.view.set]{fullShare} arg6.view.rep w2)
            ∗ (experts.view.loc (c : Thread nD τ) ↦{fullShare.right} T) ∗ (used.view.loc (c : Thread nD τ) ↦{fullShare.right} U)
            ∗ owns (c : Thread nD τ) arg7 fullShare (stored i U x (k0_pay1 w1) (k0_pay2 w3) (k0_pay3 w2))
            ∗ (gate.view.loc (c : Thread nD τ) ↦{fullShare} (k0_pay1 w1)) ∗ (up.view.loc (c : Thread nD τ) ↦{fullShare} (k0_pay2 w3)) ∗ (down.view.loc (c : Thread nD τ) ↦{fullShare} (k0_pay3 w2))) -∗ K ⟨⟩))
      ⊢ wp frame (wpE (defs₀ (F := F)) Variants.none c none) Set.univ
          (cc0_expert_mlp i experts (Memref.isWhole_whole _) used (Memref.isWhole_whole _) arg3 harg3 arg4 harg4 arg5 harg5 arg6 harg6 arg7 harg7
            gate (Memref.isWhole_whole _) up (Memref.isWhole_whole _) down (Memref.isWhole_whole _)) K := by
  have hS0 : gate.IsWhole := Memref.isWhole_whole _
  have hS1 : up.IsWhole := Memref.isWhole_whole _
  have hS2 : down.IsWhole := Memref.isWhole_whole _
  have hT0 : experts.IsWhole := Memref.isWhole_whole _
  have hT1 : used.IsWhole := Memref.isWhole_whole _
  unfold owns stored
  rw [cc0_expert_mlp_eq_skeleton]; unfold cc0_expert_mlp_skel
  by_cases h2 : k0_cond2 i (count (F := F) U) = 1#1
  · have h3 : ¬ k0_cond3 i (count (F := F) U) = 1#1 := fun h => (beyond_iff i _).1 h h2
    rw [if_pos h2]
    iintro ⟨H0, H1, H2, H3, HT0, HT1, ⟨%d4, %f4, -, HO4⟩, HS0, HS1, HS2, Hk⟩
    sl_exec! (disch := first | exact hc | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        sl_unfold_words
        rw [store_whole _ _ z2, load_whole _ z2, load_whole _ z3, load_whole _ z3, load_whole _ z3, load_stored, load_stored, load_stored]
    isplitl [HS0]
    · sl_unfold_words; rw [load_whole _ z3, fill_gate]; iexact HS0
    isplitl [HS1]
    · sl_unfold_words; rw [load_whole _ z3, fill_up]; iexact HS1
    sl_unfold_words; rw [load_whole _ z3, fill_down]; iexact HS2
  · have h3 : k0_cond3 i (count (F := F) U) = 1#1 := (beyond_iff i _).2 h2
    rw [if_neg h2]
    iintro ⟨H0, H1, H2, H3, HT0, HT1, ⟨%d4, %f4, -, HO4⟩, HS0, HS1, HS2, Hk⟩
    sl_exec! (disch := first | exact hc | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        sl_unfold_words
        exact store_whole _ _ z2 _ _
    isplitl [HS0]
    · sl_unfold_words; rw [load_whole _ z3, fill_gate]; iexact HS0
    isplitl [HS1]
    · sl_unfold_words; rw [load_whole _ z3, fill_up]; iexact HS1
    sl_unfold_words; rw [load_whole _ z3, fill_down]; iexact HS2

set_option maxHeartbeats 8000000 in
/-- A point that takes none leaves them as they were. -/
theorem run_keeps (b1 b3 : Vec F S1024x512 .bf16) (b2 : Vec F S512x1024 .bf16)
    (hc : ¬ Takes F T i)
    (K : PUnit → sProp (MT nD τ sig Unit (Elt F) ℕ (UR sig nD τ) ℕ)) :
    iprop((arg3.view.loc (c : Thread nD τ) ↦[arg3.view.set]{fullShare} arg3.view.rep x) ∗ (arg4.view.loc (c : Thread nD τ) ↦[arg4.view.set]{fullShare} arg4.view.rep w1)
        ∗ (arg5.view.loc (c : Thread nD τ) ↦[arg5.view.set]{fullShare} arg5.view.rep w3) ∗ (arg6.view.loc (c : Thread nD τ) ↦[arg6.view.set]{fullShare} arg6.view.rep w2)
        ∗ (experts.view.loc (c : Thread nD τ) ↦{fullShare.right} T) ∗ (used.view.loc (c : Thread nD τ) ↦{fullShare.right} U)
        ∗ (∃ d, owns (c : Thread nD τ) arg7 fullShare d)
        ∗ (gate.view.loc (c : Thread nD τ) ↦{fullShare} b1) ∗ (up.view.loc (c : Thread nD τ) ↦{fullShare} b3) ∗ (down.view.loc (c : Thread nD τ) ↦{fullShare} b2)
        ∗ (iprop((arg3.view.loc (c : Thread nD τ) ↦[arg3.view.set]{fullShare} arg3.view.rep x) ∗ (arg4.view.loc (c : Thread nD τ) ↦[arg4.view.set]{fullShare} arg4.view.rep w1)
            ∗ (arg5.view.loc (c : Thread nD τ) ↦[arg5.view.set]{fullShare} arg5.view.rep w3) ∗ (arg6.view.loc (c : Thread nD τ) ↦[arg6.view.set]{fullShare} arg6.view.rep w2)
            ∗ (experts.view.loc (c : Thread nD τ) ↦{fullShare.right} T) ∗ (used.view.loc (c : Thread nD τ) ↦{fullShare.right} U)
            ∗ owns (c : Thread nD τ) arg7 fullShare (stored i U x b1 b3 b2)
            ∗ (gate.view.loc (c : Thread nD τ) ↦{fullShare} b1) ∗ (up.view.loc (c : Thread nD τ) ↦{fullShare} b3) ∗ (down.view.loc (c : Thread nD τ) ↦{fullShare} b2)) -∗ K ⟨⟩))
      ⊢ wp frame (wpE (defs₀ (F := F)) Variants.none c none) Set.univ
          (cc0_expert_mlp i experts (Memref.isWhole_whole _) used (Memref.isWhole_whole _) arg3 harg3 arg4 harg4 arg5 harg5 arg6 harg6 arg7 harg7
            gate (Memref.isWhole_whole _) up (Memref.isWhole_whole _) down (Memref.isWhole_whole _)) K := by
  have hS0 : gate.IsWhole := Memref.isWhole_whole _
  have hS1 : up.IsWhole := Memref.isWhole_whole _
  have hS2 : down.IsWhole := Memref.isWhole_whole _
  have hT0 : experts.IsWhole := Memref.isWhole_whole _
  have hT1 : used.IsWhole := Memref.isWhole_whole _
  unfold owns stored
  rw [cc0_expert_mlp_eq_skeleton]; unfold cc0_expert_mlp_skel
  by_cases h2 : k0_cond2 i (count (F := F) U) = 1#1
  · have h3 : ¬ k0_cond3 i (count (F := F) U) = 1#1 := fun h => (beyond_iff i _).1 h h2
    rw [if_pos h2]
    iintro ⟨H0, H1, H2, H3, HT0, HT1, ⟨%d4, %f4, -, HO4⟩, HS0, HS1, HS2, Hk⟩
    sl_exec! (disch := first | exact hc | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        sl_unfold_words
        rw [store_whole _ _ z2, load_whole _ z2, load_gate, load_up, load_down]
    isplitl [HS0]; · iexact HS0
    isplitl [HS1]; · iexact HS1
    iexact HS2
  · have h3 : k0_cond3 i (count (F := F) U) = 1#1 := (beyond_iff i _).2 h2
    rw [if_neg h2]
    iintro ⟨H0, H1, H2, H3, HT0, HT1, ⟨%d4, %f4, -, HO4⟩, HS0, HS1, HS2, Hk⟩
    sl_exec! (disch := first | exact hc | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        sl_unfold_words
        exact store_whole _ _ z2 _ _
    isplitl [HS0]; · iexact HS0
    isplitl [HS1]; · iexact HS1
    iexact HS2

end Cert.MlpBody

end
-- ==== Proof.MlpTables.lean ====
/- The expert MLP's call at any two tables whose experts are all below 32, for any float values.

   Point `t` reads its rows in order and the weights of expert `T t`. The points of one expert in a row read the same
   weights, which is why they may be kept in scratch. -/
module

public import proofs.«01_k».proof.Proof.MlpBody
public import Idealize.ShloMosaic.PureOps.Ideal
public import Idealize.ShloMosaic.Lib.ValueLayout

@[expose] public section

set_option maxRecDepth 16384
set_option backward.proofsInPublic true

noncomputable section

namespace Cert.MlpRun

open Cert.Kernel3Ideal Cert.Kernel3Ideal.Gen Cert.MlpBody
open Idealize.ShloMosaic Idealize.ShloMosaic.TcCoe Idealize.ShloMosaic.Tactic Idealize.ShloMosaic.ValueIdx
open Idealize.ShloMosaic.Pipeline (Dat Cfg Window)

variable {F : FTy → Type} [FloatOps F]
variable (T : S288.Idx → BitVec 32) (U : S1.Idx → BitVec 32) (hT : ∀ x, (T x).toNat < 32)

/-! ## The words a point reads -/

theorem coord : ∀ t : Fin grid0.N, (grid0.coords t 0).val = t.val := by decide +kernel
theorem off1 : ∀ t : Fin grid0.N, k0_off1 (grid0.coords t) 0 = t.val := by decide +kernel
theorem off2 : ∀ t : Fin grid0.N, k0_off2 (grid0.coords t) 0 = t.val - 1 := by decide +kernel

/-- Point `t`'s place in the table of experts. -/
abbrev place (t : Fin grid0.N) : S288.Idx := ix1 (⟨t.val, Nat.lt_of_lt_of_eq t.isLt N_0⟩ : Fin 288)

/-- A word of the table of experts. -/
theorem word (off : Fin 1 → ℕ) (h : ∀ a, off a + S1.size a ≤ S288.size a) (n : Fin 288) (hn : off 0 = n.val) :
    View.readAt (Elt F) experts.view (Rect.unit (s := S288) off S1.size h).toLoadRect T (Shape.Idx.first (numel1_S1.symm ▸ Nat.one_pos)) = T (ix1 n) := by
  rw [View.readAt_eq_ld]
  refine congrArg T (funext fun a => ?_)
  match a with
  | ⟨0, _⟩ => exact Fin.ext (by show off 0 + 1 * 0 = n.val; omega)

theorem here_eq (t : Fin grid0.N) : here (F := F) T (grid0.coords t) = T (place t) := word T _ _ _ (off1 t)

theorem before_eq (t p : Fin grid0.N) (hp : p.val = t.val - 1) : before (F := F) T (grid0.coords t) = T (place p) :=
  word T _ _ _ ((off2 t).trans hp.symm)

/-- A point that takes nothing is not the first and has the expert of the point before. -/
theorem kept_words (a b c : BitVec 32)
    (h : ¬ Scalar.cmpi .ne (Scalar.extui (Scalar.ori (Scalar.cmpi .eq a 0#32) (Scalar.cmpi .ne b c))) 0#32 = 1#1) :
    a ≠ 0#32 ∧ b = c := by
  by_cases h2 : b = c
  · refine ⟨fun h1 => h ?_, h2⟩
    simp [Scalar.cmpi, Scalar.extui, Scalar.ori, IntOp.cmpi, IntOp.ori, h1, h2]
  · have e : (b != c) = true := by simpa using h2
    exact absurd (by cases h1 : (a == 0#32) <;> simp [Scalar.cmpi, Scalar.extui, Scalar.ori, IntOp.cmpi, IntOp.ori, e, h1]) h

theorem kept (t p : Fin grid0.N) (hp : p.val = t.val - 1) (h : ¬ Takes F T (grid0.coords t)) :
    t.val ≠ 0 ∧ T (place t) = T (place p) := by
  obtain ⟨h0, h1⟩ := kept_words _ _ _ h
  refine ⟨fun e => h0 ?_, ((here_eq (F := F) T t).symm.trans h1).trans (before_eq (F := F) T t p hp)⟩
  rw [coord t, e]

/-! ## The call at these tables -/

/-- The two tables. -/
def tables (F : FTy → Type) [FloatOps F] : pre0.Contents (Elt F) := fun
  | ⟨0, _⟩ => T
  | ⟨1, _⟩ => U
  | ⟨_ + 2, h⟩ => absurd h (Nat.not_lt.2 (Nat.le_add_left _ _))

include hT in
theorem bound (i : grid0.Coords) :
    ((tables T U F).at 0 (Rect.unit (s := S288) (k0_off1 i) S1.size (k0_off1_inb i)) numel1_S1).toNat + 1 ≤ 32 :=
  hT ((Rect.unit (s := S288) (k0_off1 i) S1.size (k0_off1_inb i)).emb (Shape.Idx.first (numel1_S1.symm ▸ Nat.one_pos)))

include hT in
/-- The weights of an expert below 32 lie inside their arrays. -/
theorem ok : ok0 (tables T U F) := by
  refine ⟨fun i => ⟨fun a => ?_, Or.inl rfl⟩, fun i => ⟨fun a => ?_, Or.inl rfl⟩, fun i => ⟨fun a => ?_, Or.inl rfl⟩⟩
  all_goals
    match a with
    | ⟨0, _⟩ => exact (Nat.mul_one _).le.trans (bound (F := F) T U hT i)
    | ⟨1, _⟩ => exact Nat.le_of_eq (Nat.one_mul _)
    | ⟨2, _⟩ => exact Nat.le_of_eq (Nat.one_mul _)

/-- The tables as the call admits them, and the call at them. -/
def adm (F : FTy → Type) [FloatOps F] : (pcfg0 (F := F)).Adm := ⟨tables T U F, ok T U hT⟩
abbrev cfgA (F : FTy → Type) [FloatOps F] : Cfg sig Λ₀ := cfg0 (F := F) (adm T U hT F)
abbrev pcs (F : FTy → Type) [FloatOps F] : Fin 1 → Cfg sig Λ₀ := Pipeline.pin (pcfgs (F := F)) fun _ => adm T U hT F

variable (m : (ℓ : Loc nD τ sig) → Buf (Elt F) ℓ) (c : Dev nD)

/-- What a window reads at a point. -/
def iblk (w : Fin (cfgA T U hT F).W) (t : Fin (cfgA T U hT F).N) :
    (((cfgA T U hT F).win w).xblock ((cfgA T U hT F).grid.coords t)).Idx → Elt F ((cfgA T U hT F).win w).elt :=
  (((cfgA T U hT F).win w).blk t).view.read (Elt F) (m (((cfgA T U hT F).win w).arr.view.loc (c : Thread nD τ)))

/-- The expert of a point. -/
abbrev expert (t : Fin grid0.N) : Fin 32 := ⟨(T (place t)).toNat, hT _⟩

theorem index0 : ∀ t : Fin grid0.N, cc0_transform_0 (grid0.coords t) 0 = t.val ∧ cc0_transform_0 (grid0.coords t) 1 = 0 := by decide +kernel
theorem index4 : ∀ t : Fin grid0.N, cc0_transform_4 (grid0.coords t) 0 = t.val ∧ cc0_transform_4 (grid0.coords t) 1 = 0 := by decide +kernel
theorem index1 (t : Fin grid0.N) : cc0_transform_1 k0_off1_inb numel1_S1 (tables T U F) (grid0.coords t) 0 = (T (place t)).toNat := by
  refine congrArg (fun x => (T x).toNat) (funext fun a => ?_)
  match a with
  | ⟨0, _⟩ => exact Fin.ext (by show k0_off1 (grid0.coords t) 0 + 1 * 0 = t.val; have := off1 t; omega)
theorem index2 (t : Fin grid0.N) : cc0_transform_2 k0_off1_inb numel1_S1 (tables T U F) (grid0.coords t) 0 = (T (place t)).toNat := index1 T U t
theorem index3 (t : Fin grid0.N) : cc0_transform_3 k0_off1_inb numel1_S1 (tables T U F) (grid0.coords t) 0 = (T (place t)).toNat := index1 T U t

/-- A point's rows, -/
theorem iblk0 (t : Fin grid0.N) (r : Fin 256) (e : Fin 1024) :
    iblk T U hT m c 0 t (ix2 r e) = m ((c : Thread nD τ).loc main_arg0) (ix2 (⟨256 * t.val + r.val, by have := Nat.lt_of_lt_of_eq t.isLt N_0; omega⟩ : Fin 73728) e) := by
  obtain ⟨h0, h1⟩ := index0 t
  refine congrArg (m ((c : Thread nD τ).loc main_arg0)) (funext fun a => ?_)
  match a with
  | ⟨0, _⟩ => exact Fin.ext (by show cc0_transform_0 (grid0.coords t) 0 * 256 + 1 * r.val = 256 * t.val + r.val; omega)
  | ⟨1, _⟩ => exact Fin.ext (by show cc0_transform_0 (grid0.coords t) 1 * 1024 + 1 * e.val = e.val; omega)

/-- and its expert's weights. -/
theorem iblk1 (t : Fin grid0.N) (a : Fin 1) (e : Fin 1024) (f : Fin 512) :
    iblk T U hT m c 1 t (ix3 a e f) = m ((c : Thread nD τ).loc main_arg3) (ix3 (expert T hT t) e f) := by
  have h := index1 (F := F) T U t
  refine congrArg (m ((c : Thread nD τ).loc main_arg3)) (funext fun b => ?_)
  match b with
  | ⟨0, _⟩ => exact Fin.ext (by show cc0_transform_1 k0_off1_inb numel1_S1 (tables T U F) (grid0.coords t) 0 * 1 + 1 * a.val = (T (place t)).toNat; omega)
  | ⟨1, _⟩ => exact Fin.ext (by show 0 * 1024 + 1 * e.val = e.val; omega)
  | ⟨2, _⟩ => exact Fin.ext (by show 0 * 512 + 1 * f.val = f.val; omega)
theorem iblk2 (t : Fin grid0.N) (a : Fin 1) (e : Fin 1024) (f : Fin 512) :
    iblk T U hT m c 2 t (ix3 a e f) = m ((c : Thread nD τ).loc main_arg4) (ix3 (expert T hT t) e f) := by
  have h := index2 (F := F) T U t
  refine congrArg (m ((c : Thread nD τ).loc main_arg4)) (funext fun b => ?_)
  match b with
  | ⟨0, _⟩ => exact Fin.ext (by show cc0_transform_2 k0_off1_inb numel1_S1 (tables T U F) (grid0.coords t) 0 * 1 + 1 * a.val = (T (place t)).toNat; omega)
  | ⟨1, _⟩ => exact Fin.ext (by show 0 * 1024 + 1 * e.val = e.val; omega)
  | ⟨2, _⟩ => exact Fin.ext (by show 0 * 512 + 1 * f.val = f.val; omega)
theorem iblk3 (t : Fin grid0.N) (a : Fin 1) (f : Fin 512) (e : Fin 1024) :
    iblk T U hT m c 3 t (ix3 a f e) = m ((c : Thread nD τ).loc main_arg5) (ix3 (expert T hT t) f e) := by
  have h := index3 (F := F) T U t
  refine congrArg (m ((c : Thread nD τ).loc main_arg5)) (funext fun b => ?_)
  match b with
  | ⟨0, _⟩ => exact Fin.ext (by show cc0_transform_3 k0_off1_inb numel1_S1 (tables T U F) (grid0.coords t) 0 * 1 + 1 * a.val = (T (place t)).toNat; omega)
  | ⟨1, _⟩ => exact Fin.ext (by show 0 * 512 + 1 * f.val = f.val; omega)
  | ⟨2, _⟩ => exact Fin.ext (by show 0 * 1024 + 1 * e.val = e.val; omega)

/-- Two points of one expert read the same weights. -/
theorem same1 (t p : Fin grid0.N) (h : T (place t) = T (place p)) : iblk T U hT m c 1 t = iblk T U hT m c 1 p := by
  refine funext fun j : S1x1024x512.Idx => ?_
  obtain ⟨a, e, f, rfl⟩ : ∃ (a : Fin 1) (e : Fin 1024) (f : Fin 512), j = ix3 a e f := ⟨j 0, j 1, j 2, eq_ix3 j⟩
  refine (iblk1 T U hT m c t a e f).trans (Eq.trans ?_ (iblk1 T U hT m c p a e f).symm)
  rw [show expert T hT t = expert T hT p from Fin.ext (congrArg BitVec.toNat h)]
theorem same2 (t p : Fin grid0.N) (h : T (place t) = T (place p)) : iblk T U hT m c 2 t = iblk T U hT m c 2 p := by
  refine funext fun j : S1x1024x512.Idx => ?_
  obtain ⟨a, e, f, rfl⟩ : ∃ (a : Fin 1) (e : Fin 1024) (f : Fin 512), j = ix3 a e f := ⟨j 0, j 1, j 2, eq_ix3 j⟩
  refine (iblk2 T U hT m c t a e f).trans (Eq.trans ?_ (iblk2 T U hT m c p a e f).symm)
  rw [show expert T hT t = expert T hT p from Fin.ext (congrArg BitVec.toNat h)]
theorem same3 (t p : Fin grid0.N) (h : T (place t) = T (place p)) : iblk T U hT m c 3 t = iblk T U hT m c 3 p := by
  refine funext fun j : S1x512x1024.Idx => ?_
  obtain ⟨a, e, f, rfl⟩ : ∃ (a : Fin 1) (e : Fin 512) (f : Fin 1024), j = ix3 a e f := ⟨j 0, j 1, j 2, eq_ix3 j⟩
  refine (iblk3 T U hT m c t a e f).trans (Eq.trans ?_ (iblk3 T U hT m c p a e f).symm)
  rw [show expert T hT t = expert T hT p from Fin.ext (congrArg BitVec.toNat h)]

end Cert.MlpRun

end
-- ==== Proof.MlpRun.lean ====
/- The expert MLP's run at any two tables whose experts are all below 32, for any float values.

   Before point `t` the scratch buffers hold the casts of the weights point `t - 1` read: either that point took them, or
   it had the expert of the point before it. -/
module

public import proofs.«01_k».proof.Proof.MlpTables

@[expose] public section

set_option maxRecDepth 16384
set_option backward.proofsInPublic true

noncomputable section

namespace Cert.MlpRun

open Cert.Kernel3Ideal Cert.Kernel3Ideal.Gen Cert.MlpBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (T : S288.Idx → BitVec 32) (U : S1.Idx → BitVec 32) (hT : ∀ x, (T x).toNat < 32)
variable (m : (ℓ : Loc nD τ sig) → Buf (Elt F) ℓ) (ρ : Dev nD → PrngReg) (c : Dev nD)

/-- The assertions' algebra. -/
abbrev Alg (F : FTy → Type) : Type := MT nD τ sig Unit (Elt F) ℕ (UR sig nD τ) ℕ
abbrev cells (F : FTy → Type) : Emb (UR sig nD τ) (Alg F) := emb₁

/-- The point before a position; the first for the first. -/
abbrev last (t : Fin (grid0.N + 1)) : Fin grid0.N := ⟨t.val - 1, by have h := t.isLt; have e : grid0.N = 288 := N_0; omega⟩

/-- What a point stores. -/
abbrev store (t : Fin grid0.N) : Vec F S256x1024 .f32 :=
  stored (grid0.coords t) U (iblk T U hT m c 0 t) (k0_pay1 (iblk T U hT m c 1 t)) (k0_pay2 (iblk T U hT m c 2 t)) (k0_pay3 (iblk T U hT m c 3 t))

/-- What is held before a position: the scratch buffers, and the tables to read. -/
def held (t : Fin (grid0.N + 1)) : sProp (Alg F) :=
  iprop((∃ a, ⌜0 < t.val → a = k0_pay1 (iblk T U hT m c 1 (last t))⌝ ∗ (gate.view.loc (c : Thread nD τ) ↦{fullShare} a))
    ∗ (∃ a, ⌜0 < t.val → a = k0_pay2 (iblk T U hT m c 2 (last t))⌝ ∗ (up.view.loc (c : Thread nD τ) ↦{fullShare} a))
    ∗ (∃ a, ⌜0 < t.val → a = k0_pay3 (iblk T U hT m c 3 (last t))⌝ ∗ (down.view.loc (c : Thread nD τ) ↦{fullShare} a))
    ∗ (experts.view.loc (c : Thread nD τ) ↦{fullShare.right} T) ∗ (used.view.loc (c : Thread nD τ) ↦{fullShare.right} U))

/-- The call's data: inputs as read, the output as stored. -/
def dats (_ : Fin 1) (c : Dev nD) : Dat τ (Elt F) Unit ℕ (UR sig nD τ) ℕ (cfgA T U hT F) c where
  A w := m (((cfgA T U hT F).win w).arr.view.loc (c : Thread nD τ))
  after w t := match w with
    | ⟨0, _⟩ => iblk T U hT m c (0 : Fin 5) t
    | ⟨1, _⟩ => iblk T U hT m c (1 : Fin 5) t
    | ⟨2, _⟩ => iblk T U hT m c (2 : Fin 5) t
    | ⟨3, _⟩ => iblk T U hT m c (3 : Fin 5) t
    | ⟨4, _⟩ => store T U hT m c t
  Φ t := held T U hT m c t
  q _ := fullShare
  owed _ := 0

theorem after0 (t : Fin (cfgA T U hT F).N) : (dats T U hT m 0 c).after (0 : Fin 5) t = iblk T U hT m c (0 : Fin 5) t := rfl
theorem after1 (t : Fin (cfgA T U hT F).N) : (dats T U hT m 0 c).after (1 : Fin 5) t = iblk T U hT m c (1 : Fin 5) t := rfl
theorem after2 (t : Fin (cfgA T U hT F).N) : (dats T U hT m 0 c).after (2 : Fin 5) t = iblk T U hT m c (2 : Fin 5) t := rfl
theorem after3 (t : Fin (cfgA T U hT F).N) : (dats T U hT m 0 c).after (3 : Fin 5) t = iblk T U hT m c (3 : Fin 5) t := rfl
theorem after4 (t : Fin (cfgA T U hT F).N) : (dats T U hT m 0 c).after (4 : Fin 5) t = store T U hT m c t := rfl

/-- An input window holds its block when the body runs. -/
theorem before0 (t : Fin (cfgA T U hT F).N) (d) : (dats T U hT m 0 c).before (0 : Fin 5) t d = iblk T U hT m c (0 : Fin 5) t :=
  ((dats T U hT m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (t : Fin (cfgA T U hT F).N) (d) : (dats T U hT m 0 c).before (1 : Fin 5) t d = iblk T U hT m c (1 : Fin 5) t :=
  ((dats T U hT m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (t : Fin (cfgA T U hT F).N) (d) : (dats T U hT m 0 c).before (2 : Fin 5) t d = iblk T U hT m c (2 : Fin 5) t :=
  ((dats T U hT m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (t : Fin (cfgA T U hT F).N) (d) : (dats T U hT m 0 c).before (3 : Fin 5) t d = iblk T U hT m c (3 : Fin 5) t :=
  ((dats T U hT m 0 c).before_in_eq_fetched (3 : Fin 5) rfl (fun _ => rfl) (fun _ _ _ => rfl) (fun t => by rw [after3]; unfold Dat.blockOf iblk; rfl) t d).trans
    (by unfold Dat.fetched Dat.blockOf iblk; rfl)

/-- Every point stores its output block. -/
theorem live (t : Fin (cfgA T U hT F).N) : (cfgA T U hT F).idle (4 : Fin 5) ((cfgA T U hT F).grid.coords t) = false := by
  show (!(k0_cond2 (grid0.coords t) ((tables T U F).atD 1 ![0]) == 1#1) && !(k0_cond3 (grid0.coords t) ((tables T U F).atD 1 ![0]) == 1#1)) = false
  by_cases h : k0_cond2 (grid0.coords t) ((tables T U F).atD 1 ![0]) = 1#1
  · rw [h]; rfl
  · rw [(beyond_iff _ _).2 h]; simp

/-- The staging buffers of a point. -/
abbrev b0 (t : Fin (cfgA T U hT F).N) : Memref sig .tc .vmem S256x1024 .f32 := spec0_0.stage ((cfgA T U hT F).slots t (0 : Fin 5))
abbrev b1 (t : Fin (cfgA T U hT F).N) : Memref sig .tc .vmem S1x1024x512 .f32 := spec0_1.stage ((cfgA T U hT F).slots t (1 : Fin 5))
abbrev b2 (t : Fin (cfgA T U hT F).N) : Memref sig .tc .vmem S1x1024x512 .f32 := spec0_2.stage ((cfgA T U hT F).slots t (2 : Fin 5))
abbrev b3 (t : Fin (cfgA T U hT F).N) : Memref sig .tc .vmem S1x512x1024 .f32 := spec0_3.stage ((cfgA T U hT F).slots t (3 : Fin 5))
abbrev b4 (t : Fin (cfgA T U hT F).N) : Memref sig .tc .vmem S256x1024 .f32 := spec0_4.stage ((cfgA T U hT F).slots t (4 : Fin 5))
theorem w0 (t : Fin (cfgA T U hT F).N) : (b0 T U hT t).IsWhole := hstage0_0 (((cfgA T U hT F).slots t (0 : Fin 5)).cast nbuf0_0)
theorem w1 (t : Fin (cfgA T U hT F).N) : (b1 T U hT t).IsWhole := hstage0_1 (((cfgA T U hT F).slots t (1 : Fin 5)).cast nbuf0_1)
theorem w2 (t : Fin (cfgA T U hT F).N) : (b2 T U hT t).IsWhole := hstage0_2 (((cfgA T U hT F).slots t (2 : Fin 5)).cast nbuf0_2)
theorem w3 (t : Fin (cfgA T U hT F).N) : (b3 T U hT t).IsWhole := hstage0_3 (((cfgA T U hT F).slots t (3 : Fin 5)).cast nbuf0_3)
theorem w4 (t : Fin (cfgA T U hT F).N) : (b4 T U hT t).IsWhole := hstage0_4 (((cfgA T U hT F).slots t (4 : Fin 5)).cast nbuf0_4)

/-- The body as the call runs it at a point. -/
abbrev bodyAt (t : Fin (cfgA T U hT F).N) : Prog (TpuEff nD τ sig (Elt F) Λ₀ .tc) PUnit :=
  cc0_expert_mlp (grid0.coords t) experts (Memref.isWhole_whole _) used (Memref.isWhole_whole _)
    (b0 T U hT t) (w0 T U hT t) (b1 T U hT t) (w1 T U hT t) (b2 T U hT t) (w2 T U hT t) (b3 T U hT t) (w3 T U hT t) (b4 T U hT t) (w4 T U hT t)
    gate (Memref.isWhole_whole _) up (Memref.isWhole_whole _) down (Memref.isWhole_whole _)

set_option maxHeartbeats 4000000 in
/-- The body at a point: from the scratch of the point before to that of this one, its block stored. -/
theorem sound (t : Fin (cfgA T U hT F).N) :
    iprop((dats T U hT m 0 c).Φ t.castSucc ∗ (dats T U hT m 0 c).owesAt () t.castSucc
        ∗ (∃ d, owns (c : Thread nD τ) (b0 T U hT t) fullShare ((dats T U hT m 0 c).before (0 : Fin 5) t d))
        ∗ (∃ d, owns (c : Thread nD τ) (b1 T U hT t) fullShare ((dats T U hT m 0 c).before (1 : Fin 5) t d))
        ∗ (∃ d, owns (c : Thread nD τ) (b2 T U hT t) fullShare ((dats T U hT m 0 c).before (2 : Fin 5) t d))
        ∗ (∃ d, owns (c : Thread nD τ) (b3 T U hT t) fullShare ((dats T U hT m 0 c).before (3 : Fin 5) t d))
        ∗ (∃ d, owns (c : Thread nD τ) (b4 T U hT t) fullShare ((dats T U hT m 0 c).before (4 : Fin 5) t d)))
      ⊢ wp frame (wpE (defs₀ (F := F)) Variants.none c none) Set.univ (bodyAt T U hT t) fun _ =>
          iprop((dats T U hT m 0 c).Φ t.succ ∗ (dats T U hT m 0 c).owesAt () t.succ
            ∗ bigSep Finset.univ fun w : Fin (cfgA T U hT F).W =>
                match (cfgA T U hT F).idle w ((cfgA T U hT F).grid.coords t) with
                | true =>
                  match ((cfgA T U hT F).win w).flush t with
                  | false => iprop(∃ d, owns (c : Thread nD τ) (((cfgA T U hT F).win w).stage ((cfgA T U hT F).slots t w)) fullShare ((dats T U hT m 0 c).before w t d))
                  | true => owns (c : Thread nD τ) (((cfgA T U hT F).win w).stage ((cfgA T U hT F).slots t w)) fullShare ((dats T U hT m 0 c).after w t)
                | false => owns (c : Thread nD τ) (((cfgA T U hT F).win w).stage ((cfgA T U hT F).slots t w)) fullShare ((dats T U hT m 0 c).after w t)) := by
  rw [bigSep_W0]
  rewrite [live T U hT t]
  simp only [before0, before1, before2, before3, after0, after1, after2, after3, after4]
  rewrite [show (dats T U hT m 0 c).Φ t.succ = held T U hT m c t.succ from rfl, show (dats T U hT m 0 c).Φ t.castSucc = held T U hT m c t.castSucc from rfl,
    show (dats T U hT m 0 c).owesAt () t.succ = (dats T U hT m 0 c).owesAt () t.castSucc from rfl]
  unfold held
  by_cases hc : Takes F T (grid0.coords t)
  · iintro ⟨⟨⟨%a0, -, HS0⟩, ⟨%a1, -, HS1⟩, ⟨%a2, -, HS2⟩, HT0, HT1⟩, Ho, ⟨%d0, H0⟩, ⟨%d1, H1⟩, ⟨%d2, H2⟩, ⟨%d3, H3⟩, ⟨%d4, H4⟩⟩
    iapply (run_takes c (grid0.coords t) (b0 T U hT t) (w0 T U hT t) (b1 T U hT t) (w1 T U hT t) (b2 T U hT t) (w2 T U hT t) (b3 T U hT t) (w3 T U hT t) (b4 T U hT t) (w4 T U hT t)
      T U (iblk T U hT m c (0 : Fin 5) t) (iblk T U hT m c (1 : Fin 5) t) (iblk T U hT m c (2 : Fin 5) t) (iblk T U hT m c (3 : Fin 5) t) a0 a1 a2 hc _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · isplitl [HS0]
      · iexists _; isplitr; swap
        · iexact HS0
        · ipureintro; intro _; rfl
      isplitl [HS1]
      · iexists _; isplitr; swap
        · iexact HS1
        · ipureintro; intro _; rfl
      isplitl [HS2]
      · iexists _; isplitr; swap
        · iexact HS2
        · ipureintro; intro _; rfl
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4
  · obtain ⟨h0, hk⟩ := kept (F := F) T t (last t.castSucc) rfl hc
    have hp : 0 < (t.castSucc : Fin (grid0.N + 1)).val := Nat.pos_of_ne_zero h0
    have k1 := congrArg k0_pay1 (same1 T U hT m c t _ hk)
    have k2 := congrArg k0_pay2 (same2 T U hT m c t _ hk)
    have k3 := congrArg k0_pay3 (same3 T U hT m c t _ hk)
    iintro ⟨⟨⟨%a0, %e0, HS0⟩, ⟨%a1, %e1, HS1⟩, ⟨%a2, %e2, HS2⟩, HT0, HT1⟩, Ho, ⟨%d0, H0⟩, ⟨%d1, H1⟩, ⟨%d2, H2⟩, ⟨%d3, H3⟩, ⟨%d4, H4⟩⟩
    obtain rfl := (e0 hp).trans k1.symm
    obtain rfl := (e1 hp).trans k2.symm
    obtain rfl := (e2 hp).trans k3.symm
    iapply (run_keeps c (grid0.coords t) (b0 T U hT t) (w0 T U hT t) (b1 T U hT t) (w1 T U hT t) (b2 T U hT t) (w2 T U hT t) (b3 T U hT t) (w3 T U hT t) (b4 T U hT t) (w4 T U hT t)
      T U (iblk T U hT m c (0 : Fin 5) t) (iblk T U hT m c (1 : Fin 5) t) (iblk T U hT m c (2 : Fin 5) t) (iblk T U hT m c (3 : Fin 5) t) _ _ _ hc _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · isplitl [HS0]
      · iexists _; isplitr; swap
        · iexact HS0
        · ipureintro; intro _; rfl
      isplitl [HS1]
      · iexists _; isplitr; swap
        · iexact HS1
        · ipureintro; intro _; rfl
      isplitl [HS2]
      · iexists _; isplitr; swap
        · iexact HS2
        · ipureintro; intro _; rfl
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4

/-- The same as the call asks for it. -/
theorem obligation : BodyObligation (dats T U hT m 0 c) (defs₀ (F := F)) Variants.none () Set.univ := fun t => by
  rw [bigSep_W0]
  exact sound T U hT m c t

end Cert.MlpRun

end
-- ==== Proof.MlpLaunch.lean ====
/- The launch of the expert MLP at any two tables whose experts are all below 32, for any float values. -/
module

public import proofs.«01_k».proof.Proof.MlpRun

@[expose] public section

set_option maxRecDepth 16384
set_option backward.proofsInPublic true

noncomputable section

namespace Cert.MlpRun

open Cert.Kernel3Ideal Cert.Kernel3Ideal.Gen Cert.MlpBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (T : S288.Idx → BitVec 32) (U : S1.Idx → BitVec 32) (hT : ∀ x, (T x).toNat < 32)
variable (m : (ℓ : Loc nD τ sig) → Buf (Elt F) ℓ) (ρ : Dev nD → PrngReg) (c : Dev nD)

/-- The rounds' first element. -/
def start (F : FTy → Type) [FloatOps F] : UR sig nD τ :=
  initOf (Pipeline.cells (pcs T U hT F) ((launch0 (F := F)).cellOf_inj fun _ => adm T U hT F))
    (Pipeline.launchToks (pcs T U hT F) ((launch0 (F := F)).cellOf_inj fun _ => adm T U hT F))

theorem share_eq (w : Fin (cfgA T U hT F).W) : (dats T U hT m 0 c).share w = fullShare := by unfold Dat.share; split <;> rfl

/-- The tables, one by one. -/
theorem tables_held (q : Fin 2 → PosShare TreeShare) (v : pre0.Contents (Elt F)) :
    (Pipeline.prefHeld (Ix := Unit) (Name := ℕ) (U := UR sig nD τ) (Lvl := ℕ) pre0 c q v : sProp (Alg F))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- What is held at the start: any scratch, -/
theorem enter : iprop(BI.emp ∗ Pipeline.prefHeld pre0 c (fun _ => fullShare.right) (adm T U hT F).1 ∗ Pipeline.scopedRest spec0 c)
    ⊢ (dats T U hT m 0 c).Φ 0 := by
  rw [tables_held, scopedRest0_eq, show (dats T U hT m 0 c).Φ 0 = held T U hT m c 0 from rfl]
  unfold held
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd h (Nat.lt_irrefl 0)
  isplitl [HS1]
  · iexists a1; isplitr; swap
    · iexact HS1
    · ipureintro; intro h; exact absurd h (Nat.lt_irrefl 0)
  isplitl [HS2]
  · iexists a2; isplitr; swap
    · iexact HS2
    · ipureintro; intro h; exact absurd h (Nat.lt_irrefl 0)
  isplitl [HT0]; · iexact HT0
  iexact HT1

/-- and given back at the end. -/
theorem leave : (dats T U hT m 0 c).Φ (Fin.last (cfgA T U hT F).N) ⊢ iprop(BI.emp ∗ Pipeline.scopedRest spec0 c) := by
  rw [scopedRest0_eq, show (dats T U hT m 0 c).Φ (Fin.last (cfgA T U hT F).N) = held T U hT m c (Fin.last _) from rfl]
  unfold held
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Memory at the end: the call's arrays as computed, the tables as they were. -/
def Final (r : PUnit × MemSt nD τ sig (Elt F)) : Prop :=
  ∀ c : Dev nD, (∀ w : Fin (cfgA T U hT F).W, r.2.mem (((cfgA T U hT F).win w).arr.view.loc (c : Thread nD τ)) = (dats T U hT m 0 c).arrAt w (cfgA T U hT F).N)
    ∧ ∀ j, r.2.mem ((c : Thread nD τ).loc (pre0.ref j)) = (adm T U hT F).1 j

/-- The memory's tables are these. -/
def Holds : Prop :=
  (∀ c : Dev nD, m ((c : Thread nD τ).loc main_arg1) = T) ∧ (∀ c : Dev nD, m ((c : Thread nD τ).loc main_arg2) = U)

theorem tables_at (hp : Holds T U m) (j : Fin 2) : m ((c : Thread nD τ).loc (pre0.ref j)) = (adm T U hT F).1 j := by
  match j with
  | ⟨0, _⟩ => exact hp.1 c
  | ⟨1, _⟩ => exact hp.2 c

set_option backward.isDefEq.respectTransparency.types false in
set_option maxHeartbeats 4000000 in
/-- Every execution from such a memory ends, with memory so and every semaphore at zero. -/
theorem run (hp : Holds T U m) :
    θ_run (defs (F := F)) (onTc (τ := τ) (main (F := F))) (s₀ m ρ) (fun r => Final T U hT m r ∧ r.2.sem = fun _ => 0) :=
  Pipeline.θ_run_region_noSem_pf_quiescent pcfgs (fun _ => adm T U hT F) (dats T U hT m) () ((launch0 (F := F)).cellOf_inj fun _ => adm T U hT F) (0 : Fin 1)
    (launch0 (F := F)).win.to₀ (launch0 (F := F)).pre (cells F) defs₀ Variants.none m ρ main
    (hbody := fun c => (obligation T U hT m c).loose) (hne := (launch0 (F := F)).block_pos)
    (harr := (launch0 (F := F)).arr_whole) (hstage := (launch0 (F := F)).stage_whole) (howed := fun _ _ => rfl)
    (u₀ := start T U hT F) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T U hT F) (dats T U hT m) 0 (launch0 (F := F)).win.arr_inj c (launch0 (F := F)).arr_whole
      (share_eq T U hT m c) _ _ fun _ => rfl)
    (hpf := fun c => tables_at T U hT m c hp)
    (X := fun _ => iprop(emp)) (Y := fun _ => iprop(emp)) (Z := fun _ => iprop(emp))
    (hX := fun c => by rw [unscopedRestP0_eq]; iintro -; isplitr <;> iempintro)
    (hin := enter T U hT m)
    (hout := leave T U hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem unchanged (r : PUnit × MemSt nD τ sig (Elt F)) (h : Final T U hT m r) (hp : Holds T U m) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats T U hT m 0 c).arrAt_in (0 : Fin 5) rfl _), ((h c).2 0).trans (hp.1 c).symm, ((h c).2 1).trans (hp.2 c).symm,
    ((h c).1 (1 : Fin 5)).trans ((dats T U hT m 0 c).arrAt_in (1 : Fin 5) rfl _), ((h c).1 (2 : Fin 5)).trans ((dats T U hT m 0 c).arrAt_in (2 : Fin 5) rfl _),
    ((h c).1 (3 : Fin 5)).trans ((dats T U hT m 0 c).arrAt_in (3 : Fin 5) rfl _)⟩

include hT in
/-- The frame. -/
theorem frame (hp : Holds T U m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged T U hT m c r h.1 hp, h.2⟩) (run T U hT m ρ hp)

end Cert.MlpRun

end
-- ==== Proof.MlpRanged.lean ====
/- What the precondition of the expert MLP gives: every block's expert is one of the 32. -/
module

public import proofs.«01_k».proof.Defs
public import Idealize.ShloMosaic.Lib.WordCmp

@[expose] public section

namespace Cert.Ranged

open Idealize.ShloMosaic

/-- The precondition's shape fact. -/
theorem facts : Cert.Pre_ranged.Facts := ⟨by decide⟩

local instance : Cert.Pre_ranged.Facts := facts

/-- A word at least zero and below 32, signed, is below 32 as a natural. -/
theorem lt_of_bits (x : BitVec 32) (h0 : IntOp.cmpi .sge x 0#32 = 1#1) (h1 : IntOp.cmpi .slt x 32#32 = 1#1) : x.toNat < 32 := by
  have h := Idealize.ShloMosaic.WordCmp.andi_sge_zero_slt_ofNat (w := 32) (k := 32) (by decide) x
  have e : IntOp.andi (IntOp.cmpi .sge x 0#32) (IntOp.cmpi .slt x 32#32) = 1#1 := by rw [h0, h1]; decide
  exact (Idealize.ShloMosaic.WordCmp.ofBool_decide_eq_one_iff _).1 (h.symm.trans e)

/-- The precondition, for any float values. -/
theorem below {F : FTy → Type} [FloatOps F] (x : FVec F Cert.Pre_ranged.S73728x1024 .f32) (T : IVec Cert.Pre_ranged.S288 32) (U : IVec Cert.Pre_ranged.S1 32)
    (w1 w3 : FVec F Cert.Pre_ranged.S32x1024x512 .f32) (w2 : FVec F Cert.Pre_ranged.S32x512x1024 .f32)
    (h : (Cert.Pre_ranged.fn x T U w1 w3 w2).1 = (fun _ => 1#1) ∧ (Cert.Pre_ranged.fn x T U w1 w3 w2).2 = fun _ => 1#1) (i : Cert.Pre_ranged.S288.Idx) :
    (T i).toNat < 32 :=
  lt_of_bits (T i) (congrFun h.1 i) (congrFun h.2 i)

end Cert.Ranged
-- ==== Proof.MlpFrame.lean ====
/- The expert MLP's frames: the run at the tables the memory holds, over the extended reals, and the same at the words. -/
module

public import proofs.«01_k».proof.Proof.MlpLaunch
public import proofs.«01_k».proof.Proof.MlpRanged
public import proofs.«01_k».proof.Proof.Gen.Kernel3
public import proofs.«01_k».proof.Defs

@[expose] public section

set_option maxRecDepth 65536

namespace Cert.MlpFrame

open Idealize.ShloMosaic Idealize.SL.Sem

local instance : Cert.Pre_ranged.Facts := Cert.Ranged.facts
local instance : Cert.Kernel3.Facts := Cert.Kernel3.Gen.facts
local instance : Cert.Kernel3Ideal.Facts := Cert.Kernel3Ideal.Gen.facts

/-- There is one device. -/
theorem one (c d : Dev Cert.Kernel3Ideal.nD) : c = d := Subsingleton.elim (α := Fin 1) c d

/-- The memory holds its own tables. -/
theorem holds {F : FTy → Type} [FloatOps F] (m : (ℓ : Loc Cert.Kernel3Ideal.nD Cert.Kernel3Ideal.τ Cert.Kernel3Ideal.sig) → Buf (Elt F) ℓ)
    (d : Dev Cert.Kernel3Ideal.nD) :
    Cert.MlpRun.Holds (m ((d.tc : Thread Cert.Kernel3Ideal.nD Cert.Kernel3Ideal.τ).loc Cert.Kernel3Ideal.main_arg1))
      (m ((d.tc : Thread Cert.Kernel3Ideal.nD Cert.Kernel3Ideal.τ).loc Cert.Kernel3Ideal.main_arg2)) m :=
  ⟨fun c => by rw [one c d], fun c => by rw [one c d]⟩

/-- The device. -/
def dev : Dev Cert.Kernel3Ideal.nD := (0 : Fin 1)

/-- Over the extended reals. -/
theorem frameIdeal : Cert.quiescent_Kernel3Ideal := fun m g h =>
  Cert.MlpRun.frame _ _ (Cert.Ranged.below _ _ _ _ _ _ (h dev)) m g (holds m dev)

/-- The two texts' bodies are one, -/
theorem bodies : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl
  | ⟨_ + 1, h⟩, _ => exact absurd h (Nat.not_lt.2 (Nat.le_add_left _ _))

/-- and so are their calls. -/
theorem defs_eq : Cert.Kernel3.defs (F := Bits) = Cert.Kernel3Ideal.defs (F := Bits) :=
  congrArg (Pipeline.defs Cert.Kernel3.pcfgs) bodies

/-- At the words. -/
theorem frame : Cert.quiescent_Kernel3 := fun m g h => by
  rw [defs_eq]
  exact Cert.MlpRun.frame (F := Bits) _ _ (Cert.Ranged.below _ _ _ _ _ _ (h dev)) m g (holds m dev)

end Cert.MlpFrame
-- ==== Proof.MlpSpec.lean ====
/- The expert MLP's value: blocks of 256 rows, each block through the gated MLP of its own expert.

   A block beyond the number in use is zero. -/
module

public import Idealize.ShloMosaic.PureOps.Ideal
public import Idealize.ShloMosaic.Lib.ValueLayout

@[expose] public section

noncomputable section

namespace Cert.MlpSpec

open Idealize.ShloMosaic Idealize.ShloMosaic.ValueIdx
open scoped BigOperators

/-- A row against a column. -/
def dot (x w : Fin 1024 → EReal) : EReal := ∑ e : Fin 1024, x e * w e

/-- A gated hidden unit. -/
def hidden (x w1 w3 : Fin 1024 → EReal) : EReal := dot x w1 * Ideal.logistic (dot x w1) * dot x w3

/-- A row's output. -/
def mlp (x : Fin 1024 → EReal) (w1 w3 : Fin 1024 → Fin 512 → EReal) (w2 : Fin 512 → EReal) : EReal :=
  ∑ f : Fin 512, hidden x (fun e => w1 e f) (fun e => w3 e f) * w2 f

/-- The output of row `r` of block `t`, at column `j`. -/
def value (x : (⟨2, ![73728, 1024]⟩ : Shape).Idx → EReal) (T : (⟨1, ![288]⟩ : Shape).Idx → BitVec 32) (U : (⟨1, ![1]⟩ : Shape).Idx → BitVec 32)
    (w1 w3 : (⟨3, ![32, 1024, 512]⟩ : Shape).Idx → EReal) (w2 : (⟨3, ![32, 512, 1024]⟩ : Shape).Idx → EReal) (hT : ∀ x, (T x).toNat < 32)
    (t : Fin 288) (r : Fin 256) (j : Fin 1024) : EReal :=
  if IntOp.cmpi .slt (BitVec.ofNat 32 t.val) (U (ix1 (0 : Fin 1))) = 1#1 then
    mlp (fun e => x (ix2 (⟨256 * t.val + r.val, by omega⟩ : Fin 73728) e)) (fun e f => w1 (ix3 (⟨(T (ix1 t)).toNat, hT _⟩ : Fin 32) e f))
      (fun e f => w3 (ix3 (⟨(T (ix1 t)).toNat, hT _⟩ : Fin 32) e f)) (fun f => w2 (ix3 (⟨(T (ix1 t)).toNat, hT _⟩ : Fin 32) f j))
  else 0

end Cert.MlpSpec

end
-- ==== Proof.MlpBlock.lean ====
/- The expert MLP's body, over the extended reals: at a row and a column of its block it is `MlpSpec.mlp` of the weights it
   holds, or zero beyond the blocks in use. -/
module

public import proofs.«01_k».proof.Proof.MlpSpec
public import proofs.«01_k».proof.Proof.MlpBody
public import Idealize.ShloMosaic.Lib.ValueLayout
public import Idealize.ShloMosaic.Lib.MatmulPlain
public import Idealize.ShloMosaic.Lib.Pipeline.Value

@[expose] public section

set_option maxRecDepth 16384

noncomputable section

namespace Cert.MlpBlock

open Cert.Kernel3Ideal Cert.Kernel3Ideal.Gen Cert.MlpBody
open Idealize.ShloMosaic Idealize.ShloMosaic.ValueIdx
open scoped BigOperators

/-- The weights' casts, at an index. -/
theorem gate_apply (w : Vec Ideal S1x1024x512 .f32) (e : Fin 1024) (f : Fin 512) : k0_pay1 (F := Ideal) w (ix2 e f) = w (ix3 (0 : Fin 1) e f) := by
  unfold k0_pay1
  rw [shapeCast_self]
  refine shapeCast_apply w _ (ix2 e f) (ix3 (0 : Fin 1) e f) ?_
  rw [Shape.rowMajor_val_three, Shape.rowMajor_val_two]
  show (0 * 1024 + e.val) * 512 + f.val = e.val * 512 + f.val
  omega

theorem up_apply (w : Vec Ideal S1x1024x512 .f32) (e : Fin 1024) (f : Fin 512) : k0_pay2 (F := Ideal) w (ix2 e f) = w (ix3 (0 : Fin 1) e f) := gate_apply w e f

theorem down_apply (w : Vec Ideal S1x512x1024 .f32) (f : Fin 512) (j : Fin 1024) : k0_pay3 (F := Ideal) w (ix2 f j) = w (ix3 (0 : Fin 1) f j) := by
  unfold k0_pay3
  rw [shapeCast_self]
  refine shapeCast_apply w _ (ix2 f j) (ix3 (0 : Fin 1) f j) ?_
  rw [Shape.rowMajor_val_three, Shape.rowMajor_val_two]
  show (0 * 512 + f.val) * 1024 + j.val = f.val * 1024 + j.val
  omega

/-- Rows against a weight matrix. -/
def rows (x : FVec Ideal S256x1024 .bf16) (w : FVec Ideal S1024x512 .bf16) : FVec Ideal S256x512 .f32 :=
  matmul dot_S256x1024_S1024x512_S256x512_1_0_0_1_n_n none x w (constant S256x512 .f32 0x00000000#32)

theorem rows_apply (x : FVec Ideal S256x1024 .bf16) (w : FVec Ideal S1024x512 .bf16) (r : Fin 256) (f : Fin 512) :
    rows x w (ix2 r f) = Cert.MlpSpec.dot (fun e => x (ix2 r e)) (fun e => w (ix2 e f)) := by
  refine (Ideal.matmul_plain_apply none x w _ r f).trans ?_
  have h0 : constant (F := Ideal) S256x512 .f32 0x00000000#32 (ix2 r f) = (0 : EReal) := Ideal.ofBits_zero_f32
  rw [h0, zero_add]
  rfl

/-- The body's product. -/
theorem product_apply (x : Vec Ideal S256x1024 .f32) (a1 a3 : Vec Ideal S1024x512 .bf16) (a2 : Vec Ideal S512x1024 .bf16) (r : Fin 256) (j : Fin 1024) :
    k0_pay4 (F := Ideal) x a1 a3 a2 (ix2 r j)
      = Cert.MlpSpec.mlp (fun e => x (ix2 r e)) (fun e f => a1 (ix2 e f)) (fun e f => a3 (ix2 e f)) (fun f => a2 (ix2 f j)) := by
  unfold k0_pay4
  refine (Ideal.matmul_plain_apply none _ _ _ r j).trans ?_
  have h0 : constant (F := Ideal) S256x1024 .f32 0x00000000#32 (ix2 r j) = (0 : EReal) := Ideal.ofBits_zero_f32
  rw [h0, zero_add]
  refine Finset.sum_congr rfl fun f _ => congrArg (fun y : EReal => y * a2 (ix2 f j)) ?_
  show rows x a1 (ix2 r f) * Ideal.logistic (rows x a1 (ix2 r f)) * rows x a3 (ix2 r f) = _
  rw [rows_apply, rows_apply]
  rfl

/-- Whether a block is in use. -/
theorem inUse_iff (i : grid0.Coords) (u : BitVec 32) : k0_cond2 i u = 1#1 ↔ IntOp.cmpi .slt (BitVec.ofNat 32 (i 0).val) u = 1#1 := by
  unfold k0_cond2
  generalize BitVec.ofNat 32 (i 0).val = a
  by_cases h : a.slt u = true
  · simp [Scalar.cmpi, Scalar.extui, IntOp.cmpi, h]
  · simp [Scalar.cmpi, Scalar.extui, IntOp.cmpi, h]

theorem count_eq (U : S1.Idx → BitVec 32) : count (F := Ideal) U = U (ix1 (0 : Fin 1)) :=
  congrArg U (funext fun a => by
    match a with
    | ⟨0, _⟩ => rfl)

/-- What the body stores. -/
theorem stored_apply (i : grid0.Coords) (U : S1.Idx → BitVec 32) (x : Vec Ideal S256x1024 .f32) (w1 w3 : Vec Ideal S1x1024x512 .f32)
    (w2 : Vec Ideal S1x512x1024 .f32) (r : Fin 256) (j : Fin 1024) :
    stored (F := Ideal) i U x (k0_pay1 w1) (k0_pay2 w3) (k0_pay3 w2) (ix2 r j)
      = if IntOp.cmpi .slt (BitVec.ofNat 32 (i 0).val) (U (ix1 (0 : Fin 1))) = 1#1 then
          Cert.MlpSpec.mlp (fun e => x (ix2 r e)) (fun e f => w1 (ix3 (0 : Fin 1) e f)) (fun e f => w3 (ix3 (0 : Fin 1) e f)) (fun f => w2 (ix3 (0 : Fin 1) f j))
        else 0 := by
  unfold stored
  by_cases h : k0_cond2 i (count (F := Ideal) U) = 1#1
  · rw [if_pos h, if_pos (by rw [← count_eq U]; exact (inUse_iff i _).1 h), product_apply]
    simp only [gate_apply, up_apply, down_apply]
  · rw [if_neg h, if_neg (by rw [← count_eq U]; exact fun h' => h ((inUse_iff i _).2 h'))]
    exact Ideal.ofBits_zero_f32

end Cert.MlpBlock

end
-- ==== Proof.MlpWhole.lean ====
/- The expert MLP's result array after the run: row `r` of block `t` is `MlpSpec.value`. -/
module

public import proofs.«01_k».proof.Proof.MlpBlock
public import proofs.«01_k».proof.Proof.MlpLaunch
public import Idealize.ShloMosaic.Lib.Pipeline.Value

@[expose] public section

set_option maxRecDepth 16384

noncomputable section

namespace Cert.MlpWhole

open Cert.Kernel3Ideal Cert.Kernel3Ideal.Gen Cert.MlpRun
open Idealize.ShloMosaic Idealize.ShloMosaic.TcCoe Idealize.ShloMosaic.ValueIdx
open Idealize.ShloMosaic.Pipeline (Dat Cfg Window)

variable (T : S288.Idx → BitVec 32) (U : S1.Idx → BitVec 32) (hT : ∀ x, (T x).toNat < 32)
variable (m : (ℓ : Loc nD τ sig) → Buf (Elt Ideal) ℓ) (c : Dev nD)

theorem lt288 (t : Fin grid0.N) : t.val < 288 := Nat.lt_of_lt_of_eq t.isLt N_0

/-- The value at these arguments. -/
def value (t : Fin 288) (r : Fin 256) (j : Fin 1024) : EReal :=
  Cert.MlpSpec.value (m ((c : Thread nD τ).loc main_arg0)) T U (m ((c : Thread nD τ).loc main_arg3)) (m ((c : Thread nD τ).loc main_arg4))
    (m ((c : Thread nD τ).loc main_arg5)) hT t r j

/-- What a point stores. -/
theorem store_apply (t : Fin grid0.N) (r : Fin 256) (j : Fin 1024) :
    store T U hT m c t (ix2 r j) = value T U hT m c ⟨t.val, lt288 t⟩ r j := by
  refine (Cert.MlpBlock.stored_apply (grid0.coords t) U (iblk T U hT m c 0 t) (iblk T U hT m c 1 t) (iblk T U hT m c 2 t) (iblk T U hT m c 3 t) r j).trans ?_
  rw [coord t]
  unfold value Cert.MlpSpec.value
  rw [funext fun e => iblk0 T U hT m c t r e, funext fun e => funext fun f => iblk1 T U hT m c t 0 e f,
    funext fun e => funext fun f => iblk2 T U hT m c t 0 e f, funext fun f => iblk3 T U hT m c t 0 f j]

/-- The result array. -/
def result : Buf (Elt Ideal) ((c : Thread nD τ).loc main_v0) := fun i : S73728x1024.Idx =>
  value T U hT m c (⟨(i 0).val / 256, by have : (i 0).val < 73728 := (i 0).isLt; omega⟩ : Fin 288) (⟨(i 0).val % 256, by omega⟩ : Fin 256) (i 1)

theorem result_apply (t : Fin 288) (r : Fin 256) (j : Fin 1024) :
    result T U hT m c (ix2 (⟨256 * t.val + r.val, by omega⟩ : Fin 73728) j) = value T U hT m c t r j := by
  refine congrArg₂ (fun t r => value T U hT m c t r j) (Fin.ext ?_) (Fin.ext ?_)
  · show (256 * t.val + r.val) / 256 = t.val
    omega
  · show (256 * t.val + r.val) % 256 = r.val
    omega

theorem flushed (t : Fin (cfgA T U hT Ideal).N) :
    (dats T U hT m 0 c).flushed (4 : Fin 5) t = (((cfgA T U hT Ideal).win (4 : Fin 5)).blk t).view.read (Elt Ideal) (result T U hT m c) := by
  obtain ⟨h0, h1⟩ := index4 t
  refine funext fun i : S256x1024.Idx => ?_
  obtain ⟨r, j, rfl⟩ : ∃ (r : Fin 256) (j : Fin 1024), i = ix2 r j := ⟨i 0, i 1, eq_ix2 i⟩
  refine Eq.trans (b := value T U hT m c ⟨t.val, lt288 t⟩ r j) (store_apply T U hT m c t r j) (((congrArg (result T U hT m c) (funext fun a => ?_)).trans (result_apply T U hT m c ⟨t.val, lt288 t⟩ r j)).symm)
  match a with
  | ⟨0, _⟩ => exact Fin.ext (by show cc0_transform_4 (grid0.coords t) 0 * 256 + 1 * r.val = 256 * t.val + r.val; omega)
  | ⟨1, _⟩ => exact Fin.ext (by show cc0_transform_4 (grid0.coords t) 1 * 1024 + 1 * j.val = j.val; omega)

/-- Every point's block is written back. -/
theorem writes : ∀ t : Fin grid0.N, ((cfgA T U hT Ideal).win (4 : Fin 5)).flush t = true := by
  intro t
  show (true && (decide (t.val + 1 = grid0.N)
    || decide (∃ h : t.val + 1 < grid0.N, (cc0_transform_4 (grid0.coords ⟨t.val + 1, h⟩) : Fin 2 → ℕ) ≠ cc0_transform_4 (grid0.coords t)))) = true
  rw [Bool.true_and, Bool.or_eq_true, decide_eq_true_iff, decide_eq_true_iff]
  by_cases h : t.val + 1 = grid0.N
  · exact Or.inl h
  · have h' : t.val + 1 < grid0.N := Nat.lt_of_le_of_ne t.isLt h
    refine Or.inr ⟨h', fun e => ?_⟩
    have e0 := congrFun e 0
    rw [(index4 ⟨t.val + 1, h'⟩).1, (index4 t).1] at e0
    exact absurd e0 (Nat.succ_ne_self _)

theorem cover (i : S73728x1024.Idx) : ∃ t : Fin (cfgA T U hT Ideal).N, ((cfgA T U hT Ideal).win (4 : Fin 5)).flush t = true
    ∧ i ∈ (((cfgA T U hT Ideal).win (4 : Fin 5)).blk t).view.set := by
  have h0 : (i 0).val < 73728 := (i 0).isLt
  have h1 : (i 1).val < 1024 := (i 1).isLt
  have hN : grid0.N = 288 := N_0
  have ht : (i 0).val / 256 < grid0.N := by omega
  obtain ⟨t, hv⟩ : ∃ t : Fin grid0.N, t.val = (i 0).val / 256 := ⟨⟨_, ht⟩, rfl⟩
  obtain ⟨e0, e1⟩ := index4 t
  refine ⟨t, writes T U hT t, ?_⟩
  show i ∈ ((View.whole main_v0).slice (((cfgA T U hT Ideal).win (4 : Fin 5)).rect t)).set
  rw [View.set_slice_whole, Rect.mem_set_unit]
  intro a
  match a with
  | ⟨0, _⟩ => show cc0_transform_4 (grid0.coords t) 0 * 256 ≤ (i 0).val ∧ (i 0).val < cc0_transform_4 (grid0.coords t) 0 * 256 + 256; omega
  | ⟨1, _⟩ => show cc0_transform_4 (grid0.coords t) 1 * 1024 ≤ (i 1).val ∧ (i 1).val < cc0_transform_4 (grid0.coords t) 1 * 1024 + 1024; omega

/-- The array after the run. -/
theorem final : (dats T U hT m 0 c).arrAt (4 : Fin 5) (cfgA T U hT Ideal).N = result T U hT m c :=
  (dats T U hT m 0 c).arrAt_eq_of_cover (4 : Fin 5) (result T U hT m c) (fun t _ => flushed T U hT m c t) (cover T U hT)

end Cert.MlpWhole

end
-- ==== Proof.MlpRef.lean ====
/- The reference's expert MLP, over the extended reals: at a row of a block and a column it is `MlpSpec.value`, for
   experts below 32. -/
module

public import proofs.«01_k».proof.Proof.MlpSpec
public import proofs.«01_k».proof.Proof.Gen.Reference3Ideal.Run
public import Idealize.ShloMosaic.Lib.ValueLayout
public import Idealize.ShloMosaic.Lib.MatmulPlain
public import Idealize.ShloMosaic.Lib.IdealHost
public import Idealize.ShloMosaic.Lib.WordCmp
public import Idealize.ShloMosaic.Lib.Pipeline.Value

@[expose] public section

set_option maxRecDepth 16384

noncomputable section

namespace Cert.MlpRef

open Cert.Reference3Ideal Cert.Reference3Ideal.Gen
open Idealize.ShloMosaic Idealize.ShloMosaic.ValueIdx
open scoped BigOperators

/-! ## The experts' weights -/

/-- A block's expert's matrix, cut out whole. -/
def pick (A B : ℕ) (wf : GatherDims.WF ⟨3, ![32, A, B]⟩ ⟨2, ![288, 3]⟩ ⟨4, ![288, 1, A, B]⟩ [1, 2, 3] [] [] [0, 1, 2] [] 1 ![1, A, B]) :
    GatherDims ⟨3, ![32, A, B]⟩ ⟨2, ![288, 3]⟩ ⟨4, ![288, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

theorem pick_apply (A B : ℕ) (wf : GatherDims.WF ⟨3, ![32, A, B]⟩ ⟨2, ![288, 3]⟩ ⟨4, ![288, 1, A, B]⟩ [1, 2, 3] [] [] [0, 1, 2] [] 1 ![1, A, B])
    (w : (⟨3, ![32, A, B]⟩ : Shape).Idx → EReal) (idx : IVec ⟨2, ![288, 3]⟩ 32) (t : Fin 288) (e : Fin A) (f : Fin B) (k : Fin 32)
    (hk : (idx (ix2 t (0 : Fin 3))).toInt.toNat = k.val) :
    Host.gather (pick A B wf) w idx (ix4 t (0 : Fin 1) e f) = w (ix3 k e f) := by
  refine congrArg w (funext fun a => Fin.ext ?_)
  show (pick A B wf).start (ix4 t (0 : Fin 1) e f) idx a + (pick A B wf).batchCoord (ix4 t (0 : Fin 1) e f) a
    + (pick A B wf).offCoord (ix4 t (0 : Fin 1) e f) a = _
  rw [GatherDims.batchCoord_eq_zero _ _ _ (fun h => absurd h List.not_mem_nil), Nat.add_zero]
  match a with
  | ⟨0, _⟩ =>
    have ho : (pick A B wf).offCoord (ix4 t (0 : Fin 1) e f) 0 = 0 := rfl
    have hs : (pick A B wf).start (ix4 t (0 : Fin 1) e f) idx 0 = min (idx (ix2 t (0 : Fin 3))).toInt.toNat (32 - 1) := by
      refine congrArg (fun x => min (idx x).toInt.toNat (32 - 1)) (funext fun b => ?_)
      match b with
      | ⟨0, _⟩ => rfl
      | ⟨1, _⟩ => rfl
    show (pick A B wf).start (ix4 t (0 : Fin 1) e f) idx 0 + (pick A B wf).offCoord (ix4 t (0 : Fin 1) e f) 0 = k.val
    rw [ho, hs, hk]
    have := k.isLt
    omega
  | ⟨1, _⟩ =>
    have ho : (pick A B wf).offCoord (ix4 t (0 : Fin 1) e f) 1 = e.val := rfl
    have hs : (pick A B wf).start (ix4 t (0 : Fin 1) e f) idx 1 ≤ A - A := (pick A B wf).start_le _ idx 1
    show (pick A B wf).start (ix4 t (0 : Fin 1) e f) idx 1 + (pick A B wf).offCoord (ix4 t (0 : Fin 1) e f) 1 = e.val
    omega
  | ⟨2, _⟩ =>
    have ho : (pick A B wf).offCoord (ix4 t (0 : Fin 1) e f) 2 = f.val := rfl
    have hs : (pick A B wf).start (ix4 t (0 : Fin 1) e f) idx 2 ≤ B - B := (pick A B wf).start_le _ idx 2
    show (pick A B wf).start (ix4 t (0 : Fin 1) e f) idx 2 + (pick A B wf).offCoord (ix4 t (0 : Fin 1) e f) 2 = f.val
    omega

/-- The experts, those below zero counted from the end. -/
def wrapped (T : IVec S288 32) : IVec S288 32 :=
  select (cmpi .slt T (broadcastInDim S288 ![] bcast_S_S288 (constantI S_ 32 0#32))) (addi T (broadcastInDim S288 ![] bcast_S_S288 (constantI S_ 32 32#32))) T

/-- A start of the cut, with an axis of its own: zero. -/
def origin (n : BitVec 32) : IVec S288x1 32 :=
  broadcastInDim S288x1 ![] bcast_S_S288x1 (select (cmpi .slt (constantI S_ 32 0#32) (constantI S_ 32 0#32)) (addi (constantI S_ 32 0#32) (constantI S_ 32 n)) (constantI S_ 32 0#32))

/-- Three columns side by side. -/
def columns (a b c : IVec S288x1 32) : IVec S288x3 32 :=
  concatenate S288x3 1 [⟨S288x1, a⟩, ⟨S288x1, b⟩, ⟨S288x1, c⟩] concatenates_S288x1_S288x1_S288x1_S288x3_d1

theorem columns_apply (a b c : IVec S288x1 32) (t : Fin 288) : columns a b c (ix2 t (0 : Fin 3)) = a (ix2 t (0 : Fin 1)) := by
  unfold columns
  refine concatenate_apply_piece (1 : Fin S288x3.rank) [⟨S288x1, a⟩, ⟨S288x1, b⟩, ⟨S288x1, c⟩] concatenates_S288x1_S288x1_S288x1_S288x3_d1
    (ix2 t (0 : Fin 3)) 0 (Nat.succ_pos _) S288x1 a rfl rfl 0 rfl (ix2 t (0 : Fin 1)) (fun b hb => ?_) rfl
  match b with
  | ⟨0, _⟩ => rfl
  | ⟨1, _⟩ => exact absurd rfl hb

/-- Where the blocks' experts' matrices start. -/
def starts (T : IVec S288 32) (a b : BitVec 32) : IVec S288x3 32 :=
  columns (broadcastInDim S288x1 ![0] bcast_S288_S288x1_0 (wrapped T)) (origin a) (origin b)

theorem wrapped_apply (T : IVec S288 32) (hT : ∀ x, (T x).toNat < 32) (i : S288.Idx) : wrapped T i = T i := by
  have h : IntOp.cmpi .slt (T i) 0#32 = 0#1 := by
    rw [Idealize.ShloMosaic.WordCmp.cmpi_slt_zero, Idealize.ShloMosaic.WordCmp.ofBool_decide_eq_zero_iff]
    have := hT i
    omega
  exact if_neg (by show ¬ IntOp.cmpi .slt (T i) 0#32 = 1#1; rw [h]; decide)

theorem starts_apply (T : IVec S288 32) (hT : ∀ x, (T x).toNat < 32) (a b : BitVec 32) (t : Fin 288) : starts T a b (ix2 t (0 : Fin 3)) = T (ix1 t) :=
  (columns_apply _ _ _ t).trans ((broadcastInDim_apply _ _ _ _ (ix1 t) fun a => by
    match a with
    | ⟨0, _⟩ => rfl).trans (wrapped_apply T hT (ix1 t)))

theorem expert_of (T : IVec S288 32) (hT : ∀ x, (T x).toNat < 32) (a b : BitVec 32) (t : Fin 288) :
    (starts T a b (ix2 t (0 : Fin 3))).toInt.toNat = (T (ix1 t)).toNat := by
  rw [starts_apply T hT, BitVec.toInt_eq_toNat_of_lt (by have := hT (ix1 t); omega)]
  rfl

/-- The blocks' matrices into the hidden units, -/
def into (w : FVec Ideal S32x1024x512 .f32) (T : IVec S288 32) : FVec Ideal S288x1024x512 .f32 :=
  shapeCast _ (Host.gather gather_S32x1024x512_S288x3_S288x1x1024x512_123_n_n_n_012_1_11024512 w (starts T 1024#32 512#32)) shapeCasts_S288x1x1024x512_S288x1024x512

/-- and out of them. -/
def outOf (w : FVec Ideal S32x512x1024 .f32) (T : IVec S288 32) : FVec Ideal S288x512x1024 .f32 :=
  shapeCast _ (Host.gather gather_S32x512x1024_S288x3_S288x1x512x1024_123_n_n_n_012_1_15121024 w (starts T 512#32 1024#32)) shapeCasts_S288x1x512x1024_S288x512x1024

theorem into_apply (w : FVec Ideal S32x1024x512 .f32) (T : IVec S288 32) (hT : ∀ x, (T x).toNat < 32) (t : Fin 288) (e : Fin 1024) (f : Fin 512) :
    into w T (ix3 t e f) = w (ix3 (⟨(T (ix1 t)).toNat, hT _⟩ : Fin 32) e f) := by
  refine (shapeCast_apply _ _ (ix3 t e f) (ix4 t (0 : Fin 1) e f) ?_).trans
    (pick_apply 1024 512 gather_S32x1024x512_S288x3_S288x1x1024x512_123_n_n_n_012_1_11024512_wf w _ t e f _ (expert_of T hT _ _ t))
  rw [Shape.rowMajor_val_four, Shape.rowMajor_val_three]
  show ((t.val * 1 + 0) * 1024 + e.val) * 512 + f.val = (t.val * 1024 + e.val) * 512 + f.val
  omega

theorem outOf_apply (w : FVec Ideal S32x512x1024 .f32) (T : IVec S288 32) (hT : ∀ x, (T x).toNat < 32) (t : Fin 288) (f : Fin 512) (j : Fin 1024) :
    outOf w T (ix3 t f j) = w (ix3 (⟨(T (ix1 t)).toNat, hT _⟩ : Fin 32) f j) := by
  refine (shapeCast_apply _ _ (ix3 t f j) (ix4 t (0 : Fin 1) f j) ?_).trans
    (pick_apply 512 1024 gather_S32x512x1024_S288x3_S288x1x512x1024_123_n_n_n_012_1_15121024_wf w _ t f j _ (expert_of T hT _ _ t))
  rw [Shape.rowMajor_val_four, Shape.rowMajor_val_three]
  show ((t.val * 1 + 0) * 512 + f.val) * 1024 + j.val = (t.val * 512 + f.val) * 1024 + j.val
  omega

/-! ## The blocks' outputs -/

/-- The rows, by blocks. -/
def blocks (x : FVec Ideal S73728x1024 .f32) : FVec Ideal S288x256x1024 .f32 := shapeCast _ x shapeCasts_S73728x1024_S288x256x1024

theorem blocks_apply (x : FVec Ideal S73728x1024 .f32) (t : Fin 288) (r : Fin 256) (e : Fin 1024) :
    blocks x (ix3 t r e) = x (ix2 (⟨256 * t.val + r.val, by omega⟩ : Fin 73728) e) :=
  shapeCast_apply _ _ _ _ (by
    rw [Shape.rowMajor_val_three, Shape.rowMajor_val_two]
    show (256 * t.val + r.val) * 1024 + e.val = (t.val * 256 + r.val) * 1024 + e.val
    omega)

/-- The hidden units' products. -/
def units (x : FVec Ideal S73728x1024 .f32) (w : FVec Ideal S32x1024x512 .f32) (T : IVec S288 32) : FVec Ideal S288x256x512 .f32 :=
  Host.dotGeneral dot_S288x256x1024_S288x1024x512_S288x256x512_2_1_1_2_0_0 none (blocks x) (into w T)

theorem units_apply (x : FVec Ideal S73728x1024 .f32) (w : FVec Ideal S32x1024x512 .f32) (T : IVec S288 32) (hT : ∀ x, (T x).toNat < 32)
    (t : Fin 288) (r : Fin 256) (f : Fin 512) :
    units x w T (ix3 t r f) = Cert.MlpSpec.dot (fun e => x (ix2 (⟨256 * t.val + r.val, by omega⟩ : Fin 73728) e))
      (fun e => w (ix3 (⟨(T (ix1 t)).toNat, hT _⟩ : Fin 32) e f)) := by
  unfold units Cert.MlpSpec.dot
  simp only [Host.dotGeneral]
  rw [Ideal.dotGeneral_apply, ← Equiv.sum_comp (contrEquiv1 dot_S288x256x1024_S288x1024x512_S288x256x512_2_1_1_2_0_0 1024 rfl rfl).symm]
  refine Finset.sum_congr rfl fun e _ => ?_
  have he := contrEquiv1_symm_val dot_S288x256x1024_S288x1024x512_S288x256x512_2_1_1_2_0_0 1024 rfl rfl e
  refine congrArg₂ (· * ·) ((congrArg (blocks x) (funext fun a => Fin.ext ?_)).trans (blocks_apply x t r e))
    ((congrArg (into w T) (funext fun a => Fin.ext ?_)).trans (into_apply w T hT t e f))
  · match a with
    | ⟨0, _⟩ => rfl
    | ⟨1, _⟩ => rfl
    | ⟨2, _⟩ => exact he
  · match a with
    | ⟨0, _⟩ => rfl
    | ⟨1, _⟩ => exact he
    | ⟨2, _⟩ => rfl

/-- The gates' weight. -/
def sigmoid (a : FVec Ideal S288x256x512 .f32) : FVec Ideal S288x256x512 .f32 :=
  Host.divf (broadcastInDim S288x256x512 ![] bcast_S_S288x256x512 (constant S_ .f32 0x3F800000#32))
    (addf (broadcastInDim S288x256x512 ![] bcast_S_S288x256x512 (constant S_ .f32 0x3F800000#32)) (Host.exp (Host.negf a)))

theorem sigmoid_apply (a : FVec Ideal S288x256x512 .f32) (i : S288x256x512.Idx) : sigmoid a i = Ideal.logistic (a i) := by
  show Ideal.div (Ideal.ofBits .f32 0x3F800000#32) (Ideal.ofBits .f32 0x3F800000#32 + Ideal.exp (-(a i : EReal))) = _
  rw [Ideal.ofBits_one_f32]
  rfl

/-- The gated hidden units. -/
def gated (x : FVec Ideal S73728x1024 .f32) (w1 w3 : FVec Ideal S32x1024x512 .f32) (T : IVec S288 32) : FVec Ideal S288x256x512 .f32 :=
  mulf (mulf (units x w1 T) (sigmoid (units x w1 T))) (units x w3 T)

/-- The blocks' outputs, before those beyond use are cleared. -/
def outputs (x : FVec Ideal S73728x1024 .f32) (T : IVec S288 32) (w1 w3 : FVec Ideal S32x1024x512 .f32) (w2 : FVec Ideal S32x512x1024 .f32) :
    FVec Ideal S288x256x1024 .f32 :=
  Host.dotGeneral dot_S288x256x512_S288x512x1024_S288x256x1024_2_1_1_2_0_0 none (gated x w1 w3 T) (outOf w2 T)

theorem outputs_apply (x : FVec Ideal S73728x1024 .f32) (T : IVec S288 32) (hT : ∀ x, (T x).toNat < 32) (w1 w3 : FVec Ideal S32x1024x512 .f32)
    (w2 : FVec Ideal S32x512x1024 .f32) (t : Fin 288) (r : Fin 256) (j : Fin 1024) :
    outputs x T w1 w3 w2 (ix3 t r j) = Cert.MlpSpec.mlp (fun e => x (ix2 (⟨256 * t.val + r.val, by omega⟩ : Fin 73728) e))
      (fun e f => w1 (ix3 (⟨(T (ix1 t)).toNat, hT _⟩ : Fin 32) e f)) (fun e f => w3 (ix3 (⟨(T (ix1 t)).toNat, hT _⟩ : Fin 32) e f))
      (fun f => w2 (ix3 (⟨(T (ix1 t)).toNat, hT _⟩ : Fin 32) f j)) := by
  unfold outputs Cert.MlpSpec.mlp
  simp only [Host.dotGeneral]
  rw [Ideal.dotGeneral_apply, ← Equiv.sum_comp (contrEquiv1 dot_S288x256x512_S288x512x1024_S288x256x1024_2_1_1_2_0_0 512 rfl rfl).symm]
  refine Finset.sum_congr rfl fun f _ => ?_
  have hf := contrEquiv1_symm_val dot_S288x256x512_S288x512x1024_S288x256x1024_2_1_1_2_0_0 512 rfl rfl f
  refine congrArg₂ (· * ·) ((congrArg (gated x w1 w3 T) (?_ : _ = ix3 t r f)).trans ?_)
    ((congrArg (outOf w2 T) (funext fun a => Fin.ext ?_)).trans (outOf_apply w2 T hT t f j))
  · funext a
    apply Fin.ext
    match a with
    | ⟨0, _⟩ => rfl
    | ⟨1, _⟩ => rfl
    | ⟨2, _⟩ => exact hf
  · show units x w1 T (ix3 t r f) * sigmoid (units x w1 T) (ix3 t r f) * units x w3 T (ix3 t r f) = _
    rw [sigmoid_apply, units_apply x w1 T hT, units_apply x w3 T hT]
    rfl
  · match a with
    | ⟨0, _⟩ => rfl
    | ⟨1, _⟩ => exact hf
    | ⟨2, _⟩ => rfl

/-- Which blocks are in use. -/
def inUse (U : IVec S1 32) : IVec S288x1x1 1 :=
  cmpi .slt (broadcastInDim S288x1x1 ![0] bcast_S288_S288x1x1_0 (iotaInDim S288 32 0)) (broadcastInDim S288x1x1 ![] bcast_S_S288x1x1 (shapeCast _ U shapeCasts_S1_S_))

theorem inUse_apply (U : IVec S1 32) (t : Fin 288) :
    inUse U (ix3 t (0 : Fin 1) (0 : Fin 1)) = IntOp.cmpi .slt (BitVec.ofNat 32 t.val) (U (ix1 (0 : Fin 1))) := by
  refine congrArg₂ (IntOp.cmpi .slt) ((broadcastInDim_apply _ _ _ _ (ix1 t) fun a => ?_).trans rfl) ?_
  · match a with
    | ⟨0, _⟩ => rfl
  · refine congrArg U (funext fun a => ?_)
    match a with
    | ⟨0, _⟩ => exact Subsingleton.elim (α := Fin 1) _ _

/-- The result. -/
def result (x : FVec Ideal S73728x1024 .f32) (T : IVec S288 32) (U : IVec S1 32) (w1 w3 : FVec Ideal S32x1024x512 .f32) (w2 : FVec Ideal S32x512x1024 .f32) :
    FVec Ideal S73728x1024 .f32 :=
  shapeCast _ (select (broadcastInDim S288x256x1024 ![0, 1, 2] bcast_S288x1x1_S288x256x1024_0_1_2 (inUse U)) (outputs x T w1 w3 w2)
    (broadcastInDim S288x256x1024 ![] bcast_S_S288x256x1024 (id (constant S_ .f32 0x00000000#32)))) shapeCasts_S288x256x1024_S73728x1024

theorem result_apply (x : FVec Ideal S73728x1024 .f32) (T : IVec S288 32) (U : IVec S1 32) (w1 w3 : FVec Ideal S32x1024x512 .f32)
    (w2 : FVec Ideal S32x512x1024 .f32) (hT : ∀ x, (T x).toNat < 32) (t : Fin 288) (r : Fin 256) (j : Fin 1024) :
    result x T U w1 w3 w2 (ix2 (⟨256 * t.val + r.val, by omega⟩ : Fin 73728) j) = Cert.MlpSpec.value x T U w1 w3 w2 hT t r j := by
  have hu : broadcastInDim S288x256x1024 ![0, 1, 2] bcast_S288x1x1_S288x256x1024_0_1_2 (inUse U) (ix3 t r j)
      = IntOp.cmpi .slt (BitVec.ofNat 32 t.val) (U (ix1 (0 : Fin 1))) :=
    (broadcastInDim_apply _ _ _ _ (ix3 t (0 : Fin 1) (0 : Fin 1)) fun a => by
      match a with
      | ⟨0, _⟩ => rfl
      | ⟨1, _⟩ => rfl
      | ⟨2, _⟩ => rfl).trans (inUse_apply U t)
  have hz : broadcastInDim S288x256x1024 ![] bcast_S_S288x256x1024 (id (constant (F := Ideal) S_ .f32 0x00000000#32)) (ix3 t r j) = (0 : EReal) := Ideal.ofBits_zero_f32
  unfold result
  refine (shapeCast_apply _ _ _ (ix3 t r j) ?_).trans ?_
  · rw [Shape.rowMajor_val_three, Shape.rowMajor_val_two]
    show (t.val * 256 + r.val) * 1024 + j.val = (256 * t.val + r.val) * 1024 + j.val
    omega
  · unfold Cert.MlpSpec.value
    by_cases h : IntOp.cmpi .slt (BitVec.ofNat 32 t.val) (U (ix1 (0 : Fin 1))) = 1#1
    · rw [if_pos h]
      exact (if_pos (hu.trans h)).trans (outputs_apply x T hT w1 w3 w2 t r j)
    · rw [if_neg h]
      exact (if_neg (fun h' => h (hu.symm.trans h'))).trans hz

end Cert.MlpRef

end
-- ==== Proof.MlpEqual.lean ====
/- The two expert MLPs end with the same array, and the reference's frame. -/
module

public import proofs.«01_k».proof.Proof.MlpWhole
public import proofs.«01_k».proof.Proof.MlpRef
public import proofs.«01_k».proof.Proof.MlpFrame
public import Idealize.ShloMosaic.Lib.Quiescent

@[expose] public section

set_option maxRecDepth 16384

noncomputable section

namespace Cert.MlpEqual

open Idealize.ShloMosaic Idealize.ShloMosaic.TcCoe Idealize.ShloMosaic.ValueIdx Idealize.SL.Sem
open Cert.Kernel3Ideal

local instance : Cert.Pre_ranged.Facts := Cert.Ranged.facts
local instance : Cert.Kernel3Ideal.Facts := Cert.Kernel3Ideal.Gen.facts
local instance : Cert.Reference3Ideal.Facts := Cert.Reference3Ideal.Gen.facts

/-- The reference's array is the kernel's, from the same arguments. -/
theorem same (T : S288.Idx → BitVec 32) (U : S1.Idx → BitVec 32) (hT : ∀ x, (T x).toNat < 32) (m : (ℓ : Loc nD τ sig) → Buf (Elt Ideal) ℓ) (c : Dev nD) :
    Cert.MlpRef.result (m ((c : Thread nD τ).loc main_arg0)) T U (m ((c : Thread nD τ).loc main_arg3)) (m ((c : Thread nD τ).loc main_arg4))
      (m ((c : Thread nD τ).loc main_arg5)) = Cert.MlpWhole.result T U hT m c := by
  funext i
  obtain ⟨k, j, rfl⟩ : ∃ (k : Fin 73728) (j : Fin 1024), i = ix2 k j := ⟨i 0, i 1, eq_ix2 i⟩
  obtain ⟨t, r, rfl⟩ : ∃ (t : Fin 288) (r : Fin 256), k = ⟨256 * t.val + r.val, by omega⟩ :=
    ⟨⟨k.val / 256, by omega⟩, ⟨k.val % 256, by omega⟩, Fin.ext (by show k.val = 256 * (k.val / 256) + k.val % 256; omega)⟩
  exact (Cert.MlpRef.result_apply _ T U _ _ _ hT t r j).trans (Cert.MlpWhole.result_apply T U hT m c t r j).symm

/-- The reference's term is this array. -/
theorem read (m : (ℓ : Loc Cert.Reference3Ideal.nD Cert.Reference3Ideal.τ Cert.Reference3Ideal.sig) → Buf (Elt Ideal) ℓ) (c : Dev Cert.Reference3Ideal.nD) :
    Cert.Reference3Ideal.Value.res_out0 m c = Cert.MlpRef.result (m ((c.tc : Thread Cert.Reference3Ideal.nD Cert.Reference3Ideal.τ).loc Cert.Reference3Ideal.main_arg0))
      (m ((c.tc : Thread Cert.Reference3Ideal.nD Cert.Reference3Ideal.τ).loc Cert.Reference3Ideal.main_arg1))
      (m ((c.tc : Thread Cert.Reference3Ideal.nD Cert.Reference3Ideal.τ).loc Cert.Reference3Ideal.main_arg2))
      (m ((c.tc : Thread Cert.Reference3Ideal.nD Cert.Reference3Ideal.τ).loc Cert.Reference3Ideal.main_arg3))
      (m ((c.tc : Thread Cert.Reference3Ideal.nD Cert.Reference3Ideal.τ).loc Cert.Reference3Ideal.main_arg4))
      (m ((c.tc : Thread Cert.Reference3Ideal.nD Cert.Reference3Ideal.τ).loc Cert.Reference3Ideal.main_arg5)) := by
  unfold Cert.Reference3Ideal.Value.res_out0 Cert.Reference3Ideal.Value.res_main_v63
  rfl

/-- The equation. -/
theorem equal : Cert.algebraic_Kernel3Ideal_Reference3Ideal := by
  intro m g m' g' hm hagree
  have hT := Cert.Ranged.below _ _ _ _ _ _ (hm Cert.MlpFrame.dev)
  have hp := Cert.MlpFrame.holds m Cert.MlpFrame.dev
  refine ⟨fun c => Cert.MlpWhole.result _ _ hT m c,
    (θ_run (Cert.Kernel3Ideal.defs (F := Ideal)) _ _).mono (fun r h c => ⟨((h.1 c).1 (4 : Fin 5)).trans (Cert.MlpWhole.final _ _ hT m c), Cert.MlpRun.unchanged _ _ hT m c r h.1 hp⟩)
      (Cert.MlpRun.run _ _ hT m g hp),
    (θ_run (Cert.Reference3Ideal.defs (F := Ideal)) _ _).mono (fun r h c => ⟨(h c).1.trans ?_, (h c).2⟩) (Cert.Reference3Ideal.Value.run m' g')⟩
  obtain ⟨h0, h1, h2, h3, h4, h5⟩ := hagree c
  refine (read m' c).trans ?_
  rw [h0, h1, h2, h3, h4, h5, hp.1 c, hp.2 c]
  exact same _ _ hT m c

/-- The reference has no semaphores, so its counters are zero. -/
theorem frame_reference : Cert.quiescent_Reference3Ideal := fun m g _ =>
  (θ_run (Cert.Reference3Ideal.defs (F := Ideal)) _ _).mono (fun r h => ⟨fun c => (h c).2, sem_eq_zero_of_no_sems (by decide) r.2⟩)
    (Cert.Reference3Ideal.Value.run m g)

end Cert.MlpEqual

end
-- ==== Proof.OutFrame.lean ====
/- The output projection's frame at the words, from the run of the same text read over any float values. -/
module

public import proofs.«01_k».proof.Proof.Gen.Kernel4Ideal.Frame
public import proofs.«01_k».proof.Proof.Gen.Kernel4
public import proofs.«01_k».proof.Defs

@[expose] public section

set_option maxRecDepth 65536
set_option maxHeartbeats 4000000

namespace Cert.OutFrame

open Idealize.ShloMosaic Idealize.SL.Sem

local instance : Cert.Kernel4.Facts := Cert.Kernel4.Gen.facts
local instance : Cert.Kernel4Ideal.Facts := Cert.Kernel4Ideal.Gen.facts

/-- The two texts' bodies are one, -/
theorem bodies : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

/-- and so are their calls. -/
theorem defs_eq : Cert.Kernel4.defs (F := Bits) = Cert.Kernel4Ideal.defs (F := Bits) :=
  congrArg (Pipeline.defs Cert.Kernel4.pcfgs) bodies

/-- The frame at the words. -/
theorem frame : Cert.quiescent_Kernel4 := fun m g _ => by
  rw [defs_eq]
  exact Cert.Kernel4Ideal.Gen.frame (F := Bits) m g

end Cert.OutFrame
-- ==== Proof.OutSpec.lean ====
/- The output projection, over the extended reals, at one token: the scan's output normalised head by head, gated, put
   beside the three other mixers' outputs, times the weights, added to the token; and the router's columns. -/
module

public import proofs.«01_k».proof.Proof.ProjSpec
public import proofs.«01_k».proof.Proof.Attn
public import Idealize.ShloMosaic.PureOps.Ideal.Laws

@[expose] public section

noncomputable section

namespace Cert.OutSpec

open Idealize.ShloMosaic
open scoped BigOperators

/-- A feature's head. -/
def head (k : Fin 256) : Fin 4 := ⟨k.val / 64, by omega⟩

/-- A head's feature. -/
def feature (a : Fin 4) (e : Fin 64) : Fin 256 := ⟨64 * a.val + e.val, by omega⟩

theorem head_feature (a : Fin 4) (e : Fin 64) : head (feature a e) = a :=
  Fin.ext (by show (64 * a.val + e.val) / 64 = a.val; omega)

/-- A head's sum. -/
def headSum (x : Fin 256 → EReal) (a : Fin 4) : EReal := ∑ e : Fin 64, x (feature a e)

/-- A head's mean. -/
def mean (x : Fin 256 → EReal) (a : Fin 4) : EReal := Ideal.div (headSum x a) (Ideal.ofBits .f32 0x42800000#32)

/-- A feature less its head's mean. -/
def centred (x : Fin 256 → EReal) (k : Fin 256) : EReal := x k - mean x (head k)

/-- A head's variance. -/
def variance (x : Fin 256 → EReal) : Fin 4 → EReal := mean fun k => centred x k * centred x k

/-- A feature normalised within its head. -/
def normed (x : Fin 256 → EReal) (k : Fin 256) : EReal :=
  centred x k * Ideal.rsqrt (variance x (head k) + Ideal.ofBits .f32 0x3A27C5AC#32)

/-- The scan's part of the mixers' output. -/
def gated (x w b u g : Fin 256 → EReal) (k : Fin 256) : EReal := (normed x k * w k + b k + u k) * g k

/-- Quarter `q`'s feature of a row of 1024. -/
def quarter (q : Fin 4) (k : Fin 256) : Fin 1024 := ⟨256 * q.val + k.val, by omega⟩

/-- The four mixers' outputs times a column of the weights. -/
def mixed (p0 p1 p2 p3 : Fin 256 → EReal) (w : Fin 1024 → EReal) : EReal :=
  (∑ k, p0 k * w (quarter 0 k)) + (∑ k, p1 k * w (quarter 1 k)) + (∑ k, p2 k * w (quarter 2 k)) + ∑ k, p3 k * w (quarter 3 k)

/-- A sum over a row is the sum of its quarters' sums. -/
theorem sum_quarters (f : Fin 1024 → EReal) :
    ∑ e, f e = (∑ k, f (quarter 0 k)) + (∑ k, f (quarter 1 k)) + (∑ k, f (quarter 2 k)) + ∑ k, f (quarter 3 k) := by
  rw [← Equiv.sum_comp (finProdFinEquiv : Fin 4 × Fin 256 ≃ Fin 1024), Fintype.sum_prod_type, Fin.sum_univ_four]
  have h : ∀ (q : Fin 4) (k : Fin 256), (finProdFinEquiv : Fin 4 × Fin 256 ≃ Fin 1024) (q, k) = quarter q k := fun q k =>
    Fin.ext (by show k.val + 256 * q.val = 256 * q.val + k.val; omega)
  simp only [h]

/-- The kernel's segment matrix: one where the two features share their head. -/
def segment (j k : Fin 256) : EReal := if j.val / 64 = k.val / 64 then 1 else 0

/-- A product with it is the head's sum. -/
theorem sum_segment (x : Fin 256 → EReal) (k : Fin 256) : ∑ j, x j * segment j k = headSum x (head k) := by
  rw [← Equiv.sum_comp (finProdFinEquiv : Fin 4 × Fin 64 ≃ Fin 256), Fintype.sum_prod_type, Finset.sum_eq_single (head k)]
  · refine Finset.sum_congr rfl fun e _ => ?_
    have hv : (finProdFinEquiv : Fin 4 × Fin 64 ≃ Fin 256) (head k, e) = feature (head k) e :=
      Fin.ext (by show e.val + 64 * (head k).val = 64 * (head k).val + e.val; omega)
    rw [hv, segment, if_pos (by show (64 * (k.val / 64) + e.val) / 64 = k.val / 64; omega), mul_one]
  · intro a _ ha
    refine Finset.sum_eq_zero fun e _ => ?_
    have hv : (finProdFinEquiv : Fin 4 × Fin 64 ≃ Fin 256) (a, e) = feature a e :=
      Fin.ext (by show e.val + 64 * a.val = 64 * a.val + e.val; omega)
    have hne : a.val ≠ k.val / 64 := fun h => ha (Fin.ext h)
    rw [hv, segment, if_neg (by show ¬ (64 * a.val + e.val) / 64 = k.val / 64; omega), mul_zero]
  · intro h
    exact absurd (Finset.mem_univ _) h

/-- The kernel's head sums, of a value and of what its rounding leaves: nothing, over the extended reals, of a real. -/
theorem sum_parts (r : Fin 256 → ℝ) (k : Fin 256) :
    (∑ j, ((r j : ℝ) : EReal) * segment j k) + (∑ j, (((r j : ℝ) : EReal) - ((r j : ℝ) : EReal)) * segment j k) = headSum (fun j => ((r j : ℝ) : EReal)) (head k) := by
  have h : ∀ j, (((r j : ℝ) : EReal) - ((r j : ℝ) : EReal)) * segment j k = 0 := fun j => by
    rw [← EReal.coe_sub, sub_self, EReal.coe_zero, zero_mul]
  simp only [h]
  rw [Finset.sum_const_zero, add_zero, sum_segment]

theorem word64 : Ideal.ofBits .f32 0x42800000#32 = ((64 : ℝ) : EReal) := by
  simp [Ideal.ofBits, Ideal.ieee]
  norm_cast
  norm_num

theorem wordInv64 : Ideal.ofBits .f32 0x3C800000#32 = ((1 / 64 : ℝ) : EReal) := by
  simp [Ideal.ofBits, Ideal.ieee]
  norm_cast
  norm_num

/-- The kernel multiplies by a sixty-fourth. -/
theorem scaled (x : EReal) : x * Ideal.ofBits .f32 0x3C800000#32 = Ideal.div x (Ideal.ofBits .f32 0x42800000#32) := by
  rw [word64, wordInv64, Ideal.div_coe (by norm_num)]

/-- A mean of reals is real. -/
theorem mean_real (r : Fin 256 → ℝ) (a : Fin 4) :
    mean (fun j => ((r j : ℝ) : EReal)) a = (((∑ e : Fin 64, r (feature a e)) * (1 / 64) : ℝ) : EReal) := by
  unfold mean headSum
  rw [Cert.Attn.coe_sum, word64, Ideal.div_coe (by norm_num), ← EReal.coe_mul]

/-- A real feature less its head's mean is real. -/
theorem centred_real (r : Fin 256 → ℝ) : ∃ s : Fin 256 → ℝ, ∀ k, centred (fun j => ((r j : ℝ) : EReal)) k = ((s k : ℝ) : EReal) :=
  ⟨fun k => r k - (∑ e : Fin 64, r (feature (head k) e)) * (1 / 64), fun k => by
    unfold centred
    rw [mean_real, ← EReal.coe_sub]⟩

/-- A row of 4 and a row of 32 side by side, then zeros. -/
def wide (p : Fin 4 → EReal) (q : Fin 32 → EReal) (j : Fin 128) : EReal :=
  if h : j.val < 4 then p ⟨j.val, h⟩ else if h' : j.val < 36 then q ⟨j.val - 4, by omega⟩ else 0

/-- Products with the columns side by side are the products side by side. -/
theorem wide_sum (x : Fin 1024 → EReal) (p : Fin 1024 → Fin 4 → EReal) (q : Fin 1024 → Fin 32 → EReal) (a : Fin 4 → EReal) (b : Fin 32 → EReal)
    (j : Fin 128) :
    (∑ e, x e * wide (p e) (q e) j) + wide a b j = wide (fun i => (∑ e, x e * p e i) + a i) (fun i => (∑ e, x e * q e i) + b i) j := by
  unfold wide
  by_cases h : j.val < 4
  · simp only [dif_pos h]
  · by_cases h' : j.val < 36
    · simp only [dif_neg h, dif_pos h']
    · simp only [dif_neg h, dif_neg h', mul_zero, Finset.sum_const_zero, add_zero]

end Cert.OutSpec

end
-- ==== Proof.OutBlock.lean ====
/- The output projection's body, over the extended reals: its three stores at a row of the block, by `OutSpec`. -/
module

public import proofs.«01_k».proof.Proof.OutSpec
public import proofs.«01_k».proof.Proof.Gen.Kernel4Ideal.Value
public import Idealize.ShloMosaic.Lib.ValueLayout
public import Idealize.ShloMosaic.Lib.MatmulPlain
public import Idealize.ShloMosaic.Lib.Pipeline.Value

@[expose] public section

set_option maxRecDepth 16384

noncomputable section

namespace Cert.OutBlock

open Cert.Kernel4Ideal Cert.Kernel4Ideal.Gen
open Idealize.ShloMosaic Idealize.ShloMosaic.ValueIdx
open scoped BigOperators

/-- Products with the segment matrix, of a block and of what its rounding leaves. -/
def parts (x : FVec Ideal S256x256 .f32) (seg : FVec Ideal S256x256 .bf16) : FVec Ideal S256x256 .f32 :=
  addf (matmul (φ₂ := .bf16) dot_S256x256_S256x256_S256x256_1_0_0_1_n_n none (truncf .bf16 x bitsLt_bf16_f32) seg (constant S256x256 .f32 0x00000000#32))
    (matmul (φ₂ := .bf16) dot_S256x256_S256x256_S256x256_1_0_0_1_n_n none
      (truncf .bf16 (subf x (extf .f32 (truncf .bf16 x bitsLt_bf16_f32) bitsLt_bf16_f32)) bitsLt_bf16_f32) seg (constant S256x256 .f32 0x00000000#32))

theorem parts_apply (x : FVec Ideal S256x256 .f32) (seg : FVec Ideal S256x256 .bf16) (hseg : ∀ j k, seg (ix2 j k) = Cert.OutSpec.segment j k)
    (r : Fin 256) (f : Fin 256 → ℝ) (hx : ∀ j, x (ix2 r j) = ((f j : ℝ) : EReal)) (k : Fin 256) :
    parts x seg (ix2 r k) = Cert.OutSpec.headSum (fun j => ((f j : ℝ) : EReal)) (Cert.OutSpec.head k) := by
  have h0 : constant (F := Ideal) S256x256 .f32 0x00000000#32 (ix2 r k) = (0 : EReal) := Ideal.ofBits_zero_f32
  refine Eq.trans ?_ (Cert.OutSpec.sum_parts f k)
  refine congrArg₂ (· + ·) ((Ideal.matmul_plain_apply none _ _ _ r k).trans ?_) ((Ideal.matmul_plain_apply none _ _ _ r k).trans ?_)
  · rw [h0, zero_add]
    refine Finset.sum_congr rfl fun j _ => ?_
    rw [hseg, ← hx]
    rfl
  · rw [h0, zero_add]
    refine Finset.sum_congr rfl fun j _ => ?_
    rw [hseg, ← hx]
    rfl

/-- A head's mean, for each of its features. -/
def means (x : FVec Ideal S256x256 .f32) (seg : FVec Ideal S256x256 .bf16) : FVec Ideal S256x256 .f32 :=
  mulf (parts x seg) (broadcast S256x256 (Scalar.ofBits .f32 0x3C800000#32))

theorem means_apply (x : FVec Ideal S256x256 .f32) (seg : FVec Ideal S256x256 .bf16) (hseg : ∀ j k, seg (ix2 j k) = Cert.OutSpec.segment j k)
    (r : Fin 256) (f : Fin 256 → ℝ) (hx : ∀ j, x (ix2 r j) = ((f j : ℝ) : EReal)) (k : Fin 256) :
    means x seg (ix2 r k) = Cert.OutSpec.mean (fun j => ((f j : ℝ) : EReal)) (Cert.OutSpec.head k) := by
  show parts x seg (ix2 r k) * Ideal.ofBits .f32 0x3C800000#32 = _
  rw [parts_apply x seg hseg r f hx, Cert.OutSpec.scaled]
  rfl

/-- The features less their heads' means. -/
def centred (x : FVec Ideal S256x256 .f32) (seg : FVec Ideal S256x256 .bf16) : FVec Ideal S256x256 .f32 := subf x (means x seg)

/-- The features normalised within their heads. -/
def normed (x : FVec Ideal S256x256 .f32) (seg : FVec Ideal S256x256 .bf16) : FVec Ideal S256x256 .f32 :=
  mulf (centred x seg) (rsqrt (addf (means (mulf (centred x seg) (centred x seg)) seg) (broadcast S256x256 (Scalar.ofBits .f32 0x3A27C5AC#32))))

theorem normed_apply (x : FVec Ideal S256x256 .f32) (seg : FVec Ideal S256x256 .bf16) (hseg : ∀ j k, seg (ix2 j k) = Cert.OutSpec.segment j k)
    (r : Fin 256) (f : Fin 256 → ℝ) (hx : ∀ j, x (ix2 r j) = ((f j : ℝ) : EReal)) (k : Fin 256) :
    normed x seg (ix2 r k) = Cert.OutSpec.normed (fun j => x (ix2 r j)) k := by
  have hf : (fun j => x (ix2 r j)) = fun j => ((f j : ℝ) : EReal) := funext hx
  have hc : ∀ j, centred x seg (ix2 r j) = Cert.OutSpec.centred (fun j => ((f j : ℝ) : EReal)) j := fun j => by
    show x (ix2 r j) - means x seg (ix2 r j) = _
    rw [means_apply x seg hseg r f hx, hx]
    rfl
  obtain ⟨s, hs⟩ := Cert.OutSpec.centred_real f
  have hq : ∀ j, mulf (centred x seg) (centred x seg) (ix2 r j) = ((s j * s j : ℝ) : EReal) := fun j => by
    show centred x seg (ix2 r j) * centred x seg (ix2 r j) = _
    rw [hc, hs, ← EReal.coe_mul]
  have hv : (fun j => ((s j * s j : ℝ) : EReal)) = fun k => Cert.OutSpec.centred (fun j => ((f j : ℝ) : EReal)) k * Cert.OutSpec.centred (fun j => ((f j : ℝ) : EReal)) k :=
    funext fun j => by rw [hs, ← EReal.coe_mul]
  show centred x seg (ix2 r k) * Ideal.rsqrt (means (mulf (centred x seg) (centred x seg)) seg (ix2 r k) + Ideal.ofBits .f32 0x3A27C5AC#32) = _
  rw [means_apply (mulf (centred x seg) (centred x seg)) seg hseg r _ hq, hc, hv, hf]
  rfl

/-- A row of features for every token. -/
def rows (g : FVec Ideal S1x256 .f32) : FVec Ideal S256x256 .f32 := broadcastTo S256x256 g broadcasts_S1x256_S256x256

theorem rows_apply (g : FVec Ideal S1x256 .f32) (r k : Fin 256) : rows g (ix2 r k) = g (ix2 (0 : Fin 1) k) :=
  broadcastTo_1b_ab_apply g broadcasts_S1x256_S256x256 r k

/-- The scan's part before the bonus and the gate. -/
theorem pay1_apply (x0 x1 : Vec Ideal S256x256 .f32) (seg : Vec Ideal S256x256 .bf16) (w b : Vec Ideal S1x256 .f32)
    (hseg : ∀ j k, seg (ix2 j k) = Cert.OutSpec.segment j k) (r : Fin 256) (f : Fin 256 → ℝ)
    (hx : ∀ j, (x0 (ix2 r j) + x1 (ix2 r j) : EReal) = ((f j : ℝ) : EReal)) (k : Fin 256) :
    k0_pay1 x0 x1 seg w b (ix2 r k) = (Cert.OutSpec.normed (fun j => (x0 (ix2 r j) + x1 (ix2 r j) : EReal)) k * w (ix2 (0 : Fin 1) k) + b (ix2 (0 : Fin 1) k) : EReal) := by
  have h : k0_pay1 x0 x1 seg w b = addf (mulf (normed (addf (shapeCast S256x256 (x0 : FVec Ideal S256x256 .f32) shapeCasts_S256x256_S256x256)
        (shapeCast S256x256 (x1 : FVec Ideal S256x256 .f32) shapeCasts_S256x256_S256x256)) (shapeCast S256x256 (seg : FVec Ideal S256x256 .bf16) shapeCasts_S256x256_S256x256))
      (rows (shapeCast S1x256 w shapeCasts_S1x256_S1x256))) (rows (shapeCast S1x256 b shapeCasts_S1x256_S1x256)) := rfl
  rw [h, shapeCast_self, shapeCast_self, shapeCast_self, shapeCast_self, shapeCast_self]
  show normed (addf x0 x1) seg (ix2 r k) * rows w (ix2 r k) + rows b (ix2 r k) = _
  rw [normed_apply (addf x0 x1) seg hseg r f hx, rows_apply, rows_apply]
  rfl

/-- A block's product with a quarter of the weights. -/
def product (x : FVec Ideal S256x256 .f32) (w : FVec Ideal S256x1024 .bf16) : FVec Ideal S256x1024 .f32 :=
  matmul (φ₂ := .bf16) dot_S256x256_S256x1024_S256x1024_1_0_0_1_n_n none (truncf .bf16 x bitsLt_bf16_f32) w (constant S256x1024 .f32 0x00000000#32)

theorem product_apply (x : FVec Ideal S256x256 .f32) (w : FVec Ideal S256x1024 .bf16) (r : Fin 256) (e : Fin 1024) :
    product x w (ix2 r e) = ∑ k : Fin 256, (x (ix2 r k) * w (ix2 k e) : EReal) := by
  refine (Ideal.matmul_plain_apply none _ _ _ r e).trans ?_
  have h0 : constant (F := Ideal) S256x1024 .f32 0x00000000#32 (ix2 r e) = (0 : EReal) := Ideal.ofBits_zero_f32
  rw [h0, zero_add]
  rfl

/-- The mixers' outputs times the weights. -/
theorem pay2_apply (n u g p1 p2 p3 : Vec Ideal S256x256 .f32) (w0 w1 w2 w3 : Vec Ideal S256x1024 .bf16) (r : Fin 256) (e : Fin 1024)
    (a b1 b2 b3 : Fin 256 → EReal) (w : Fin 1024 → EReal) (ha : ∀ k, ((n (ix2 r k) + u (ix2 r k)) * g (ix2 r k) : EReal) = a k)
    (h1 : ∀ k, p1 (ix2 r k) = b1 k) (h2 : ∀ k, p2 (ix2 r k) = b2 k) (h3 : ∀ k, p3 (ix2 r k) = b3 k)
    (hw0 : ∀ k, w0 (ix2 k e) = w (Cert.OutSpec.quarter 0 k)) (hw1 : ∀ k, w1 (ix2 k e) = w (Cert.OutSpec.quarter 1 k))
    (hw2 : ∀ k, w2 (ix2 k e) = w (Cert.OutSpec.quarter 2 k)) (hw3 : ∀ k, w3 (ix2 k e) = w (Cert.OutSpec.quarter 3 k)) :
    k0_pay2 n u g w0 p1 w1 p2 w2 p3 w3 (ix2 r e) = Cert.OutSpec.mixed a b1 b2 b3 w := by
  have h : k0_pay2 n u g w0 p1 w1 p2 w2 p3 w3 = addf (addf (addf
      (product (mulf (addf n (shapeCast S256x256 (u : FVec Ideal S256x256 .f32) shapeCasts_S256x256_S256x256)) (shapeCast S256x256 (g : FVec Ideal S256x256 .f32) shapeCasts_S256x256_S256x256))
        (shapeCast S256x1024 (w0 : FVec Ideal S256x1024 .bf16) shapeCasts_S256x1024_S256x1024))
      (product (shapeCast S256x256 (p1 : FVec Ideal S256x256 .f32) shapeCasts_S256x256_S256x256) (shapeCast S256x1024 (w1 : FVec Ideal S256x1024 .bf16) shapeCasts_S256x1024_S256x1024)))
      (product (shapeCast S256x256 (p2 : FVec Ideal S256x256 .f32) shapeCasts_S256x256_S256x256) (shapeCast S256x1024 (w2 : FVec Ideal S256x1024 .bf16) shapeCasts_S256x1024_S256x1024)))
      (product (shapeCast S256x256 (p3 : FVec Ideal S256x256 .f32) shapeCasts_S256x256_S256x256) (shapeCast S256x1024 (w3 : FVec Ideal S256x1024 .bf16) shapeCasts_S256x1024_S256x1024)) := rfl
  rw [h]
  simp only [shapeCast_self]
  show product _ _ (ix2 r e) + product _ _ (ix2 r e) + product _ _ (ix2 r e) + product _ _ (ix2 r e) = _
  rw [product_apply, product_apply, product_apply, product_apply]
  unfold Cert.OutSpec.mixed
  refine congrArg₂ (· + ·) (congrArg₂ (· + ·) (congrArg₂ (· + ·) ?_ ?_) ?_) ?_
  · exact Finset.sum_congr rfl fun k _ => congrArg₂ (· * ·) (ha k) (hw0 k)
  · exact Finset.sum_congr rfl fun k _ => congrArg₂ (· * ·) (h1 k) (hw1 k)
  · exact Finset.sum_congr rfl fun k _ => congrArg₂ (· * ·) (h2 k) (hw2 k)
  · exact Finset.sum_congr rfl fun k _ => congrArg₂ (· * ·) (h3 k) (hw3 k)

theorem cast_apply (s : FVec Ideal S1x1x1024 .f32) (e : Fin 1024) :
    shapeCast S1x1024 s shapeCasts_S1x1x1024_S1x1024 (ix2 (0 : Fin 1) e) = s (ix3 (0 : Fin 1) (0 : Fin 1) e) :=
  shapeCast_apply s _ (ix2 (0 : Fin 1) e) (ix3 (0 : Fin 1) (0 : Fin 1) e) (by
    rw [Shape.rowMajor_val_three, Shape.rowMajor_val_two]
    show ((0 * 1 + 0) * 1024 + e.val) = 0 * 1024 + e.val
    omega)

/-- A row of 1024 features for every token. -/
def wides (g : FVec Ideal S1x1024 .f32) : FVec Ideal S256x1024 .f32 := broadcastTo S256x1024 g broadcasts_S1x1024_S256x1024

theorem wides_apply (g : FVec Ideal S1x1024 .f32) (r : Fin 256) (e : Fin 1024) : wides g (ix2 r e) = g (ix2 (0 : Fin 1) e) :=
  broadcastTo_1b_ab_apply g broadcasts_S1x1024_S256x1024 r e

/-- The first store: the tokens plus the gated product. -/
theorem pay5_apply (y : FVec Ideal S256x1024 .f32) (x : Vec Ideal S256x1024 .f32) (g : Vec Ideal S1x1x1024 .f32) (r : Fin 256) (e : Fin 1024) :
    k0_pay5 y (k0_pay3 x) (k0_pay4 g) (ix2 r e) = (x (ix2 r e) + g (ix3 (0 : Fin 1) (0 : Fin 1) e) * y (ix2 r e) : EReal) := by
  have h : k0_pay5 y (k0_pay3 x) (k0_pay4 g) = addf (shapeCast S256x1024 (x : FVec Ideal S256x1024 .f32) shapeCasts_S256x1024_S256x1024)
      (mulf (wides (shapeCast S1x1024 g shapeCasts_S1x1x1024_S1x1024)) y) := rfl
  rw [h, shapeCast_self]
  show x (ix2 r e) + wides (shapeCast S1x1024 g shapeCasts_S1x1x1024_S1x1024) (ix2 r e) * y (ix2 r e) = _
  rw [wides_apply, cast_apply]

/-- The rows' sums of squares. -/
def squares (x : FVec Ideal S256x1024 .f32) : FVec Ideal S256 .f32 :=
  multiReduction .add [1] S256 (mulf x x) 0x00000000#32 reduces_S256x1024_S256 (.inl rfl) rfl

/-- The rows' norms. -/
def norms (x : FVec Ideal S256x1024 .f32) : FVec Ideal S256x1 .f32 :=
  rsqrt (addf (divf (shapeCast S256x1 (squares x) shapeCasts_S256_S256x1) (broadcast S256x1 (Scalar.ofBits .f32 0x44800000#32)))
    (broadcast S256x1 (Scalar.ofBits .f32 0x358637BD#32)))

/-- The activations. -/
def acts (x : FVec Ideal S256x1024 .f32) (g : FVec Ideal S1x1024 .f32) (s h : FVec Ideal S1x1x1024 .f32) : FVec Ideal S256x1024 .f32 :=
  addf (mulf (mulf (mulf x (broadcastTo S256x1024 (norms x) broadcasts_S256x1_S256x1024)) (wides g))
    (wides (shapeCast S1x1024 s shapeCasts_S1x1x1024_S1x1024))) (wides (shapeCast S1x1024 h shapeCasts_S1x1x1024_S1x1024))

theorem squares_apply (x : FVec Ideal S256x1024 .f32) (r : Fin 256) :
    squares x (ix1 r) = ∑ e : Fin 1024, (x (ix2 r e) * x (ix2 r e) : EReal) := by
  unfold squares
  refine (Ideal.multiReduction_add_single (mulf x x) 0x00000000#32 reduces_S256x1024_S256 (.inl rfl) rfl (ix1 r)).trans ?_
  refine Finset.sum_congr rfl fun e _ => ?_
  have h : reduces_S256x1024_S256.lift (ix1 r) e = ix2 r e := by
    funext a
    match a with
    | ⟨0, _⟩ => rfl
    | ⟨1, _⟩ => rfl
  rw [h]
  rfl

theorem norms_apply (x : FVec Ideal S256x1024 .f32) (r : Fin 256) :
    norms x (ix2 r (0 : Fin 1)) = Cert.ProjSpec.norm fun e => x (ix2 r e) := by
  have h : shapeCast S256x1 (squares x) shapeCasts_S256_S256x1 (ix2 r (0 : Fin 1)) = squares x (ix1 r) :=
    shapeCast_apply (squares x) _ (ix2 r (0 : Fin 1)) (ix1 r) (by
      rw [Shape.rowMajor_val_one, Shape.rowMajor_val_two]
      show r.val = r.val * 1 + 0
      omega)
  show Ideal.rsqrt (Ideal.div (shapeCast S256x1 (squares x) shapeCasts_S256_S256x1 (ix2 r (0 : Fin 1))) (Ideal.ofBits .f32 0x44800000#32) + Ideal.ofBits .f32 0x358637BD#32) = _
  rw [h, squares_apply]
  rfl

theorem acts_apply (x : FVec Ideal S256x1024 .f32) (g : FVec Ideal S1x1024 .f32) (s h : FVec Ideal S1x1x1024 .f32) (r : Fin 256) (e : Fin 1024) :
    acts x g s h (ix2 r e) = Cert.ProjSpec.act (fun e => x (ix2 r e)) (fun e => g (ix2 (0 : Fin 1) e))
      (fun e => s (ix3 (0 : Fin 1) (0 : Fin 1) e)) (fun e => h (ix3 (0 : Fin 1) (0 : Fin 1) e)) e := by
  have hn : broadcastTo S256x1024 (norms x) broadcasts_S256x1_S256x1024 (ix2 r e) = norms x (ix2 r (0 : Fin 1)) :=
    broadcastTo_apply (norms x) _ (ix2 r e) (ix2 r (0 : Fin 1)) fun a => by
      match a with
      | ⟨0, _⟩ => rfl
      | ⟨1, _⟩ => rfl
  show x (ix2 r e) * broadcastTo S256x1024 (norms x) broadcasts_S256x1_S256x1024 (ix2 r e) * wides g (ix2 r e)
    * wides (shapeCast S1x1024 s shapeCasts_S1x1x1024_S1x1024) (ix2 r e) + wides (shapeCast S1x1024 h shapeCasts_S1x1x1024_S1x1024) (ix2 r e) = _
  rw [hn, norms_apply, wides_apply, wides_apply, wides_apply, cast_apply, cast_apply]
  rfl

/-- The second store: the activations of what the first holds. -/
theorem pay6_apply (y p q : FVec Ideal S256x1024 .f32) (g : Vec Ideal S1x1024 .f32) (s h : Vec Ideal S1x1x1024 .f32) (r : Fin 256) (e : Fin 1024) :
    k0_pay6 y p q g s h (ix2 r e) = Cert.ProjSpec.act (fun e => k0_pay5 y p q (ix2 r e)) (fun e => g (ix2 (0 : Fin 1) e))
      (fun e => s (ix3 (0 : Fin 1) (0 : Fin 1) e)) (fun e => h (ix3 (0 : Fin 1) (0 : Fin 1) e)) e := by
  have hb : k0_pay6 y p q g s h = truncf .bf16 (acts (k0_pay5 y p q) (shapeCast S1x1024 g shapeCasts_S1x1024_S1x1024) s h) bitsLt_bf16_f32 := rfl
  rw [hb, shapeCast_self]
  exact acts_apply (k0_pay5 y p q) g s h r e

/-- The third store: the activations times the router's columns, plus its bias. -/
theorem pay7_apply (y p q : FVec Ideal S256x1024 .f32) (g : Vec Ideal S1x1024 .f32) (s h : Vec Ideal S1x1x1024 .f32) (w : Vec Ideal S1024x128 .f32)
    (b : Vec Ideal S1x128 .f32) (r : Fin 256) (j : Fin 128) :
    k0_pay7 y p q g s h w b (ix2 r j) = ((∑ e : Fin 1024, k0_pay6 y p q g s h (ix2 r e) * w (ix2 e j)) + b (ix2 (0 : Fin 1) j) : EReal) := by
  have hb : k0_pay7 y p q g s h w b = addf (matmul (φ₂ := .bf16) dot_S256x1024_S1024x128_S256x128_1_0_0_1_n_n none (k0_pay6 y p q g s h)
      (truncf .bf16 (shapeCast S1024x128 (w : FVec Ideal S1024x128 .f32) shapeCasts_S1024x128_S1024x128) bitsLt_bf16_f32) (constant S256x128 .f32 0x00000000#32))
      (broadcastTo S256x128 (shapeCast S1x128 b shapeCasts_S1x128_S1x128) broadcasts_S1x128_S256x128) := rfl
  rw [hb, shapeCast_self, shapeCast_self]
  have h0 : constant (F := Ideal) S256x128 .f32 0x00000000#32 (ix2 r j) = (0 : EReal) := Ideal.ofBits_zero_f32
  refine congrArg₂ (· + ·) ((Ideal.matmul_plain_apply none _ _ _ r j).trans ?_) (broadcastTo_1b_ab_apply b broadcasts_S1x128_S256x128 r j)
  rw [h0, zero_add]
  rfl

end Cert.OutBlock

end
-- ==== Proof.OutRouter.lean ====
/- The router's columns: 4 beside 32, then zeros to the width 128. -/
module

public import proofs.«01_k».proof.Proof.OutSpec
public import Idealize.ShloMosaic.Lib.ValueLayout
public import Idealize.ShloMosaic.Lib.KernelVsHost
public import Idealize.ShloMosaic.Lib.Pipeline.Value

@[expose] public section

set_option maxRecDepth 16384

noncomputable section

namespace Cert.OutRouter

open Idealize.ShloMosaic Idealize.ShloMosaic.ValueIdx

/-- Two blocks of columns side by side. -/
def beside {R : ℕ} (a : FVec Ideal (⟨2, ![R, 4]⟩ : Shape) .f32) (b : FVec Ideal (⟨2, ![R, 32]⟩ : Shape) .f32)
    (hc : Shape.Concatenates [(⟨2, ![R, 4]⟩ : Shape), (⟨2, ![R, 32]⟩ : Shape)] (⟨2, ![R, 36]⟩ : Shape) 1) : FVec Ideal (⟨2, ![R, 36]⟩ : Shape) .f32 :=
  concatenate (⟨2, ![R, 36]⟩ : Shape) 1 [⟨(⟨2, ![R, 4]⟩ : Shape), a⟩, ⟨(⟨2, ![R, 32]⟩ : Shape), b⟩] hc

theorem beside_left {R : ℕ} (a : FVec Ideal (⟨2, ![R, 4]⟩ : Shape) .f32) (b : FVec Ideal (⟨2, ![R, 32]⟩ : Shape) .f32)
    (hc : Shape.Concatenates [(⟨2, ![R, 4]⟩ : Shape), (⟨2, ![R, 32]⟩ : Shape)] (⟨2, ![R, 36]⟩ : Shape) 1) (n : Fin R) (i : Fin 4) :
    beside a b hc (ix2 n (⟨i.val, by omega⟩ : Fin 36)) = a (ix2 n i) := by
  unfold beside
  refine concatenate_apply_piece (1 : Fin (⟨2, ![R, 36]⟩ : Shape).rank) [⟨(⟨2, ![R, 4]⟩ : Shape), a⟩, ⟨(⟨2, ![R, 32]⟩ : Shape), b⟩] hc
    (ix2 n (⟨i.val, by omega⟩ : Fin 36)) 0 (Nat.succ_pos _) (⟨2, ![R, 4]⟩ : Shape) a rfl rfl 0 rfl (ix2 n i) (fun b hb => ?_) (Nat.zero_add _)
  match b with
  | ⟨0, _⟩ => rfl
  | ⟨1, _⟩ => exact absurd rfl hb

theorem beside_right {R : ℕ} (a : FVec Ideal (⟨2, ![R, 4]⟩ : Shape) .f32) (b : FVec Ideal (⟨2, ![R, 32]⟩ : Shape) .f32)
    (hc : Shape.Concatenates [(⟨2, ![R, 4]⟩ : Shape), (⟨2, ![R, 32]⟩ : Shape)] (⟨2, ![R, 36]⟩ : Shape) 1) (n : Fin R) (i : Fin 32) :
    beside a b hc (ix2 n (⟨4 + i.val, by omega⟩ : Fin 36)) = b (ix2 n i) := by
  unfold beside
  refine concatenate_apply_piece (1 : Fin (⟨2, ![R, 36]⟩ : Shape).rank) [⟨(⟨2, ![R, 4]⟩ : Shape), a⟩, ⟨(⟨2, ![R, 32]⟩ : Shape), b⟩] hc
    (ix2 n (⟨4 + i.val, by omega⟩ : Fin 36)) 1 (Nat.lt_succ_self _) (⟨2, ![R, 32]⟩ : Shape) b rfl rfl 4 rfl (ix2 n i) (fun b hb => ?_) rfl
  match b with
  | ⟨0, _⟩ => rfl
  | ⟨1, _⟩ => exact absurd rfl hb

/-- The padding value. -/
theorem zero_word {u : Shape} (i : u.Idx) : (sitofp .f32 (constantI u 32 0#32) : FVec Ideal u .f32) i = (0 : EReal) := by
  show (((0#32 : BitVec 32).toInt : ℝ) : EReal) = 0
  simp

/-- The columns, padded. -/
theorem padded {R : ℕ} (a : FVec Ideal (⟨2, ![R, 4]⟩ : Shape) .f32) (b : FVec Ideal (⟨2, ![R, 32]⟩ : Shape) .f32)
    (hc : Shape.Concatenates [(⟨2, ![R, 4]⟩ : Shape), (⟨2, ![R, 32]⟩ : Shape)] (⟨2, ![R, 36]⟩ : Shape) 1) {u : Shape} (hu : 0 < u.numel)
    (hp : (⟨2, ![R, 36]⟩ : Shape).Pads (![0, 0] : Fin 2 → ℕ) ![0, 92] ![0, 0] (⟨2, ![R, 128]⟩ : Shape)) (n : Fin R) (j : Fin 128) :
    pad (⟨2, ![R, 128]⟩ : Shape) (![0, 0] : Fin 2 → ℕ) ![0, 92] ![0, 0] (beside a b hc) (sitofp .f32 (constantI u 32 0#32) : FVec Ideal u .f32) hp hu (ix2 n j)
      = Cert.OutSpec.wide (fun i => a (ix2 n i)) (fun i => b (ix2 n i)) j := by
  unfold Cert.OutSpec.wide
  by_cases h : j.val < 4
  · rw [dif_pos h]
    refine (pad_apply_of_inside _ _ _ (beside a b hc) _ hp hu (ix2 n j) (ix2 n (⟨j.val, by omega⟩ : Fin 36)) fun a => ?_).trans (beside_left a b hc n ⟨j.val, h⟩)
    match a with
    | ⟨0, _⟩ => show n.val = 0 + n.val * (0 + 1); omega
    | ⟨1, _⟩ => show j.val = 0 + j.val * (0 + 1); omega
  · rw [dif_neg h]
    by_cases h' : j.val < 36
    · rw [dif_pos h']
      refine (pad_apply_of_inside _ _ _ (beside a b hc) _ hp hu (ix2 n j) (ix2 n (⟨4 + (j.val - 4), by omega⟩ : Fin 36)) fun a => ?_).trans
        (beside_right a b hc n ⟨j.val - 4, by omega⟩)
      match a with
      | ⟨0, _⟩ => show n.val = 0 + n.val * (0 + 1); omega
      | ⟨1, _⟩ => show j.val = 0 + (4 + (j.val - 4)) * (0 + 1); omega
    · rw [dif_neg h']
      refine (pad_apply_of_not_inside _ _ _ (beside a b hc) _ hp hu (ix2 n j) (1 : Fin 2) fun hin => ?_).trans (zero_word _)
      have h1 : (j.val - 0) / (0 + 1) < 36 := hin.2.2
      omega

/-- Two rows end to end. -/
def joined (a : FVec Ideal (⟨1, ![4]⟩ : Shape) .f32) (b : FVec Ideal (⟨1, ![32]⟩ : Shape) .f32)
    (hc : Shape.Concatenates [(⟨1, ![4]⟩ : Shape), (⟨1, ![32]⟩ : Shape)] (⟨1, ![36]⟩ : Shape) 0) : FVec Ideal (⟨1, ![36]⟩ : Shape) .f32 :=
  concatenate (⟨1, ![36]⟩ : Shape) 0 [⟨(⟨1, ![4]⟩ : Shape), a⟩, ⟨(⟨1, ![32]⟩ : Shape), b⟩] hc

theorem joined_left (a : FVec Ideal (⟨1, ![4]⟩ : Shape) .f32) (b : FVec Ideal (⟨1, ![32]⟩ : Shape) .f32)
    (hc : Shape.Concatenates [(⟨1, ![4]⟩ : Shape), (⟨1, ![32]⟩ : Shape)] (⟨1, ![36]⟩ : Shape) 0) (i : Fin 4) :
    joined a b hc (ix1 (⟨i.val, by omega⟩ : Fin 36)) = a (ix1 i) := by
  unfold joined
  refine concatenate_apply_piece (0 : Fin (⟨1, ![36]⟩ : Shape).rank) [⟨(⟨1, ![4]⟩ : Shape), a⟩, ⟨(⟨1, ![32]⟩ : Shape), b⟩] hc
    (ix1 (⟨i.val, by omega⟩ : Fin 36)) 0 (Nat.succ_pos _) (⟨1, ![4]⟩ : Shape) a rfl rfl 0 rfl (ix1 i) (fun b hb => ?_) (Nat.zero_add _)
  match b with
  | ⟨0, _⟩ => exact absurd rfl hb

theorem joined_right (a : FVec Ideal (⟨1, ![4]⟩ : Shape) .f32) (b : FVec Ideal (⟨1, ![32]⟩ : Shape) .f32)
    (hc : Shape.Concatenates [(⟨1, ![4]⟩ : Shape), (⟨1, ![32]⟩ : Shape)] (⟨1, ![36]⟩ : Shape) 0) (i : Fin 32) :
    joined a b hc (ix1 (⟨4 + i.val, by omega⟩ : Fin 36)) = b (ix1 i) := by
  unfold joined
  refine concatenate_apply_piece (0 : Fin (⟨1, ![36]⟩ : Shape).rank) [⟨(⟨1, ![4]⟩ : Shape), a⟩, ⟨(⟨1, ![32]⟩ : Shape), b⟩] hc
    (ix1 (⟨4 + i.val, by omega⟩ : Fin 36)) 1 (Nat.lt_succ_self _) (⟨1, ![32]⟩ : Shape) b rfl rfl 4 rfl (ix1 i) (fun b hb => ?_) rfl
  match b with
  | ⟨0, _⟩ => exact absurd rfl hb

/-- The row, padded. -/
theorem padded_row (a : FVec Ideal (⟨1, ![4]⟩ : Shape) .f32) (b : FVec Ideal (⟨1, ![32]⟩ : Shape) .f32)
    (hc : Shape.Concatenates [(⟨1, ![4]⟩ : Shape), (⟨1, ![32]⟩ : Shape)] (⟨1, ![36]⟩ : Shape) 0) {u : Shape} (hu : 0 < u.numel)
    (hp : (⟨1, ![36]⟩ : Shape).Pads (![0] : Fin 1 → ℕ) ![92] ![0] (⟨1, ![128]⟩ : Shape)) (j : Fin 128) :
    pad (⟨1, ![128]⟩ : Shape) (![0] : Fin 1 → ℕ) ![92] ![0] (joined a b hc) (sitofp .f32 (constantI u 32 0#32) : FVec Ideal u .f32) hp hu (ix1 j)
      = Cert.OutSpec.wide (fun i => a (ix1 i)) (fun i => b (ix1 i)) j := by
  unfold Cert.OutSpec.wide
  by_cases h : j.val < 4
  · rw [dif_pos h]
    refine (pad_apply_of_inside _ _ _ (joined a b hc) _ hp hu (ix1 j) (ix1 (⟨j.val, by omega⟩ : Fin 36)) fun a => ?_).trans (joined_left a b hc ⟨j.val, h⟩)
    match a with
    | ⟨0, _⟩ => show j.val = 0 + j.val * (0 + 1); omega
  · rw [dif_neg h]
    by_cases h' : j.val < 36
    · rw [dif_pos h']
      refine (pad_apply_of_inside _ _ _ (joined a b hc) _ hp hu (ix1 j) (ix1 (⟨4 + (j.val - 4), by omega⟩ : Fin 36)) fun a => ?_).trans
        (joined_right a b hc ⟨j.val - 4, by omega⟩)
      match a with
      | ⟨0, _⟩ => show j.val = 0 + (4 + (j.val - 4)) * (0 + 1); omega
    · rw [dif_neg h']
      refine (pad_apply_of_not_inside _ _ _ (joined a b hc) _ hp hu (ix1 j) (0 : Fin 1) fun hin => ?_).trans (zero_word _)
      have h1 : (j.val - 0) / (0 + 1) < 36 := hin.2.2
      omega

end Cert.OutRouter

end
-- ==== Proof.OutHost.lean ====
/- What the output projection's host code prepares, over the extended reals: each prepared array read at an index. -/
module

public import proofs.«01_k».proof.Proof.OutRouter
public import proofs.«01_k».proof.Proof.Gen.Kernel4Ideal.Value

@[expose] public section

set_option maxRecDepth 16384

noncomputable section

namespace Cert.OutHost

open Cert.Kernel4Ideal Cert.Kernel4Ideal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- The scan's first output, the sequences side by side. -/
theorem V_forward (n : Fin 4096) (b : Fin 8) (k : Fin 256) : V m c main_v12 (ix2 n (⟨256 * b.val + k.val, by omega⟩ : Fin 2048)) = m ((c : Thread nD τ).loc main_arg0) (ix3 n b k) := by
  have h : V m c main_v12 = shapeCast S4096x2048 (m ((c : Thread nD τ).loc main_arg0)) shapeCasts_S4096x8x256_S4096x2048 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 n b k) ?_).trans rfl
  rw [Shape.rowMajor_val_three, Shape.rowMajor_val_two]
  show (n.val * 8 + b.val) * 256 + k.val = n.val * 2048 + (256 * b.val + k.val)
  omega

/-- Its second output likewise. -/
theorem V_backward (n : Fin 4096) (b : Fin 8) (k : Fin 256) : V m c main_v13 (ix2 n (⟨256 * b.val + k.val, by omega⟩ : Fin 2048)) = m ((c : Thread nD τ).loc main_arg1) (ix3 n b k) := by
  have h : V m c main_v13 = shapeCast S4096x2048 (m ((c : Thread nD τ).loc main_arg1)) shapeCasts_S4096x8x256_S4096x2048 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 n b k) ?_).trans rfl
  rw [Shape.rowMajor_val_three, Shape.rowMajor_val_two]
  show (n.val * 8 + b.val) * 256 + k.val = n.val * 2048 + (256 * b.val + k.val)
  omega

/-- The gate and the bonus likewise. -/
theorem V_gate (n : Fin 4096) (b : Fin 8) (k : Fin 512) : V m c main_v14 (ix2 n (⟨512 * b.val + k.val, by omega⟩ : Fin 4096)) = m ((c : Thread nD τ).loc main_arg2) (ix3 n b k) := by
  have h : V m c main_v14 = shapeCast S4096x4096 (m ((c : Thread nD τ).loc main_arg2)) shapeCasts_S4096x8x512_S4096x4096 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 n b k) ?_).trans rfl
  rw [Shape.rowMajor_val_three, Shape.rowMajor_val_two]
  show (n.val * 8 + b.val) * 512 + k.val = n.val * 4096 + (512 * b.val + k.val)
  omega

/-- The second mixer's output, the sequences one after another. -/
theorem V_second (b : Fin 8) (n : Fin 4096) (k : Fin 256) : V m c main_v5 (ix2 (⟨4096 * b.val + n.val, by omega⟩ : Fin 32768) k) = m ((c : Thread nD τ).loc main_arg3) (ix3 b n k) := by
  have h : V m c main_v5 = shapeCast S32768x256 (m ((c : Thread nD τ).loc main_arg3)) shapeCasts_S8x4096x256_S32768x256 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 b n k) ?_).trans rfl
  rw [Shape.rowMajor_val_three, Shape.rowMajor_val_two]
  show (b.val * 4096 + n.val) * 256 + k.val = (4096 * b.val + n.val) * 256 + k.val
  omega

/-- The third's. -/
theorem V_third (b : Fin 8) (n : Fin 4096) (k : Fin 256) : V m c main_v6 (ix2 (⟨4096 * b.val + n.val, by omega⟩ : Fin 32768) k) = m ((c : Thread nD τ).loc main_arg4) (ix3 b n k) := by
  have h : V m c main_v6 = shapeCast S32768x256 (m ((c : Thread nD τ).loc main_arg4)) shapeCasts_S8x4096x256_S32768x256 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 b n k) ?_).trans rfl
  rw [Shape.rowMajor_val_three, Shape.rowMajor_val_two]
  show (b.val * 4096 + n.val) * 256 + k.val = (4096 * b.val + n.val) * 256 + k.val
  omega

/-- The fourth's. -/
theorem V_fourth (b : Fin 8) (n : Fin 4096) (k : Fin 256) : V m c main_v7 (ix2 (⟨4096 * b.val + n.val, by omega⟩ : Fin 32768) k) = m ((c : Thread nD τ).loc main_arg5) (ix3 b n k) := by
  have h : V m c main_v7 = shapeCast S32768x256 (m ((c : Thread nD τ).loc main_arg5)) shapeCasts_S8x4096x256_S32768x256 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 b n k) ?_).trans rfl
  rw [Shape.rowMajor_val_three, Shape.rowMajor_val_two]
  show (b.val * 4096 + n.val) * 256 + k.val = (4096 * b.val + n.val) * 256 + k.val
  omega

/-- The tokens likewise. -/
theorem V_tokens (b : Fin 8) (n : Fin 4096) (k : Fin 1024) : V m c main_v9 (ix2 (⟨4096 * b.val + n.val, by omega⟩ : Fin 32768) k) = m ((c : Thread nD τ).loc main_arg9) (ix3 b n k) := by
  have h : V m c main_v9 = shapeCast S32768x1024 (m ((c : Thread nD τ).loc main_arg9)) shapeCasts_S8x4096x1024_S32768x1024 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix3 b n k) ?_).trans rfl
  rw [Shape.rowMajor_val_three, Shape.rowMajor_val_two]
  show (b.val * 4096 + n.val) * 1024 + k.val = (4096 * b.val + n.val) * 1024 + k.val
  omega

/-- The heads' gain as a row. -/
theorem V_headGain (k : Fin 256) : V m c main_v15 (ix2 (0 : Fin 1) k) = m ((c : Thread nD τ).loc main_arg6) (ix1 k) := by
  have h : V m c main_v15 = shapeCast S1x256 (m ((c : Thread nD τ).loc main_arg6)) shapeCasts_S256_S1x256 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix1 k) ?_).trans rfl
  rw [Shape.rowMajor_val_one, Shape.rowMajor_val_two]
  show k.val = 0 * 256 + k.val
  omega

/-- The heads' bias as a row. -/
theorem V_headBias (k : Fin 256) : V m c main_v16 (ix2 (0 : Fin 1) k) = m ((c : Thread nD τ).loc main_arg7) (ix1 k) := by
  have h : V m c main_v16 = shapeCast S1x256 (m ((c : Thread nD τ).loc main_arg7)) shapeCasts_S256_S1x256 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix1 k) ?_).trans rfl
  rw [Shape.rowMajor_val_one, Shape.rowMajor_val_two]
  show k.val = 0 * 256 + k.val
  omega

/-- The gain as a row. -/
theorem V_gain (k : Fin 1024) : V m c main_v27 (ix2 (0 : Fin 1) k) = m ((c : Thread nD τ).loc main_arg11) (ix1 k) := by
  have h : V m c main_v27 = shapeCast S1x1024 (m ((c : Thread nD τ).loc main_arg11)) shapeCasts_S1024_S1x1024 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix1 k) ?_).trans rfl
  rw [Shape.rowMajor_val_one, Shape.rowMajor_val_two]
  show k.val = 0 * 1024 + k.val
  omega

/-- The residual's gate, a row for each sequence. -/
theorem V_residualGate (b : Fin 8) (e : Fin 1024) : V m c main_v26 (ix3 b (0 : Fin 1) e) = m ((c : Thread nD τ).loc main_arg10) (ix2 b e) := by
  have h : V m c main_v26 = shapeCast S8x1x1024 (m ((c : Thread nD τ).loc main_arg10)) shapeCasts_S8x1024_S8x1x1024 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix2 b e) ?_).trans rfl
  rw [Shape.rowMajor_val_two, Shape.rowMajor_val_three]
  show b.val * 1024 + e.val = (b.val * 1 + 0) * 1024 + e.val
  omega

/-- The shift likewise. -/
theorem V_shift (b : Fin 8) (e : Fin 1024) : V m c main_v29 (ix3 b (0 : Fin 1) e) = m ((c : Thread nD τ).loc main_arg13) (ix2 b e) := by
  have h : V m c main_v29 = shapeCast S8x1x1024 (m ((c : Thread nD τ).loc main_arg13)) shapeCasts_S8x1024_S8x1x1024 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix2 b e) ?_).trans rfl
  rw [Shape.rowMajor_val_two, Shape.rowMajor_val_three]
  show b.val * 1024 + e.val = (b.val * 1 + 0) * 1024 + e.val
  omega

/-- One plus the scale, a row for each sequence. -/
theorem V_scale (b : Fin 8) (e : Fin 1024) : V m c main_v28 (ix3 b (0 : Fin 1) e) = Ideal.ofBits .f32 0x3F800000#32 + m ((c : Thread nD τ).loc main_arg12) (ix2 b e) := by
  have h : V m c main_v28 = shapeCast S8x1x1024 (addf (F := Ideal) (broadcastInDim S8x1024 ![] bcast_S_S8x1024 (constant S_ .f32 0x3F800000#32)) (m ((c : Thread nD τ).loc main_arg12))) shapeCasts_S8x1024_S8x1x1024 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix2 b e) ?_).trans rfl
  rw [Shape.rowMajor_val_two, Shape.rowMajor_val_three]
  show b.val * 1024 + e.val = (b.val * 1 + 0) * 1024 + e.val
  omega

/-- The weights as they are. -/
theorem V_weights (i e : Fin 1024) : V m c main_v8 (ix2 i e) = m ((c : Thread nD τ).loc main_arg8) (ix2 i e) := by
  have h : V m c main_v8 = truncf (F := Ideal) .bf16 (m ((c : Thread nD τ).loc main_arg8)) bitsLt_bf16_f32 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]; rfl

/-- The router's columns side by side, padded. -/
theorem V_router (e : Fin 1024) (j : Fin 128) :
    V m c main_v1 (ix2 e j) = Cert.OutSpec.wide (fun i => m ((c : Thread nD τ).loc main_arg14) (ix2 e i)) (fun i => m ((c : Thread nD τ).loc main_arg16) (ix2 e i)) j := by
  have h : V m c main_v1 = pad S1024x128 ![0, 0] ![0, 92] ![0, 0]
      (Cert.OutRouter.beside (m ((c : Thread nD τ).loc main_arg14)) (m ((c : Thread nD τ).loc main_arg16)) concatenates_S1024x4_S1024x32_S1024x36_d1)
      (sitofp .f32 (constantI S_ 32 0#32) : FVec Ideal S_ .f32) pads_S1024x36_S1024x128_000_0920 h_S_ := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  exact Cert.OutRouter.padded _ _ _ _ _ e j

/-- Its bias likewise. -/
theorem V_routerBias (j : Fin 128) :
    V m c main_v4 (ix2 (0 : Fin 1) j) = Cert.OutSpec.wide (fun i => m ((c : Thread nD τ).loc main_arg15) (ix1 i)) (fun i => m ((c : Thread nD τ).loc main_arg17) (ix1 i)) j := by
  have h : V m c main_v4 = shapeCast S1x128 (pad S128 ![0] ![92] ![0]
      (Cert.OutRouter.joined (m ((c : Thread nD τ).loc main_arg15)) (m ((c : Thread nD τ).loc main_arg17)) concatenates_S4_S32_S36_d0)
      (sitofp .f32 (constantI S_ 32 0#32) : FVec Ideal S_ .f32) pads_S36_S128_0920 h_S_) shapeCasts_S128_S1x128 := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  rw [h]
  refine (shapeCast_apply _ _ _ (ix1 j) ?_).trans (Cert.OutRouter.padded_row _ _ _ _ _ j)
  rw [Shape.rowMajor_val_one, Shape.rowMajor_val_two]
  show j.val = 0 * 128 + j.val
  omega

/-- The features' heads. -/
def heads : IVec S256 32 := Host.divsi (iotaInDim S256 32 0) (broadcastInDim S256 ![] bcast_S_S256 (constantI S_ 32 64#32))

theorem quotient : ∀ j : Fin 256, IntOp.divsi .host (BitVec.ofNat 32 j.val) 64#32 = BitVec.ofNat 32 (j.val / 64) := by decide +kernel

theorem heads_apply (j : Fin 256) : heads (ix1 j) = BitVec.ofNat 32 (j.val / 64) := quotient j

/-- The segment matrix. -/
theorem V_segment (j k : Fin 256) : V m c main_v25 (ix2 j k) = Cert.OutSpec.segment j k := by
  have h : V m c main_v25 = uitofp (F := Ideal) .bf16 (cmpi .eq
      (broadcastInDim S256x256 ![0, 1] bcast_S256x1_S256x256_0_1 (broadcastInDim S256x1 ![0] bcast_S256_S256x1_0 heads))
      (broadcastInDim S256x256 ![0, 1] bcast_S1x256_S256x256_0_1 (broadcastInDim S1x256 ![1] bcast_S256_S1x256_1 heads))) := by
    dsimp only [V, hostOps0, hostOps0_1, hostOps0_2, hostOps0_3, hostOps0_4, List.flatten, List.append, HAppend.hAppend, Append.append]
    simp only [StableHlo.TRef.binary, StableHlo.TRef.unary, StableHlo.TRef.toBuf, StableHlo.TRef.ofBuf, cast_eq]
    after_results_simp <;> rfl
  have hl : broadcastInDim S256x256 ![0, 1] bcast_S256x1_S256x256_0_1 (broadcastInDim S256x1 ![0] bcast_S256_S256x1_0 heads) (ix2 j k) = heads (ix1 j) :=
    (broadcastInDim_apply _ _ _ _ (ix2 j (0 : Fin 1)) fun a => by
      match a with
      | ⟨0, _⟩ => rfl
      | ⟨1, _⟩ => rfl).trans (broadcastInDim_apply _ _ _ _ (ix1 j) fun a => by
      match a with
      | ⟨0, _⟩ => rfl)
  have hr : broadcastInDim S256x256 ![0, 1] bcast_S1x256_S256x256_0_1 (broadcastInDim S1x256 ![1] bcast_S256_S1x256_1 heads) (ix2 j k) = heads (ix1 k) :=
    (broadcastInDim_apply _ _ _ _ (ix2 (0 : Fin 1) k) fun a => by
      match a with
      | ⟨0, _⟩ => rfl
      | ⟨1, _⟩ => rfl).trans (broadcastInDim_apply _ _ _ _ (ix1 k) fun a => by
      match a with
      | ⟨0, _⟩ => rfl)
  rw [h]
  show (((IntOp.cmpi .eq
      (broadcastInDim S256x256 ![0, 1] bcast_S256x1_S256x256_0_1 (broadcastInDim S256x1 ![0] bcast_S256_S256x1_0 heads) (ix2 j k))
      (broadcastInDim S256x256 ![0, 1] bcast_S1x256_S256x256_0_1 (broadcastInDim S1x256 ![1] bcast_S256_S1x256_1 heads) (ix2 j k))).toNat : ℝ) : EReal) = _
  rw [hl, hr, heads_apply, heads_apply]
  unfold Cert.OutSpec.segment
  by_cases e : j.val / 64 = k.val / 64
  · rw [if_pos e, e]
    simp [IntOp.cmpi]
  · rw [if_neg e]
    have hne : ¬ BitVec.ofNat 32 (j.val / 64) = BitVec.ofNat 32 (k.val / 64) := fun q => e (by
      have := congrArg BitVec.toNat q
      rw [BitVec.toNat_ofNat, BitVec.toNat_ofNat, Nat.mod_eq_of_lt (by omega), Nat.mod_eq_of_lt (by omega)] at this
      exact this)
    simp [IntOp.cmpi, hne]

end Cert.OutHost

end
-- ==== Proof.OutWhole.lean ====
/- The output projection's three result arrays, over the extended reals, where the scan's two outputs add to real numbers.

   Point `t` of the grid reads tokens `256 (t % 16) …` of sequence `t / 16`, and writes their rows of the three arrays, the
   sequences one after another. -/
module

public import proofs.«01_k».proof.Proof.OutBlock
public import proofs.«01_k».proof.Proof.OutHost

@[expose] public section

set_option maxRecDepth 16384

noncomputable section

namespace Cert.OutWhole

open Cert.Kernel4Ideal Cert.Kernel4Ideal.Gen Cert.OutHost
open Idealize.ShloMosaic Idealize.ShloMosaic.TcCoe Idealize.ShloMosaic.Tactic Idealize.ShloMosaic.ValueIdx
open Idealize.ShloMosaic.Pipeline (Dat)
open scoped BigOperators

variable (m : (ℓ : Loc nD τ sig) → Buf (Elt Ideal) ℓ) (c : Dev nD)

/-- Two of the scan's arrays added at an index. -/
def added (y z : FVec Ideal S4096x8x256 .f32) (b : Fin 8) (n : Fin 4096) (k : Fin 256) : EReal := y (ix3 n b k) + z (ix3 n b k)

/-- A token plus its sequence's gate times a value. -/
def residual (x : FVec Ideal S8x4096x1024 .f32) (g : FVec Ideal S8x1024 .f32) (y : EReal) (b : Fin 8) (n : Fin 4096) (e : Fin 1024) : EReal :=
  x (ix3 b n e) + g (ix2 b e) * y

/-- The scan's two outputs added. -/
def scan (b : Fin 8) (n : Fin 4096) (k : Fin 256) : EReal := added (m ((c : Thread nD τ).loc main_arg0)) (m ((c : Thread nD τ).loc main_arg1)) b n k

/-- The scan's part of the mixers' output at a token. -/
def first (b : Fin 8) (n : Fin 4096) (k : Fin 256) : EReal :=
  Cert.OutSpec.gated (scan m c b n) (fun k => m ((c : Thread nD τ).loc main_arg6) (ix1 k)) (fun k => m ((c : Thread nD τ).loc main_arg7) (ix1 k))
    (fun k => m ((c : Thread nD τ).loc main_arg2) (ix3 n b (⟨256 + k.val, by omega⟩ : Fin 512))) (fun k => m ((c : Thread nD τ).loc main_arg2) (ix3 n b (⟨k.val, by omega⟩ : Fin 512))) k

/-- The mixers' outputs times the weights at a token. -/
def mix (b : Fin 8) (n : Fin 4096) (e : Fin 1024) : EReal :=
  Cert.OutSpec.mixed (first m c b n) (fun k => m ((c : Thread nD τ).loc main_arg3) (ix3 b n k)) (fun k => m ((c : Thread nD τ).loc main_arg4) (ix3 b n k)) (fun k => m ((c : Thread nD τ).loc main_arg5) (ix3 b n k))
    (fun i => m ((c : Thread nD τ).loc main_arg8) (ix2 i e))

/-- The token plus the gated product. -/
def token' (b : Fin 8) (n : Fin 4096) (e : Fin 1024) : EReal := residual (m ((c : Thread nD τ).loc main_arg9)) (m ((c : Thread nD τ).loc main_arg10)) (mix m c b n e) b n e

/-- Its activations. -/
def act (b : Fin 8) (n : Fin 4096) (e : Fin 1024) : EReal :=
  Cert.ProjSpec.act (token' m c b n) (fun e => m ((c : Thread nD τ).loc main_arg11) (ix1 e)) (fun e => Ideal.ofBits .f32 0x3F800000#32 + m ((c : Thread nD τ).loc main_arg12) (ix2 b e))
    (fun e => m ((c : Thread nD τ).loc main_arg13) (ix2 b e)) e

/-- Its router's columns. -/
def logit (b : Fin 8) (n : Fin 4096) (j : Fin 128) : EReal :=
  Cert.OutSpec.wide (fun i => (∑ e, act m c b n e * m ((c : Thread nD τ).loc main_arg14) (ix2 e i)) + m ((c : Thread nD τ).loc main_arg15) (ix1 i))
    (fun i => (∑ e, act m c b n e * m ((c : Thread nD τ).loc main_arg16) (ix2 e i)) + m ((c : Thread nD τ).loc main_arg17) (ix1 i)) j

theorem lt128 (t : Fin cfg0.N) : t.val < 128 := Nat.lt_of_lt_of_eq t.isLt N_0

/-- Point `t`'s sequence. -/
abbrev seq (t : Fin cfg0.N) : Fin 8 := ⟨t.val / 16, by have := lt128 t; omega⟩
/-- Token `r` of point `t`. -/
abbrev token (t : Fin cfg0.N) (r : Fin 256) : Fin 4096 := ⟨256 * (t.val % 16) + r.val, by omega⟩

theorem idx0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem idx1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)
theorem idx2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val / 16 ∧ win0_11.index t 1 = 0 ∧ win0_11.index t 2 = 0 :=
  (by decide +kernel : ∀ t : Fin grid0.N, win0_11.index t 0 = t.val / 16 ∧ win0_11.index t 1 = 0 ∧ win0_11.index t 2 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = t.val / 16 ∧ win0_13.index t 1 = 0 ∧ win0_13.index t 2 = 0 :=
  (by decide +kernel : ∀ t : Fin grid0.N, win0_13.index t 0 = t.val / 16 ∧ win0_13.index t 1 = 0 ∧ win0_13.index t 2 = 0)
theorem idx14 : ∀ t : Fin cfg0.N, win0_14.index t 0 = t.val / 16 ∧ win0_14.index t 1 = 0 ∧ win0_14.index t 2 = 0 :=
  (by decide +kernel : ∀ t : Fin grid0.N, win0_14.index t 0 = t.val / 16 ∧ win0_14.index t 1 = 0 ∧ win0_14.index t 2 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem idx16 : ∀ t : Fin cfg0.N, win0_16.index t 0 = 0 ∧ win0_16.index t 1 = 0 :=
  (by decide +kernel : ∀ t : Fin grid0.N, win0_16.index t 0 = 0 ∧ win0_16.index t 1 = 0)
theorem idx17 : ∀ t : Fin cfg0.N, win0_17.index t 0 = t.val ∧ win0_17.index t 1 = 0 :=
  (by decide +kernel : ∀ t : Fin grid0.N, win0_17.index t 0 = t.val ∧ win0_17.index t 1 = 0)
theorem idx18 : ∀ t : Fin cfg0.N, win0_18.index t 0 = t.val ∧ win0_18.index t 1 = 0 :=
  (by decide +kernel : ∀ t : Fin grid0.N, win0_18.index t 0 = t.val ∧ win0_18.index t 1 = 0)
theorem idx19 : ∀ t : Fin cfg0.N, win0_19.index t 0 = t.val ∧ win0_19.index t 1 = 0 :=
  (by decide +kernel : ∀ t : Fin grid0.N, win0_19.index t 0 = t.val ∧ win0_19.index t 1 = 0)

theorem iblk0 (t : Fin cfg0.N) (r : Fin 256) (k : Fin 256) : iblk m c 0 t (ix2 r k) = m ((c : Thread nD τ).loc main_arg0) (ix3 (token t r) (seq t) k) := by
  obtain ⟨h0, h1⟩ := idx0 t
  refine (congrArg (V m c main_v12) (?_ : _ = ix2 (token t r) (⟨256 * (seq t).val + k.val, by have := (seq t).isLt; omega⟩ : Fin 2048))).trans (V_forward m c _ (seq t) k)
  funext a
  match a with
  | ⟨0, _⟩ => exact Fin.ext (by show win0_0.index t 0 * 256 + 1 * r.val = 256 * (t.val % 16) + r.val; omega)
  | ⟨1, _⟩ => exact Fin.ext (by show win0_0.index t 1 * 256 + 1 * k.val = 256 * (t.val / 16) + k.val; omega)

theorem iblk1 (t : Fin cfg0.N) (r : Fin 256) (k : Fin 256) : iblk m c 1 t (ix2 r k) = m ((c : Thread nD τ).loc main_arg1) (ix3 (token t r) (seq t) k) := by
  obtain ⟨h0, h1⟩ := idx1 t
  refine (congrArg (V m c main_v13) (?_ : _ = ix2 (token t r) (⟨256 * (seq t).val + k.val, by have := (seq t).isLt; omega⟩ : Fin 2048))).trans (V_backward m c _ (seq t) k)
  funext a
  match a with
  | ⟨0, _⟩ => exact Fin.ext (by show win0_1.index t 0 * 256 + 1 * r.val = 256 * (t.val % 16) + r.val; omega)
  | ⟨1, _⟩ => exact Fin.ext (by show win0_1.index t 1 * 256 + 1 * k.val = 256 * (t.val / 16) + k.val; omega)

theorem iblk2 (t : Fin cfg0.N) (r : Fin 256) (k : Fin 512) : iblk m c 2 t (ix2 r k) = m ((c : Thread nD τ).loc main_arg2) (ix3 (token t r) (seq t) k) := by
  obtain ⟨h0, h1⟩ := idx2 t
  refine (congrArg (V m c main_v14) (?_ : _ = ix2 (token t r) (⟨512 * (seq t).val + k.val, by have := (seq t).isLt; omega⟩ : Fin 4096))).trans (V_gate m c _ (seq t) k)
  funext a
  match a with
  | ⟨0, _⟩ => exact Fin.ext (by show win0_2.index t 0 * 256 + 1 * r.val = 256 * (t.val % 16) + r.val; omega)
  | ⟨1, _⟩ => exact Fin.ext (by show win0_2.index t 1 * 512 + 1 * k.val = 512 * (t.val / 16) + k.val; omega)

theorem iblk3 (t : Fin cfg0.N) (r : Fin 256) (k : Fin 256) : iblk m c 3 t (ix2 r k) = m ((c : Thread nD τ).loc main_arg3) (ix3 (seq t) (token t r) k) := by
  obtain ⟨h0, h1⟩ := idx3 t
  refine (congrArg (V m c main_v5) (?_ : _ = ix2 (⟨4096 * (seq t).val + (token t r).val, by have := (seq t).isLt; have := (token t r).isLt; omega⟩ : Fin 32768) k)).trans (V_second m c (seq t) (token t r) k)
  funext a
  match a with
  | ⟨0, _⟩ => exact Fin.ext (by show win0_3.index t 0 * 256 + 1 * r.val = 4096 * (t.val / 16) + (256 * (t.val % 16) + r.val); omega)
  | ⟨1, _⟩ => exact Fin.ext (by show win0_3.index t 1 * 256 + 1 * k.val = k.val; omega)

theorem iblk4 (t : Fin cfg0.N) (r : Fin 256) (k : Fin 256) : iblk m c 4 t (ix2 r k) = m ((c : Thread nD τ).loc main_arg4) (ix3 (seq t) (token t r) k) := by
  obtain ⟨h0, h1⟩ := idx4 t
  refine (congrArg (V m c main_v6) (?_ : _ = ix2 (⟨4096 * (seq t).val + (token t r).val, by have := (seq t).isLt; have := (token t r).isLt; omega⟩ : Fin 32768) k)).trans (V_third m c (seq t) (token t r) k)
  funext a
  match a with
  | ⟨0, _⟩ => exact Fin.ext (by show win0_4.index t 0 * 256 + 1 * r.val = 4096 * (t.val / 16) + (256 * (t.val % 16) + r.val); omega)
  | ⟨1, _⟩ => exact Fin.ext (by show win0_4.index t 1 * 256 + 1 * k.val = k.val; omega)

theorem iblk5 (t : Fin cfg0.N) (r : Fin 256) (k : Fin 256) : iblk m c 5 t (ix2 r k) = m ((c : Thread nD τ).loc main_arg5) (ix3 (seq t) (token t r) k) := by
  obtain ⟨h0, h1⟩ := idx5 t
  refine (congrArg (V m c main_v7) (?_ : _ = ix2 (⟨4096 * (seq t).val + (token t r).val, by have := (seq t).isLt; have := (token t r).isLt; omega⟩ : Fin 32768) k)).trans (V_fourth m c (seq t) (token t r) k)
  funext a
  match a with
  | ⟨0, _⟩ => exact Fin.ext (by show win0_5.index t 0 * 256 + 1 * r.val = 4096 * (t.val / 16) + (256 * (t.val % 16) + r.val); omega)
  | ⟨1, _⟩ => exact Fin.ext (by show win0_5.index t 1 * 256 + 1 * k.val = k.val; omega)

theorem iblk10 (t : Fin cfg0.N) (r : Fin 256) (k : Fin 1024) : iblk m c 10 t (ix2 r k) = m ((c : Thread nD τ).loc main_arg9) (ix3 (seq t) (token t r) k) := by
  obtain ⟨h0, h1⟩ := idx10 t
  refine (congrArg (V m c main_v9) (?_ : _ = ix2 (⟨4096 * (seq t).val + (token t r).val, by have := (seq t).isLt; have := (token t r).isLt; omega⟩ : Fin 32768) k)).trans (V_tokens m c (seq t) (token t r) k)
  funext a
  match a with
  | ⟨0, _⟩ => exact Fin.ext (by show win0_10.index t 0 * 256 + 1 * r.val = 4096 * (t.val / 16) + (256 * (t.val % 16) + r.val); omega)
  | ⟨1, _⟩ => exact Fin.ext (by show win0_10.index t 1 * 1024 + 1 * k.val = k.val; omega)

theorem iblk6 (t : Fin cfg0.N) (k : Fin 256) : iblk m c 6 t (ix2 (0 : Fin 1) k) = m ((c : Thread nD τ).loc main_arg6) (ix1 k) := by
  obtain ⟨h0, h1⟩ := idx6 t
  refine (congrArg (V m c main_v15) (?_ : _ = ix2 (0 : Fin 1) k)).trans (V_headGain m c k)
  funext a
  match a with
  | ⟨0, _⟩ => exact Fin.ext (by show win0_6.index t 0 * 1 + 1 * 0 = 0; omega)
  | ⟨1, _⟩ => exact Fin.ext (by show win0_6.index t 1 * 256 + 1 * k.val = k.val; omega)

theorem iblk7 (t : Fin cfg0.N) (k : Fin 256) : iblk m c 7 t (ix2 (0 : Fin 1) k) = m ((c : Thread nD τ).loc main_arg7) (ix1 k) := by
  obtain ⟨h0, h1⟩ := idx7 t
  refine (congrArg (V m c main_v16) (?_ : _ = ix2 (0 : Fin 1) k)).trans (V_headBias m c k)
  funext a
  match a with
  | ⟨0, _⟩ => exact Fin.ext (by show win0_7.index t 0 * 1 + 1 * 0 = 0; omega)
  | ⟨1, _⟩ => exact Fin.ext (by show win0_7.index t 1 * 256 + 1 * k.val = k.val; omega)

theorem iblk12 (t : Fin cfg0.N) (k : Fin 1024) : iblk m c 12 t (ix2 (0 : Fin 1) k) = m ((c : Thread nD τ).loc main_arg11) (ix1 k) := by
  obtain ⟨h0, h1⟩ := idx12 t
  refine (congrArg (V m c main_v27) (?_ : _ = ix2 (0 : Fin 1) k)).trans (V_gain m c k)
  funext a
  match a with
  | ⟨0, _⟩ => exact Fin.ext (by show win0_12.index t 0 * 1 + 1 * 0 = 0; omega)
  | ⟨1, _⟩ => exact Fin.ext (by show win0_12.index t 1 * 1024 + 1 * k.val = k.val; omega)

theorem iblk8 (t : Fin cfg0.N) (j k : Fin 256) : iblk m c 8 t (ix2 j k) = Cert.OutSpec.segment j k := by
  obtain ⟨h0, h1⟩ := idx8 t
  refine (congrArg (V m c main_v25) (?_ : _ = ix2 j k)).trans (V_segment m c j k)
  funext a
  match a with
  | ⟨0, _⟩ => exact Fin.ext (by show win0_8.index t 0 * 256 + 1 * j.val = j.val; omega)
  | ⟨1, _⟩ => exact Fin.ext (by show win0_8.index t 1 * 256 + 1 * k.val = k.val; omega)

theorem iblk9 (t : Fin cfg0.N) (j k : Fin 1024) : iblk m c 9 t (ix2 j k) = m ((c : Thread nD τ).loc main_arg8) (ix2 j k) := by
  obtain ⟨h0, h1⟩ := idx9 t
  refine (congrArg (V m c main_v8) (?_ : _ = ix2 j k)).trans (V_weights m c j k)
  funext a
  match a with
  | ⟨0, _⟩ => exact Fin.ext (by show win0_9.index t 0 * 1024 + 1 * j.val = j.val; omega)
  | ⟨1, _⟩ => exact Fin.ext (by show win0_9.index t 1 * 1024 + 1 * k.val = k.val; omega)

theorem iblk11 (t : Fin cfg0.N) (e : Fin 1024) : iblk m c 11 t (ix3 (0 : Fin 1) (0 : Fin 1) e) = m ((c : Thread nD τ).loc main_arg10) (ix2 (seq t) e) := by
  obtain ⟨h0, h1, h2⟩ := idx11 t
  refine (congrArg (V m c main_v26) (?_ : _ = ix3 (seq t) (0 : Fin 1) e)).trans (V_residualGate m c (seq t) e)
  funext a
  match a with
  | ⟨0, _⟩ => exact Fin.ext (by show win0_11.index t 0 * 1 + 1 * 0 = t.val / 16; omega)
  | ⟨1, _⟩ => exact Fin.ext (by show win0_11.index t 1 * 1 + 1 * 0 = 0; omega)
  | ⟨2, _⟩ => exact Fin.ext (by show win0_11.index t 2 * 1024 + 1 * e.val = e.val; omega)

theorem iblk13 (t : Fin cfg0.N) (e : Fin 1024) : iblk m c 13 t (ix3 (0 : Fin 1) (0 : Fin 1) e) = Ideal.ofBits .f32 0x3F800000#32 + m ((c : Thread nD τ).loc main_arg12) (ix2 (seq t) e) := by
  obtain ⟨h0, h1, h2⟩ := idx13 t
  refine (congrArg (V m c main_v28) (?_ : _ = ix3 (seq t) (0 : Fin 1) e)).trans (V_scale m c (seq t) e)
  funext a
  match a with
  | ⟨0, _⟩ => exact Fin.ext (by show win0_13.index t 0 * 1 + 1 * 0 = t.val / 16; omega)
  | ⟨1, _⟩ => exact Fin.ext (by show win0_13.index t 1 * 1 + 1 * 0 = 0; omega)
  | ⟨2, _⟩ => exact Fin.ext (by show win0_13.index t 2 * 1024 + 1 * e.val = e.val; omega)

theorem iblk14 (t : Fin cfg0.N) (e : Fin 1024) : iblk m c 14 t (ix3 (0 : Fin 1) (0 : Fin 1) e) = m ((c : Thread nD τ).loc main_arg13) (ix2 (seq t) e) := by
  obtain ⟨h0, h1, h2⟩ := idx14 t
  refine (congrArg (V m c main_v29) (?_ : _ = ix3 (seq t) (0 : Fin 1) e)).trans (V_shift m c (seq t) e)
  funext a
  match a with
  | ⟨0, _⟩ => exact Fin.ext (by show win0_14.index t 0 * 1 + 1 * 0 = t.val / 16; omega)
  | ⟨1, _⟩ => exact Fin.ext (by show win0_14.index t 1 * 1 + 1 * 0 = 0; omega)
  | ⟨2, _⟩ => exact Fin.ext (by show win0_14.index t 2 * 1024 + 1 * e.val = e.val; omega)

theorem iblk15 (t : Fin cfg0.N) (e : Fin 1024) (j : Fin 128) : iblk m c 15 t (ix2 e j) = Cert.OutSpec.wide (fun i => m ((c : Thread nD τ).loc main_arg14) (ix2 e i)) (fun i => m ((c : Thread nD τ).loc main_arg16) (ix2 e i)) j := by
  obtain ⟨h0, h1⟩ := idx15 t
  refine (congrArg (V m c main_v1) (?_ : _ = ix2 e j)).trans (V_router m c e j)
  funext a
  match a with
  | ⟨0, _⟩ => exact Fin.ext (by show win0_15.index t 0 * 1024 + 1 * e.val = e.val; omega)
  | ⟨1, _⟩ => exact Fin.ext (by show win0_15.index t 1 * 128 + 1 * j.val = j.val; omega)

theorem iblk16 (t : Fin cfg0.N) (j : Fin 128) : iblk m c 16 t (ix2 (0 : Fin 1) j) = Cert.OutSpec.wide (fun i => m ((c : Thread nD τ).loc main_arg15) (ix1 i)) (fun i => m ((c : Thread nD τ).loc main_arg17) (ix1 i)) j := by
  obtain ⟨h0, h1⟩ := idx16 t
  refine (congrArg (V m c main_v4) (?_ : _ = ix2 (0 : Fin 1) j)).trans (V_routerBias m c j)
  funext a
  match a with
  | ⟨0, _⟩ => exact Fin.ext (by show win0_16.index t 0 * 1 + 1 * 0 = 0; omega)
  | ⟨1, _⟩ => exact Fin.ext (by show win0_16.index t 1 * 128 + 1 * j.val = j.val; omega)

theorem loadSquare (x : Vec Ideal S256x256 .f32) : View.ld x r0_0 = x := View.ld_unit_zero (by decide) _ x
theorem loadSegment (x : Vec Ideal S256x256 .bf16) : View.ld x r0_0 = x := View.ld_unit_zero (by decide) _ x
theorem loadRow (x : Vec Ideal S1x256 .f32) : View.ld x r0_1 = x := View.ld_unit_zero (by decide) _ x
theorem loadTokens (x : Vec Ideal S256x1024 .f32) : View.ld x r0_8 = x := View.ld_unit_zero (by decide) _ x
theorem loadSeq (x : Vec Ideal S1x1x1024 .f32) : View.ld x r0_9 = x := View.ld_unit_zero (by decide) _ x
theorem loadGain (x : Vec Ideal S1x1024 .f32) : View.ld x r0_10 = x := View.ld_unit_zero (by decide) _ x
theorem loadRouter (x : Vec Ideal S1024x128 .f32) : View.ld x r0_11 = x := View.ld_unit_zero (by decide) _ x
theorem loadBias (x : Vec Ideal S1x128 .f32) : View.ld x r0_12 = x := View.ld_unit_zero (by decide) _ x
theorem loadBonus (x : Vec Ideal S256x512 .f32) (r k : Fin 256) : View.ld x r0_2 (ix2 r k) = x (ix2 r (⟨256 + k.val, by omega⟩ : Fin 512)) := by
  refine congrArg x (funext fun a => ?_)
  match a with
  | ⟨0, _⟩ => exact Fin.ext (by show 0 + 1 * r.val = r.val; omega)
  | ⟨1, _⟩ => exact Fin.ext (by show 256 + 1 * k.val = 256 + k.val; omega)
theorem loadGate (x : Vec Ideal S256x512 .f32) (r k : Fin 256) : View.ld x r0_3 (ix2 r k) = x (ix2 r (⟨k.val, by omega⟩ : Fin 512)) := by
  refine congrArg x (funext fun a => ?_)
  match a with
  | ⟨0, _⟩ => exact Fin.ext (by show 0 + 1 * r.val = r.val; omega)
  | ⟨1, _⟩ => exact Fin.ext (by show 0 + 1 * k.val = k.val; omega)
theorem loadQuarter0 (x : Vec Ideal S1024x1024 .bf16) (k : Fin 256) (e : Fin 1024) : View.ld x r0_4 (ix2 k e) = x (ix2 (Cert.OutSpec.quarter 0 k) e) := by
  refine congrArg x (funext fun a => ?_)
  match a with
  | ⟨0, _⟩ => exact Fin.ext (by show 0 + 1 * k.val = 256 * 0 + k.val; omega)
  | ⟨1, _⟩ => exact Fin.ext (by show 0 + 1 * e.val = e.val; omega)
theorem loadQuarter1 (x : Vec Ideal S1024x1024 .bf16) (k : Fin 256) (e : Fin 1024) : View.ld x r0_5 (ix2 k e) = x (ix2 (Cert.OutSpec.quarter 1 k) e) := by
  refine congrArg x (funext fun a => ?_)
  match a with
  | ⟨0, _⟩ => exact Fin.ext (by show 256 + 1 * k.val = 256 * 1 + k.val; omega)
  | ⟨1, _⟩ => exact Fin.ext (by show 0 + 1 * e.val = e.val; omega)
theorem loadQuarter2 (x : Vec Ideal S1024x1024 .bf16) (k : Fin 256) (e : Fin 1024) : View.ld x r0_6 (ix2 k e) = x (ix2 (Cert.OutSpec.quarter 2 k) e) := by
  refine congrArg x (funext fun a => ?_)
  match a with
  | ⟨0, _⟩ => exact Fin.ext (by show 512 + 1 * k.val = 256 * 2 + k.val; omega)
  | ⟨1, _⟩ => exact Fin.ext (by show 0 + 1 * e.val = e.val; omega)
theorem loadQuarter3 (x : Vec Ideal S1024x1024 .bf16) (k : Fin 256) (e : Fin 1024) : View.ld x r0_7 (ix2 k e) = x (ix2 (Cert.OutSpec.quarter 3 k) e) := by
  refine congrArg x (funext fun a => ?_)
  match a with
  | ⟨0, _⟩ => exact Fin.ext (by show 768 + 1 * k.val = 256 * 3 + k.val; omega)
  | ⟨1, _⟩ => exact Fin.ext (by show 0 + 1 * e.val = e.val; omega)

/-- The scan's two outputs add to real numbers. -/
def Steady : Prop := ∃ f : Fin 8 → Fin 4096 → Fin 256 → ℝ, ∀ b n k, scan m c b n k = ((f b n k : ℝ) : EReal)

/-- The scan's part before the bonus and the gate, where the added rows are real. -/
theorem normed_part (x0 x1 : Vec Ideal S256x256 .f32) (g : Vec Ideal S256x256 .bf16) (w b : Vec Ideal S1x256 .f32)
    (hg : ∀ j k, g (ix2 j k) = Cert.OutSpec.segment j k) (r : Fin 256) (s : Fin 256 → EReal) (f : Fin 256 → ℝ)
    (hs : ∀ j, (x0 (ix2 r j) + x1 (ix2 r j) : EReal) = s j) (hf : ∀ j, s j = ((f j : ℝ) : EReal)) (k : Fin 256) (W B : EReal)
    (hw : w (ix2 (0 : Fin 1) k) = W) (hb : b (ix2 (0 : Fin 1) k) = B) :
    k0_pay1 x0 x1 g w b (ix2 r k) = (Cert.OutSpec.normed s k * W + B : EReal) := by
  rw [Cert.OutBlock.pay1_apply x0 x1 g w b hg r f (fun j => (hs j).trans (hf j)) k, hw, hb, funext hs]

/-- The mixers' outputs times the weights at point `t`. -/
theorem product_apply (hy : Steady m c) (t : Fin cfg0.N) (r : Fin 256) (e : Fin 1024) :
    k0_pay8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r e) = mix m c (seq t) (token t r) e := by
  obtain ⟨f, hf⟩ := hy
  unfold k0_pay8 mix
  rw [loadSquare, loadSquare, loadSegment, loadRow, loadRow, loadSquare, loadSquare, loadSquare]
  refine Cert.OutBlock.pay2_apply _ _ _ _ _ _ _ _ _ _ r e _ _ _ _ (fun i => m ((c : Thread nD τ).loc main_arg8) (ix2 i e)) (fun k => ?_) (iblk3 m c t r) (iblk4 m c t r) (iblk5 m c t r)
    (fun k => (loadQuarter0 _ k e).trans (iblk9 m c t _ e)) (fun k => (loadQuarter1 _ k e).trans (iblk9 m c t _ e))
    (fun k => (loadQuarter2 _ k e).trans (iblk9 m c t _ e)) (fun k => (loadQuarter3 _ k e).trans (iblk9 m c t _ e))
  have hn := normed_part (iblk m c 0 t) (iblk m c 1 t) (iblk m c 8 t) (iblk m c 6 t) (iblk m c 7 t) (iblk8 m c t) r (scan m c (seq t) (token t r))
    (f (seq t) (token t r)) (fun j => congrArg₂ (fun a b : EReal => a + b) (iblk0 m c t r j) (iblk1 m c t r j)) (hf (seq t) (token t r)) k _ _
    (iblk6 m c t k) (iblk7 m c t k)
  exact congrArg₂ (fun a b : EReal => a * b)
    (congrArg₂ (fun a b : EReal => a + b) hn ((loadBonus (iblk m c 2 t) r k).trans (iblk2 m c t r _))) ((loadGate (iblk m c 2 t) r k).trans (iblk2 m c t r _))

/-- The first store at point `t`, -/
theorem tokens_apply (hy : Steady m c) (t : Fin cfg0.N) (r : Fin 256) (e : Fin 1024) :
    k0_pay5 (k0_pay8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (ix2 r e)
      = token' m c (seq t) (token t r) e := by
  unfold k0_pay9 k0_pay10 token' residual
  rw [loadTokens, loadSeq]
  refine (Cert.OutBlock.pay5_apply _ (iblk m c 10 t) (iblk m c 11 t) r e).trans ?_
  rw [product_apply m c hy t r e, iblk10, iblk11]

/-- and the second. -/
theorem acts_apply (hy : Steady m c) (t : Fin cfg0.N) (r : Fin 256) (e : Fin 1024) :
    k0_pay6 (k0_pay8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (iblk m c 12 t) (iblk m c 13 t) (iblk m c 14 t) (ix2 r e) = act m c (seq t) (token t r) e := by
  refine (Cert.OutBlock.pay6_apply _ _ _ (iblk m c 12 t) (iblk m c 13 t) (iblk m c 14 t) r e).trans ?_
  unfold act
  rw [funext (tokens_apply m c hy t r), funext (iblk12 m c t), funext (iblk13 m c t), funext (iblk14 m c t)]

end Cert.OutWhole

end
-- ==== Proof.OutResults.lean ====
/- The output projection's three result arrays, over the extended reals, from what the body stores at each point. -/
module

public import proofs.«01_k».proof.Proof.OutWhole

@[expose] public section

set_option maxRecDepth 16384

noncomputable section

namespace Cert.OutWhole

open Cert.Kernel4Ideal Cert.Kernel4Ideal.Gen Cert.OutHost
open Idealize.ShloMosaic Idealize.ShloMosaic.TcCoe Idealize.ShloMosaic.Tactic Idealize.ShloMosaic.ValueIdx
open Idealize.ShloMosaic.Pipeline (Dat)
open scoped BigOperators

variable (m : (ℓ : Loc nD τ sig) → Buf (Elt Ideal) ℓ) (c : Dev nD)

/-- The third store at point `t`. -/
theorem logits_apply (hy : Steady m c) (t : Fin cfg0.N) (r : Fin 256) (j : Fin 128) :
    k0_pay7 (k0_pay8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
      (iblk m c 12 t) (iblk m c 13 t) (iblk m c 14 t) (iblk m c 15 t) (iblk m c 16 t) (ix2 r j) = logit m c (seq t) (token t r) j := by
  refine (Cert.OutBlock.pay7_apply _ _ _ (iblk m c 12 t) (iblk m c 13 t) (iblk m c 14 t) (iblk m c 15 t) (iblk m c 16 t) r j).trans ?_
  refine Eq.trans ?_ (Cert.OutSpec.wide_sum (act m c (seq t) (token t r)) (fun e i => m ((c : Thread nD τ).loc main_arg14) (ix2 e i)) (fun e i => m ((c : Thread nD τ).loc main_arg16) (ix2 e i))
    (fun i => m ((c : Thread nD τ).loc main_arg15) (ix1 i)) (fun i => m ((c : Thread nD τ).loc main_arg17) (ix1 i)) j)
  refine congrArg₂ (fun a b : EReal => a + b) (Finset.sum_congr rfl fun e _ => ?_) (iblk16 m c t j)
  exact congrArg₂ (fun a b : EReal => a * b) (acts_apply m c hy t r e) (iblk15 m c t e j)

/-- The first result array. -/
def result17 : Buf (Elt Ideal) ((c : Thread nD τ).loc main_v30_0) := fun i : S32768x1024.Idx =>
  token' m c (⟨(i 0).val / 4096, by have : (i 0).val < 32768 := (i 0).isLt; omega⟩ : Fin 8) (⟨(i 0).val % 4096, by omega⟩ : Fin 4096) (i 1)

theorem result17_apply (b : Fin 8) (n : Fin 4096) (j : Fin 1024) :
    result17 m c (ix2 (⟨4096 * b.val + n.val, by omega⟩ : Fin 32768) j) = token' m c b n j := by
  refine congrArg₂ (fun b n => token' m c b n j) (Fin.ext ?_) (Fin.ext ?_)
  · show (4096 * b.val + n.val) / 4096 = b.val
    omega
  · show (4096 * b.val + n.val) % 4096 = n.val
    omega

/-- What the body leaves for it. -/
theorem out17 (hy : Steady m c) (t : Fin cfg0.N) (r : Fin 256) (j : Fin 1024) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = token' m c (seq t) (token t r) j := by
  unfold out0_17
  rw [View.canon_unit_zero (S := S256x1024) (by decide)]
  skip
  exact tokens_apply m c hy t r j

theorem flushed17 (hy : Steady m c) (t : Fin cfg0.N) :
    (dats m 0 c).flushed 17 t = ((cfg0.win 17).blk t).view.read (Elt Ideal) (result17 m c) := by
  rw [Cert.Kernel4Ideal.Value.flushed17]
  obtain ⟨h0, h1⟩ := idx17 t
  funext i
  obtain ⟨r, j, rfl⟩ : ∃ (r : Fin 256) (j : Fin 1024), i = ix2 r j := ⟨i 0, i 1, eq_ix2 i⟩
  refine Eq.trans (b := token' m c (seq t) (token t r) j) ?_ (((congrArg (result17 m c) (funext fun a => ?_)).trans (result17_apply m c (seq t) (token t r) j)).symm)
  · exact out17 m c hy t r j
  · match a with
    | ⟨0, _⟩ => exact Fin.ext (by show win0_17.index t 0 * 256 + 1 * r.val = 4096 * (t.val / 16) + (256 * (t.val % 16) + r.val); omega)
    | ⟨1, _⟩ => exact Fin.ext (by show win0_17.index t 1 * 1024 + 1 * j.val = j.val; omega)

theorem cover17 (i : S32768x1024.Idx) : ∃ t : Fin cfg0.N, (cfg0.win 17).flush t = true ∧ i ∈ ((cfg0.win 17).blk t).view.set := by
  have h0 : (i 0).val < 32768 := (i 0).isLt
  have h1 : (i 1).val < 1024 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx17 t
  refine ⟨t, flush0_17 t, ?_⟩
  show i ∈ ((View.whole main_v30_0).slice (win0_17.rect t)).set
  rw [View.set_slice_whole, Rect.mem_set_unit]
  intro a
  match a with
  | ⟨0, _⟩ => show win0_17.index t 0 * 256 ≤ (i 0).val ∧ (i 0).val < win0_17.index t 0 * 256 + 256; omega
  | ⟨1, _⟩ => show win0_17.index t 1 * 1024 ≤ (i 1).val ∧ (i 1).val < win0_17.index t 1 * 1024 + 1024; omega

/-- The first array after the run. -/
theorem final17 (hy : Steady m c) : (dats m 0 c).arrAt 17 cfg0.N = result17 m c :=
  (dats m 0 c).arrAt_eq_of_cover 17 (result17 m c) (fun t _ => flushed17 m c hy t) cover17

/-- The second result array. -/
def result18 : Buf (Elt Ideal) ((c : Thread nD τ).loc main_v30_1) := fun i : S32768x1024.Idx =>
  act m c (⟨(i 0).val / 4096, by have : (i 0).val < 32768 := (i 0).isLt; omega⟩ : Fin 8) (⟨(i 0).val % 4096, by omega⟩ : Fin 4096) (i 1)

theorem result18_apply (b : Fin 8) (n : Fin 4096) (j : Fin 1024) :
    result18 m c (ix2 (⟨4096 * b.val + n.val, by omega⟩ : Fin 32768) j) = act m c b n j := by
  refine congrArg₂ (fun b n => act m c b n j) (Fin.ext ?_) (Fin.ext ?_)
  · show (4096 * b.val + n.val) / 4096 = b.val
    omega
  · show (4096 * b.val + n.val) % 4096 = n.val
    omega

/-- What the body leaves for it. -/
theorem out18 (hy : Steady m c) (t : Fin cfg0.N) (r : Fin 256) (j : Fin 1024) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = act m c (seq t) (token t r) j := by
  unfold out0_18
  rw [View.canon_unit_zero (S := S256x1024) (by decide)]
  rw [loadGain, loadSeq, loadSeq]
  exact acts_apply m c hy t r j

theorem flushed18 (hy : Steady m c) (t : Fin cfg0.N) :
    (dats m 0 c).flushed 18 t = ((cfg0.win 18).blk t).view.read (Elt Ideal) (result18 m c) := by
  rw [Cert.Kernel4Ideal.Value.flushed18]
  obtain ⟨h0, h1⟩ := idx18 t
  funext i
  obtain ⟨r, j, rfl⟩ : ∃ (r : Fin 256) (j : Fin 1024), i = ix2 r j := ⟨i 0, i 1, eq_ix2 i⟩
  refine Eq.trans (b := act m c (seq t) (token t r) j) ?_ (((congrArg (result18 m c) (funext fun a => ?_)).trans (result18_apply m c (seq t) (token t r) j)).symm)
  · exact out18 m c hy t r j
  · match a with
    | ⟨0, _⟩ => exact Fin.ext (by show win0_18.index t 0 * 256 + 1 * r.val = 4096 * (t.val / 16) + (256 * (t.val % 16) + r.val); omega)
    | ⟨1, _⟩ => exact Fin.ext (by show win0_18.index t 1 * 1024 + 1 * j.val = j.val; omega)

theorem cover18 (i : S32768x1024.Idx) : ∃ t : Fin cfg0.N, (cfg0.win 18).flush t = true ∧ i ∈ ((cfg0.win 18).blk t).view.set := by
  have h0 : (i 0).val < 32768 := (i 0).isLt
  have h1 : (i 1).val < 1024 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx18 t
  refine ⟨t, flush0_18 t, ?_⟩
  show i ∈ ((View.whole main_v30_1).slice (win0_18.rect t)).set
  rw [View.set_slice_whole, Rect.mem_set_unit]
  intro a
  match a with
  | ⟨0, _⟩ => show win0_18.index t 0 * 256 ≤ (i 0).val ∧ (i 0).val < win0_18.index t 0 * 256 + 256; omega
  | ⟨1, _⟩ => show win0_18.index t 1 * 1024 ≤ (i 1).val ∧ (i 1).val < win0_18.index t 1 * 1024 + 1024; omega

/-- The second array after the run. -/
theorem final18 (hy : Steady m c) : (dats m 0 c).arrAt 18 cfg0.N = result18 m c :=
  (dats m 0 c).arrAt_eq_of_cover 18 (result18 m c) (fun t _ => flushed18 m c hy t) cover18

/-- The third result array. -/
def result19 : Buf (Elt Ideal) ((c : Thread nD τ).loc main_v30_2) := fun i : S32768x128.Idx =>
  logit m c (⟨(i 0).val / 4096, by have : (i 0).val < 32768 := (i 0).isLt; omega⟩ : Fin 8) (⟨(i 0).val % 4096, by omega⟩ : Fin 4096) (i 1)

theorem result19_apply (b : Fin 8) (n : Fin 4096) (j : Fin 128) :
    result19 m c (ix2 (⟨4096 * b.val + n.val, by omega⟩ : Fin 32768) j) = logit m c b n j := by
  refine congrArg₂ (fun b n => logit m c b n j) (Fin.ext ?_) (Fin.ext ?_)
  · show (4096 * b.val + n.val) / 4096 = b.val
    omega
  · show (4096 * b.val + n.val) % 4096 = n.val
    omega

/-- What the body leaves for it. -/
theorem out19 (hy : Steady m c) (t : Fin cfg0.N) (r : Fin 256) (j : Fin 128) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = logit m c (seq t) (token t r) j := by
  unfold out0_19
  rw [View.canon_unit_zero (S := S256x128) (by decide)]
  rw [loadGain, loadSeq, loadSeq, loadRouter, loadBias]
  exact logits_apply m c hy t r j

theorem flushed19 (hy : Steady m c) (t : Fin cfg0.N) :
    (dats m 0 c).flushed 19 t = ((cfg0.win 19).blk t).view.read (Elt Ideal) (result19 m c) := by
  rw [Cert.Kernel4Ideal.Value.flushed19]
  obtain ⟨h0, h1⟩ := idx19 t
  funext i
  obtain ⟨r, j, rfl⟩ : ∃ (r : Fin 256) (j : Fin 128), i = ix2 r j := ⟨i 0, i 1, eq_ix2 i⟩
  refine Eq.trans (b := logit m c (seq t) (token t r) j) ?_ (((congrArg (result19 m c) (funext fun a => ?_)).trans (result19_apply m c (seq t) (token t r) j)).symm)
  · exact out19 m c hy t r j
  · match a with
    | ⟨0, _⟩ => exact Fin.ext (by show win0_19.index t 0 * 256 + 1 * r.val = 4096 * (t.val / 16) + (256 * (t.val % 16) + r.val); omega)
    | ⟨1, _⟩ => exact Fin.ext (by show win0_19.index t 1 * 128 + 1 * j.val = j.val; omega)

theorem cover19 (i : S32768x128.Idx) : ∃ t : Fin cfg0.N, (cfg0.win 19).flush t = true ∧ i ∈ ((cfg0.win 19).blk t).view.set := by
  have h0 : (i 0).val < 32768 := (i 0).isLt
  have h1 : (i 1).val < 128 := (i 1).isLt
  have hN : cfg0.N = 128 := N_0
  have ht : (i 0).val / 256 < cfg0.N := by omega
  obtain ⟨t, hv⟩ : ∃ t : Fin cfg0.N, t.val = (i 0).val / 256 := ⟨⟨_, ht⟩, rfl⟩
  obtain ⟨e0, e1⟩ := idx19 t
  refine ⟨t, flush0_19 t, ?_⟩
  show i ∈ ((View.whole main_v30_2).slice (win0_19.rect t)).set
  rw [View.set_slice_whole, Rect.mem_set_unit]
  intro a
  match a with
  | ⟨0, _⟩ => show win0_19.index t 0 * 256 ≤ (i 0).val ∧ (i 0).val < win0_19.index t 0 * 256 + 256; omega
  | ⟨1, _⟩ => show win0_19.index t 1 * 128 ≤ (i 1).val ∧ (i 1).val < win0_19.index t 1 * 128 + 128; omega

/-- The third array after the run. -/
theorem final19 (hy : Steady m c) : (dats m 0 c).arrAt 19 cfg0.N = result19 m c :=
  (dats m 0 c).arrAt_eq_of_cover 19 (result19 m c) (fun t _ => flushed19 m c hy t) cover19

end Cert.OutWhole

end
-- ==== Proof.OutRef.lean ====
/- The reference's output projection, over the extended reals, read at a token. -/
module

public import proofs.«01_k».proof.Proof.OutRouter
public import proofs.«01_k».proof.Proof.ProjRef
public import proofs.«01_k».proof.Proof.Gen.Reference4Ideal.Run
public import Idealize.ShloMosaic.Lib.ValueLayout
public import Idealize.ShloMosaic.Lib.MatmulPlain
public import Idealize.ShloMosaic.Lib.IdealHost
public import Idealize.ShloMosaic.Lib.Pipeline.Value

@[expose] public section

set_option maxRecDepth 16384

noncomputable section

namespace Cert.OutRef

open Cert.Reference4Ideal Cert.Reference4Ideal.Gen
open Idealize.ShloMosaic Idealize.ShloMosaic.ValueIdx
open scoped BigOperators

/-- The features split into heads. -/
def heads (x : FVec Ideal S8x4096x256 .f32) : FVec Ideal S8x4096x4x64 .f32 := shapeCast _ x shapeCasts_S8x4096x256_S8x4096x4x64

/-- The heads put together. -/
def flat (x : FVec Ideal S8x4096x4x64 .f32) : FVec Ideal S8x4096x256 .f32 := shapeCast _ x shapeCasts_S8x4096x4x64_S8x4096x256

/-- A head's value for each of its features. -/
def spread (x : FVec Ideal S8x4096x4x1 .f32) : FVec Ideal S8x4096x4x64 .f32 :=
  broadcastInDim S8x4096x4x64 ![0, 1, 2, 3] bcast_S8x4096x4x1_S8x4096x4x64_0_1_2_3 x

/-- The heads' sums. -/
def sums (x : FVec Ideal S8x4096x4x64 .f32) : FVec Ideal S8x4096x4 .f32 :=
  Host.reduceAdd x (constant S_ .f32 0x00000000#32) reducesTo_S8x4096x4x64_S8x4096x4_d3 h_S_

/-- The heads' means. -/
def means (x : FVec Ideal S8x4096x4x64 .f32) : FVec Ideal S8x4096x4x1 .f32 :=
  Host.divf (broadcastInDim S8x4096x4x1 ![0, 1, 2] bcast_S8x4096x4_S8x4096x4x1_0_1_2 (sums x))
    (broadcastInDim S8x4096x4x1 ![] bcast_S_S8x4096x4x1 (constant S_ .f32 0x42800000#32))

/-- The features less their heads' means. -/
def centred (x : FVec Ideal S8x4096x4x64 .f32) : FVec Ideal S8x4096x4x64 .f32 := subf x (spread (means x))

/-- The features normalised within their heads. -/
def normed (x : FVec Ideal S8x4096x4x64 .f32) : FVec Ideal S8x4096x4x64 .f32 :=
  mulf (centred x) (spread (Host.rsqrt (addf (means (mulf (centred x) (centred x)))
    (broadcastInDim S8x4096x4x1 ![] bcast_S_S8x4096x4x1 (constant S_ .f32 0x3A27C5AC#32)))))

/-- A row of 256 features for every token. -/
def rows (w : FVec Ideal S256 .f32) : FVec Ideal S8x4096x256 .f32 :=
  broadcastInDim S8x4096x256 ![0, 1, 2] bcast_S1x1x256_S8x4096x256_0_1_2 (broadcastInDim S1x1x256 ![2] bcast_S256_S1x1x256_2 w)

/-- The scan's two outputs added, the sequences first. -/
def scan (y z : FVec Ideal S4096x8x256 .f32) : FVec Ideal S8x4096x256 .f32 :=
  transpose S8x4096x256 [1, 0, 2] (addf y z) transposes_S4096x8x256_S8x4096x256_1_0_2

/-- The gate and the bonus, the sequences first. -/
def pair (g : FVec Ideal S4096x8x512 .f32) : FVec Ideal S8x4096x512 .f32 :=
  transpose S8x4096x512 [1, 0, 2] g transposes_S4096x8x512_S8x4096x512_1_0_2

/-- The scan's part of the mixers' output. -/
def gated (y z : FVec Ideal S4096x8x256 .f32) (g : FVec Ideal S4096x8x512 .f32) (w b : FVec Ideal S256 .f32) : FVec Ideal S8x4096x256 .f32 :=
  mulf (addf (addf (mulf (flat (normed (heads (scan y z)))) (rows w)) (rows b))
    (extractStridedSlice S8x4096x256 ![0, 0, 256] (pair g) slices_S8x4096x512_S8x4096x256_0_0_256))
    (extractStridedSlice S8x4096x256 ![0, 0, 0] (pair g) slices_S8x4096x512_S8x4096x256_0_0_0)

/-- The four mixers' outputs side by side. -/
def mixers (a p q s : FVec Ideal S8x4096x256 .f32) : FVec Ideal S8x4096x1024 .f32 :=
  concatenate S8x4096x1024 2 [⟨S8x4096x256, a⟩, ⟨S8x4096x256, p⟩, ⟨S8x4096x256, q⟩, ⟨S8x4096x256, s⟩]
    concatenates_S8x4096x256_S8x4096x256_S8x4096x256_S8x4096x256_S8x4096x1024_d2

/-- Times the weights. -/
def product (x : FVec Ideal S8x4096x1024 .f32) (w : FVec Ideal S1024x1024 .f32) : FVec Ideal S8x4096x1024 .f32 :=
  Host.dotGeneral dot_S8x4096x1024_S1024x1024_S8x4096x1024_2_0_01_1_n_n none x w

/-- The tokens plus the gated product. -/
def tokens (x : FVec Ideal S8x4096x1024 .f32) (g : FVec Ideal S8x1024 .f32) (y : FVec Ideal S8x4096x1024 .f32) : FVec Ideal S8x4096x1024 .f32 :=
  addf x (mulf (broadcastInDim S8x4096x1024 ![0, 1, 2] bcast_S8x1x1024_S8x4096x1024_0_1_2
    (broadcastInDim S8x1x1024 ![0, 2] bcast_S8x1024_S8x1x1024_0_2 g)) y)

/-- The sequences one after another. -/
def long (x : FVec Ideal S8x4096x1024 .f32) : FVec Ideal S32768x1024 .f32 := shapeCast _ x shapeCasts_S8x4096x1024_S32768x1024

/-- The router's first columns, -/
def columns4 (x : FVec Ideal S32768x1024 .f32) (w : FVec Ideal S1024x4 .f32) (b : FVec Ideal S4 .f32) : FVec Ideal S32768x4 .f32 :=
  addf (Host.dotGeneral dot_S32768x1024_S1024x4_S32768x4_1_0_0_1_n_n none x w)
    (broadcastInDim S32768x4 ![0, 1] bcast_S1x4_S32768x4_0_1 (broadcastInDim S1x4 ![1] bcast_S4_S1x4_1 b))

/-- and its others. -/
def columns32 (x : FVec Ideal S32768x1024 .f32) (w : FVec Ideal S1024x32 .f32) (b : FVec Ideal S32 .f32) : FVec Ideal S32768x32 .f32 :=
  addf (Host.dotGeneral dot_S32768x1024_S1024x32_S32768x32_1_0_0_1_n_n none x w)
    (broadcastInDim S32768x32 ![0, 1] bcast_S1x32_S32768x32_0_1 (broadcastInDim S1x32 ![1] bcast_S32_S1x32_1 b))

/-- All its columns, padded. -/
def logits (p : FVec Ideal S32768x4 .f32) (q : FVec Ideal S32768x32 .f32) : FVec Ideal S32768x128 .f32 :=
  pad S32768x128 ![0, 0] ![0, 92] ![0, 0] (Cert.OutRouter.beside p q concatenates_S32768x4_S32768x32_S32768x36_d1)
    (sitofp .f32 (constantI S_ 32 0#32)) pads_S32768x36_S32768x128_000_0920 h_S_

theorem heads_apply (x : FVec Ideal S8x4096x256 .f32) (b : Fin 8) (n : Fin 4096) (a : Fin 4) (e : Fin 64) :
    heads x (ix4 b n a e) = x (ix3 b n (Cert.OutSpec.feature a e)) :=
  shapeCast_apply _ _ _ (ix3 b n (Cert.OutSpec.feature a e)) (by
    rw [Shape.rowMajor_val_three, Shape.rowMajor_val_four]
    show (b.val * 4096 + n.val) * 256 + (64 * a.val + e.val) = ((b.val * 4096 + n.val) * 4 + a.val) * 64 + e.val
    omega)

theorem flat_apply (x : FVec Ideal S8x4096x4x64 .f32) (b : Fin 8) (n : Fin 4096) (a : Fin 4) (e : Fin 64) :
    flat x (ix3 b n (Cert.OutSpec.feature a e)) = x (ix4 b n a e) :=
  shapeCast_apply _ _ _ (ix4 b n a e) (by
    rw [Shape.rowMajor_val_three, Shape.rowMajor_val_four]
    show ((b.val * 4096 + n.val) * 4 + a.val) * 64 + e.val = (b.val * 4096 + n.val) * 256 + (64 * a.val + e.val)
    omega)

theorem spread_apply (x : FVec Ideal S8x4096x4x1 .f32) (b : Fin 8) (n : Fin 4096) (a : Fin 4) (e : Fin 64) :
    spread x (ix4 b n a e) = x (ix4 b n a (0 : Fin 1)) :=
  broadcastInDim_apply _ _ _ _ (ix4 b n a (0 : Fin 1)) fun i => by
    match i with
    | ⟨0, _⟩ => rfl
    | ⟨1, _⟩ => rfl
    | ⟨2, _⟩ => rfl
    | ⟨3, _⟩ => rfl

theorem reduces : S8x4096x4x64.Reduces [3] S8x4096x4 := by decide

theorem lift_eq (b : Fin 8) (n : Fin 4096) (a : Fin 4) (e : Fin 64) : reduces.lift (ix3 b n a) e = ix4 b n a e := by
  funext i
  match i with
  | ⟨0, _⟩ => rfl
  | ⟨1, _⟩ => rfl
  | ⟨2, _⟩ => rfl
  | ⟨3, _⟩ => rfl

theorem sums_apply (x : FVec Ideal S8x4096x4x64 .f32) (b : Fin 8) (n : Fin 4096) (a : Fin 4) :
    sums x (ix3 b n a) = ∑ e : Fin 64, (x (ix4 b n a e) : EReal) := by
  unfold sums
  refine (Ideal.hostReduceAdd_single reducesTo_S8x4096x4x64_S8x4096x4_d3 reduces x _ (ix3 b n a)).trans ?_
  have h0 : constant (F := Ideal) S_ .f32 0x00000000#32 (Shape.Idx.first h_S_) = (0 : EReal) := Ideal.ofBits_zero_f32
  rw [h0, zero_add]
  exact Finset.sum_congr rfl fun e _ => congrArg x (lift_eq b n a e)

theorem means_apply (x : FVec Ideal S8x4096x4x64 .f32) (b : Fin 8) (n : Fin 4096) (f : Fin 256 → EReal)
    (h : ∀ a e, x (ix4 b n a e) = f (Cert.OutSpec.feature a e)) (a : Fin 4) : means x (ix4 b n a (0 : Fin 1)) = Cert.OutSpec.mean f a := by
  have hs : broadcastInDim S8x4096x4x1 ![0, 1, 2] bcast_S8x4096x4_S8x4096x4x1_0_1_2 (sums x) (ix4 b n a (0 : Fin 1)) = sums x (ix3 b n a) :=
    broadcastInDim_apply _ _ _ _ (ix3 b n a) fun i => by
      match i with
      | ⟨0, _⟩ => rfl
      | ⟨1, _⟩ => rfl
      | ⟨2, _⟩ => rfl
  show Ideal.div (broadcastInDim S8x4096x4x1 ![0, 1, 2] bcast_S8x4096x4_S8x4096x4x1_0_1_2 (sums x) (ix4 b n a (0 : Fin 1))) (Ideal.ofBits .f32 0x42800000#32) = _
  rw [hs, sums_apply]
  unfold Cert.OutSpec.mean Cert.OutSpec.headSum
  exact congrArg (fun s => Ideal.div s _) (Finset.sum_congr rfl fun e _ => h a e)

theorem centred_apply (x : FVec Ideal S8x4096x4x64 .f32) (b : Fin 8) (n : Fin 4096) (f : Fin 256 → EReal)
    (h : ∀ a e, x (ix4 b n a e) = f (Cert.OutSpec.feature a e)) (a : Fin 4) (e : Fin 64) :
    centred x (ix4 b n a e) = Cert.OutSpec.centred f (Cert.OutSpec.feature a e) := by
  show x (ix4 b n a e) - spread (means x) (ix4 b n a e) = _
  unfold Cert.OutSpec.centred
  rw [spread_apply, means_apply x b n f h, h, Cert.OutSpec.head_feature]

theorem normed_apply (x : FVec Ideal S8x4096x4x64 .f32) (b : Fin 8) (n : Fin 4096) (f : Fin 256 → EReal)
    (h : ∀ a e, x (ix4 b n a e) = f (Cert.OutSpec.feature a e)) (a : Fin 4) (e : Fin 64) :
    normed x (ix4 b n a e) = Cert.OutSpec.normed f (Cert.OutSpec.feature a e) := by
  have hv : means (mulf (centred x) (centred x)) (ix4 b n a (0 : Fin 1)) = Cert.OutSpec.variance f a :=
    means_apply _ b n (fun k => Cert.OutSpec.centred f k * Cert.OutSpec.centred f k) (fun a e => by
      show centred x (ix4 b n a e) * centred x (ix4 b n a e) = _
      rw [centred_apply x b n f h]) a
  unfold normed
  show centred x (ix4 b n a e) * spread _ (ix4 b n a e) = _
  rw [spread_apply, centred_apply x b n f h]
  show _ * Ideal.rsqrt (means (mulf (centred x) (centred x)) (ix4 b n a (0 : Fin 1)) + Ideal.ofBits .f32 0x3A27C5AC#32) = _
  unfold Cert.OutSpec.normed
  rw [hv, Cert.OutSpec.head_feature]

theorem rows_apply (w : FVec Ideal S256 .f32) (b : Fin 8) (n : Fin 4096) (k : Fin 256) : rows w (ix3 b n k) = w (ix1 k) := by
  unfold rows
  refine (broadcastInDim_apply _ _ _ _ (ix3 (0 : Fin 1) (0 : Fin 1) k) fun a => ?_).trans (broadcastInDim_apply _ _ _ _ (ix1 k) fun a => ?_)
  · match a with
    | ⟨0, _⟩ => rfl
    | ⟨1, _⟩ => rfl
    | ⟨2, _⟩ => rfl
  · match a with
    | ⟨0, _⟩ => rfl

theorem scan_apply (y z : FVec Ideal S4096x8x256 .f32) (b : Fin 8) (n : Fin 4096) (k : Fin 256) :
    scan y z (ix3 b n k) = (y (ix3 n b k) + z (ix3 n b k) : EReal) := by
  unfold scan
  refine (transpose_apply _ (addf y z) _ (ix3 b n k) (ix3 n b k) fun a => ?_).trans rfl
  match a with
  | ⟨0, _⟩ => rfl
  | ⟨1, _⟩ => rfl
  | ⟨2, _⟩ => rfl

theorem pair_apply (g : FVec Ideal S4096x8x512 .f32) (b : Fin 8) (n : Fin 4096) (k : Fin 512) : pair g (ix3 b n k) = g (ix3 n b k) := by
  unfold pair
  refine transpose_apply _ g _ (ix3 b n k) (ix3 n b k) fun a => ?_
  match a with
  | ⟨0, _⟩ => rfl
  | ⟨1, _⟩ => rfl
  | ⟨2, _⟩ => rfl

theorem gated_apply (y z : FVec Ideal S4096x8x256 .f32) (g : FVec Ideal S4096x8x512 .f32) (w c : FVec Ideal S256 .f32)
    (b : Fin 8) (n : Fin 4096) (k : Fin 256) :
    gated y z g w c (ix3 b n k) = Cert.OutSpec.gated (fun k => (y (ix3 n b k) + z (ix3 n b k) : EReal)) (fun k => w (ix1 k)) (fun k => c (ix1 k))
      (fun k => g (ix3 n b (⟨256 + k.val, by omega⟩ : Fin 512))) (fun k => g (ix3 n b (⟨k.val, by omega⟩ : Fin 512))) k := by
  have hn : flat (normed (heads (scan y z))) (ix3 b n k) = Cert.OutSpec.normed (fun k => (y (ix3 n b k) + z (ix3 n b k) : EReal)) k := by
    obtain ⟨a, e, rfl⟩ : ∃ (a : Fin 4) (e : Fin 64), k = Cert.OutSpec.feature a e :=
      ⟨⟨k.val / 64, by omega⟩, ⟨k.val % 64, by omega⟩, Fin.ext (by show k.val = 64 * (k.val / 64) + k.val % 64; omega)⟩
    rw [flat_apply]
    exact normed_apply _ b n _ (fun a e => (heads_apply _ b n a e).trans (scan_apply y z b n _)) a e
  have hu : extractStridedSlice S8x4096x256 ![0, 0, 256] (pair g) slices_S8x4096x512_S8x4096x256_0_0_256 (ix3 b n k) = g (ix3 n b (⟨256 + k.val, by omega⟩ : Fin 512)) :=
    (extractStridedSlice_apply ![0, 0, 256] (pair g) _ (ix3 b n k) (ix3 b n (⟨256 + k.val, by omega⟩ : Fin 512)) fun a => by
      match a with
      | ⟨0, _⟩ => show b.val = 0 + b.val; omega
      | ⟨1, _⟩ => show n.val = 0 + n.val; omega
      | ⟨2, _⟩ => rfl).trans (pair_apply g b n _)
  have hg : extractStridedSlice S8x4096x256 ![0, 0, 0] (pair g) slices_S8x4096x512_S8x4096x256_0_0_0 (ix3 b n k) = g (ix3 n b (⟨k.val, by omega⟩ : Fin 512)) :=
    (extractStridedSlice_apply ![0, 0, 0] (pair g) _ (ix3 b n k) (ix3 b n (⟨k.val, by omega⟩ : Fin 512)) fun a => by
      match a with
      | ⟨0, _⟩ => show b.val = 0 + b.val; omega
      | ⟨1, _⟩ => show n.val = 0 + n.val; omega
      | ⟨2, _⟩ => show k.val = 0 + k.val; omega).trans (pair_apply g b n _)
  unfold gated
  show ((flat (normed (heads (scan y z))) (ix3 b n k) * rows w (ix3 b n k) + rows c (ix3 b n k))
    + extractStridedSlice S8x4096x256 ![0, 0, 256] (pair g) slices_S8x4096x512_S8x4096x256_0_0_256 (ix3 b n k))
    * extractStridedSlice S8x4096x256 ![0, 0, 0] (pair g) slices_S8x4096x512_S8x4096x256_0_0_0 (ix3 b n k) = _
  rw [hn, rows_apply, rows_apply, hu, hg]
  rfl

theorem mixers_apply0 (a p q s : FVec Ideal S8x4096x256 .f32) (b : Fin 8) (n : Fin 4096) (k : Fin 256) :
    mixers a p q s (ix3 b n (Cert.OutSpec.quarter 0 k)) = a (ix3 b n k) := by
  unfold mixers
  refine concatenate_apply_piece (2 : Fin S8x4096x1024.rank) [⟨S8x4096x256, a⟩, ⟨S8x4096x256, p⟩, ⟨S8x4096x256, q⟩, ⟨S8x4096x256, s⟩]
    concatenates_S8x4096x256_S8x4096x256_S8x4096x256_S8x4096x256_S8x4096x1024_d2 (ix3 b n (Cert.OutSpec.quarter 0 k)) 0 (by show 0 < 4; omega) S8x4096x256 a rfl rfl 0 rfl
    (ix3 b n k) (fun i hi => ?_) rfl
  match i with
  | ⟨0, _⟩ => rfl
  | ⟨1, _⟩ => rfl
  | ⟨2, _⟩ => exact absurd rfl hi

theorem mixers_apply1 (a p q s : FVec Ideal S8x4096x256 .f32) (b : Fin 8) (n : Fin 4096) (k : Fin 256) :
    mixers a p q s (ix3 b n (Cert.OutSpec.quarter 1 k)) = p (ix3 b n k) := by
  unfold mixers
  refine concatenate_apply_piece (2 : Fin S8x4096x1024.rank) [⟨S8x4096x256, a⟩, ⟨S8x4096x256, p⟩, ⟨S8x4096x256, q⟩, ⟨S8x4096x256, s⟩]
    concatenates_S8x4096x256_S8x4096x256_S8x4096x256_S8x4096x256_S8x4096x1024_d2 (ix3 b n (Cert.OutSpec.quarter 1 k)) 1 (by show 1 < 4; omega) S8x4096x256 p rfl rfl 256 rfl
    (ix3 b n k) (fun i hi => ?_) rfl
  match i with
  | ⟨0, _⟩ => rfl
  | ⟨1, _⟩ => rfl
  | ⟨2, _⟩ => exact absurd rfl hi

theorem mixers_apply2 (a p q s : FVec Ideal S8x4096x256 .f32) (b : Fin 8) (n : Fin 4096) (k : Fin 256) :
    mixers a p q s (ix3 b n (Cert.OutSpec.quarter 2 k)) = q (ix3 b n k) := by
  unfold mixers
  refine concatenate_apply_piece (2 : Fin S8x4096x1024.rank) [⟨S8x4096x256, a⟩, ⟨S8x4096x256, p⟩, ⟨S8x4096x256, q⟩, ⟨S8x4096x256, s⟩]
    concatenates_S8x4096x256_S8x4096x256_S8x4096x256_S8x4096x256_S8x4096x1024_d2 (ix3 b n (Cert.OutSpec.quarter 2 k)) 2 (by show 2 < 4; omega) S8x4096x256 q rfl rfl 512 rfl
    (ix3 b n k) (fun i hi => ?_) rfl
  match i with
  | ⟨0, _⟩ => rfl
  | ⟨1, _⟩ => rfl
  | ⟨2, _⟩ => exact absurd rfl hi

theorem mixers_apply3 (a p q s : FVec Ideal S8x4096x256 .f32) (b : Fin 8) (n : Fin 4096) (k : Fin 256) :
    mixers a p q s (ix3 b n (Cert.OutSpec.quarter 3 k)) = s (ix3 b n k) := by
  unfold mixers
  refine concatenate_apply_piece (2 : Fin S8x4096x1024.rank) [⟨S8x4096x256, a⟩, ⟨S8x4096x256, p⟩, ⟨S8x4096x256, q⟩, ⟨S8x4096x256, s⟩]
    concatenates_S8x4096x256_S8x4096x256_S8x4096x256_S8x4096x256_S8x4096x1024_d2 (ix3 b n (Cert.OutSpec.quarter 3 k)) 3 (by show 3 < 4; omega) S8x4096x256 s rfl rfl 768 rfl
    (ix3 b n k) (fun i hi => ?_) rfl
  match i with
  | ⟨0, _⟩ => rfl
  | ⟨1, _⟩ => rfl
  | ⟨2, _⟩ => exact absurd rfl hi

/-- The mixers' outputs times the weights. -/
theorem product_apply (a p q s : FVec Ideal S8x4096x256 .f32) (w : FVec Ideal S1024x1024 .f32) (b : Fin 8) (n : Fin 4096) (j : Fin 1024) :
    product (mixers a p q s) w (ix3 b n j) = Cert.OutSpec.mixed (fun k => a (ix3 b n k)) (fun k => p (ix3 b n k)) (fun k => q (ix3 b n k))
      (fun k => s (ix3 b n k)) (fun i => w (ix2 i j)) := by
  have h : product (mixers a p q s) w (ix3 b n j) = ∑ e : Fin 1024, (mixers a p q s (ix3 b n e) * w (ix2 e j) : EReal) := by
    unfold product
    simp only [Host.dotGeneral]
    rw [Ideal.dotGeneral_apply, ← Equiv.sum_comp (contrEquiv1 dot_S8x4096x1024_S1024x1024_S8x4096x1024_2_0_01_1_n_n 1024 rfl rfl).symm]
    refine Finset.sum_congr rfl fun e _ => ?_
    have he := contrEquiv1_symm_val dot_S8x4096x1024_S1024x1024_S8x4096x1024_2_0_01_1_n_n 1024 rfl rfl e
    refine congrArg₂ (· * ·) (congrArg (mixers a p q s) (funext fun a => Fin.ext ?_)) (congrArg w (funext fun a => Fin.ext ?_))
    · match a with
      | ⟨0, _⟩ => rfl
      | ⟨1, _⟩ => rfl
      | ⟨2, _⟩ => exact he
    · match a with
      | ⟨0, _⟩ => exact he
      | ⟨1, _⟩ => rfl
  rw [h, Cert.OutSpec.sum_quarters]
  unfold Cert.OutSpec.mixed
  simp only [mixers_apply0, mixers_apply1, mixers_apply2, mixers_apply3]

theorem tokens_apply (x : FVec Ideal S8x4096x1024 .f32) (g : FVec Ideal S8x1024 .f32) (y : FVec Ideal S8x4096x1024 .f32)
    (b : Fin 8) (n : Fin 4096) (e : Fin 1024) : tokens x g y (ix3 b n e) = (x (ix3 b n e) + g (ix2 b e) * y (ix3 b n e) : EReal) := by
  have h : broadcastInDim S8x4096x1024 ![0, 1, 2] bcast_S8x1x1024_S8x4096x1024_0_1_2
      (broadcastInDim S8x1x1024 ![0, 2] bcast_S8x1024_S8x1x1024_0_2 g) (ix3 b n e) = g (ix2 b e) :=
    (broadcastInDim_apply _ _ _ _ (ix3 b (0 : Fin 1) e) fun a => by
      match a with
      | ⟨0, _⟩ => rfl
      | ⟨1, _⟩ => rfl
      | ⟨2, _⟩ => rfl).trans (broadcastInDim_apply _ _ _ _ (ix2 b e) fun a => by
      match a with
      | ⟨0, _⟩ => rfl
      | ⟨1, _⟩ => rfl)
  unfold tokens
  exact congrArg (fun s => (x (ix3 b n e) + s * y (ix3 b n e) : EReal)) h

theorem long_apply (x : FVec Ideal S8x4096x1024 .f32) (b : Fin 8) (n : Fin 4096) (e : Fin 1024) :
    long x (ix2 (⟨4096 * b.val + n.val, by omega⟩ : Fin 32768) e) = x (ix3 b n e) :=
  shapeCast_apply _ _ _ (ix3 b n e) (by
    rw [Shape.rowMajor_val_three, Shape.rowMajor_val_two]
    show (b.val * 4096 + n.val) * 1024 + e.val = (4096 * b.val + n.val) * 1024 + e.val
    omega)

theorem columns4_apply (x : FVec Ideal S32768x1024 .f32) (w : FVec Ideal S1024x4 .f32) (c : FVec Ideal S4 .f32) (n : Fin 32768) (j : Fin 4) :
    columns4 x w c (ix2 n j) = ((∑ e : Fin 1024, x (ix2 n e) * w (ix2 e j)) + c (ix1 j) : EReal) := by
  unfold columns4
  refine congrArg₂ (fun a b : EReal => a + b) ?_ ((broadcastInDim_apply _ _ _ _ (ix2 (0 : Fin 1) j) fun a => ?_).trans (broadcastInDim_apply _ _ _ _ (ix1 j) fun a => ?_))
  · simp only [Host.dotGeneral]
    rw [Ideal.dotGeneral_apply, ← Equiv.sum_comp (contrEquiv1 dot_S32768x1024_S1024x4_S32768x4_1_0_0_1_n_n 1024 rfl rfl).symm]
    refine Finset.sum_congr rfl fun e _ => ?_
    have he := contrEquiv1_symm_val dot_S32768x1024_S1024x4_S32768x4_1_0_0_1_n_n 1024 rfl rfl e
    refine congrArg₂ (· * ·) (congrArg x (funext fun a => Fin.ext ?_)) (congrArg w (funext fun a => Fin.ext ?_))
    · match a with
      | ⟨0, _⟩ => rfl
      | ⟨1, _⟩ => exact he
    · match a with
      | ⟨0, _⟩ => exact he
      | ⟨1, _⟩ => rfl
  · match a with
    | ⟨0, _⟩ => rfl
    | ⟨1, _⟩ => rfl
  · match a with
    | ⟨0, _⟩ => rfl

theorem columns32_apply (x : FVec Ideal S32768x1024 .f32) (w : FVec Ideal S1024x32 .f32) (c : FVec Ideal S32 .f32) (n : Fin 32768) (j : Fin 32) :
    columns32 x w c (ix2 n j) = ((∑ e : Fin 1024, x (ix2 n e) * w (ix2 e j)) + c (ix1 j) : EReal) := by
  unfold columns32
  refine congrArg₂ (fun a b : EReal => a + b) ?_ ((broadcastInDim_apply _ _ _ _ (ix2 (0 : Fin 1) j) fun a => ?_).trans (broadcastInDim_apply _ _ _ _ (ix1 j) fun a => ?_))
  · simp only [Host.dotGeneral]
    rw [Ideal.dotGeneral_apply, ← Equiv.sum_comp (contrEquiv1 dot_S32768x1024_S1024x32_S32768x32_1_0_0_1_n_n 1024 rfl rfl).symm]
    refine Finset.sum_congr rfl fun e _ => ?_
    have he := contrEquiv1_symm_val dot_S32768x1024_S1024x32_S32768x32_1_0_0_1_n_n 1024 rfl rfl e
    refine congrArg₂ (· * ·) (congrArg x (funext fun a => Fin.ext ?_)) (congrArg w (funext fun a => Fin.ext ?_))
    · match a with
      | ⟨0, _⟩ => rfl
      | ⟨1, _⟩ => exact he
    · match a with
      | ⟨0, _⟩ => exact he
      | ⟨1, _⟩ => rfl
  · match a with
    | ⟨0, _⟩ => rfl
    | ⟨1, _⟩ => rfl
  · match a with
    | ⟨0, _⟩ => rfl

theorem logits_apply (p : FVec Ideal S32768x4 .f32) (q : FVec Ideal S32768x32 .f32) (n : Fin 32768) (j : Fin 128) :
    logits p q (ix2 n j) = Cert.OutSpec.wide (fun i => p (ix2 n i)) (fun i => q (ix2 n i)) j :=
  Cert.OutRouter.padded p q _ _ _ n j

end Cert.OutRef

end
-- ==== Proof.OutEqual.lean ====
/- The two programs' output projections are the same arrays, where the scan's two outputs are real numbers. -/
module

public import proofs.«01_k».proof.Proof.OutResults
public import proofs.«01_k».proof.Proof.OutRef
public import proofs.«01_k».proof.Proof.Finite
public import proofs.«01_k».proof.Proof.ProjEqual
public import proofs.«01_k».proof.Defs
public import Idealize.ShloMosaic.Lib.Quiescent

@[expose] public section

set_option maxRecDepth 16384

noncomputable section

namespace Cert.OutEqual

open Idealize.ShloMosaic Idealize.ShloMosaic.TcCoe Idealize.ShloMosaic.ValueIdx Idealize.SL.Sem
open Cert.Kernel4Ideal

/-- The precondition's shape fact. -/
theorem facts : Cert.Pre_steady.Facts := ⟨by decide⟩

local instance : Cert.Pre_steady.Facts := facts
local instance : Cert.Kernel4Ideal.Facts := Cert.Kernel4Ideal.Gen.facts
local instance : Cert.Reference4Ideal.Facts := Cert.Reference4Ideal.Gen.facts

section Arrays

variable (y z : FVec Ideal S4096x8x256 .f32) (g : FVec Ideal S4096x8x512 .f32) (p q s : FVec Ideal S8x4096x256 .f32) (w b : FVec Ideal S256 .f32)
  (W : FVec Ideal S1024x1024 .f32) (x : FVec Ideal S8x4096x1024 .f32) (G : FVec Ideal S8x1024 .f32)
  (u : FVec Ideal S1024 .f32) (h k : FVec Ideal S8x1024 .f32)
  (P : FVec Ideal S1024x4 .f32) (a : FVec Ideal S4 .f32) (Q : FVec Ideal S1024x32 .f32) (d : FVec Ideal S32 .f32)

/-- The reference's tokens, -/
def tokens : FVec Ideal S8x4096x1024 .f32 :=
  Cert.OutRef.tokens x G (Cert.OutRef.product (Cert.OutRef.mixers (Cert.OutRef.gated y z g w b) p q s) W)

/-- its activations, -/
def acts : FVec Ideal S8x4096x1024 .f32 := Cert.ProjRef.acts (tokens y z g p q s w b W x G) u h k

/-- and its three results. -/
def first : FVec Ideal S32768x1024 .f32 := Cert.OutRef.long (tokens y z g p q s w b W x G)

def second : FVec Ideal S32768x1024 .bf16 :=
  truncf .bf16 (Cert.OutRef.long (acts y z g p q s w b W x G u h k)) Cert.Reference4Ideal.Gen.bitsLt_bf16_f32

def third : FVec Ideal S32768x128 .f32 :=
  Cert.OutRef.logits (Cert.OutRef.columns4 (Cert.OutRef.long (acts y z g p q s w b W x G u h k)) P a)
    (Cert.OutRef.columns32 (Cert.OutRef.long (acts y z g p q s w b W x G u h k)) Q d)

end Arrays

section Same

variable (m : (ℓ : Loc nD τ sig) → Buf (Elt Ideal) ℓ) (c : Dev nD)

theorem tokens_apply (b : Fin 8) (n : Fin 4096) (e : Fin 1024) :
    tokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 b n e) = Cert.OutWhole.token' m c b n e := by
  unfold tokens
  refine (Cert.OutRef.tokens_apply _ _ _ b n e).trans ?_
  rw [Cert.OutRef.product_apply, funext (Cert.OutRef.gated_apply (m ((c : Thread nD τ).loc main_arg0)) (m ((c : Thread nD τ).loc main_arg1)) (m ((c : Thread nD τ).loc main_arg2)) (m ((c : Thread nD τ).loc main_arg6)) (m ((c : Thread nD τ).loc main_arg7)) b n)]
  rfl

theorem acts_apply (b : Fin 8) (n : Fin 4096) (e : Fin 1024) :
    acts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 b n e) = Cert.OutWhole.act m c b n e := by
  unfold acts
  refine (Cert.ProjRef.acts_apply _ _ _ _ b n e).trans ?_
  rw [funext (tokens_apply m c b n)]
  rfl

theorem same17 : first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = Cert.OutWhole.result17 m c := by
  funext i
  obtain ⟨k, j, rfl⟩ : ∃ (k : Fin 32768) (j : Fin 1024), i = ix2 k j := ⟨i 0, i 1, eq_ix2 i⟩
  obtain ⟨b, n, rfl⟩ := Cert.ProjEqual.row k
  exact (Cert.OutRef.long_apply _ b n j).trans ((tokens_apply m c b n j).trans (Cert.OutWhole.result17_apply m c b n j).symm)

theorem same18 : second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = Cert.OutWhole.result18 m c := by
  funext i
  obtain ⟨k, j, rfl⟩ : ∃ (k : Fin 32768) (j : Fin 1024), i = ix2 k j := ⟨i 0, i 1, eq_ix2 i⟩
  obtain ⟨b, n, rfl⟩ := Cert.ProjEqual.row k
  exact (Cert.OutRef.long_apply _ b n j).trans ((acts_apply m c b n j).trans (Cert.OutWhole.result18_apply m c b n j).symm)

theorem same19 : third (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = Cert.OutWhole.result19 m c := by
  funext i
  obtain ⟨k, j, rfl⟩ : ∃ (k : Fin 32768) (j : Fin 128), i = ix2 k j := ⟨i 0, i 1, eq_ix2 i⟩
  obtain ⟨b, n, rfl⟩ := Cert.ProjEqual.row k
  refine Eq.trans ?_ (Cert.OutWhole.result19_apply m c b n j).symm
  unfold third
  rw [Cert.OutRef.logits_apply]
  unfold Cert.OutWhole.logit
  refine congrArg₂ (fun p q => Cert.OutSpec.wide p q j) (funext fun i => ?_) (funext fun i => ?_)
  · refine (Cert.OutRef.columns4_apply _ _ _ _ i).trans ?_
    refine congrArg₂ (fun a b : EReal => a + b) (Finset.sum_congr rfl fun e _ => ?_) rfl
    exact congrArg₂ (fun a b : EReal => a * b) ((Cert.OutRef.long_apply _ b n e).trans (acts_apply m c b n e)) rfl
  · refine (Cert.OutRef.columns32_apply _ _ _ _ i).trans ?_
    refine congrArg₂ (fun a b : EReal => a + b) (Finset.sum_congr rfl fun e _ => ?_) rfl
    exact congrArg₂ (fun a b : EReal => a * b) ((Cert.OutRef.long_apply _ b n e).trans (acts_apply m c b n e)) rfl

/-- The precondition gives real sums. -/
theorem steady (hm : Cert.Pre_Kernel4Ideal_steady m) : Cert.OutWhole.Steady m c := by
  obtain ⟨h0, h1⟩ := hm c
  have e0 := Cert.Finite.real_array (s := S4096x8x256) (u := Cert.Pre_steady.S_) ![] facts.bcast_S_S4096x8x256 (m ((c : Thread nD τ).loc main_arg0)) h0
  have e1 := Cert.Finite.real_array (s := S4096x8x256) (u := Cert.Pre_steady.S_) ![] facts.bcast_S_S4096x8x256 (m ((c : Thread nD τ).loc main_arg1)) h1
  refine ⟨fun b n k => EReal.toReal ((m ((c : Thread nD τ).loc main_arg0)) (ix3 n b k)) + EReal.toReal ((m ((c : Thread nD τ).loc main_arg1)) (ix3 n b k)), fun b n k => ?_⟩
  rw [EReal.coe_add]
  exact congrArg₂ (fun a b : EReal => a + b) (congrFun e0 (ix3 n b k)) (congrFun e1 (ix3 n b k))

end Same

section Read

variable (m : (ℓ : Loc Cert.Reference4Ideal.nD Cert.Reference4Ideal.τ Cert.Reference4Ideal.sig) → Buf (Elt Ideal) ℓ) (c : Dev Cert.Reference4Ideal.nD)

/-- The reference's terms are these arrays. -/
theorem read0 : Cert.Reference4Ideal.Value.res_out0 m c = first (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) := by
  unfold Cert.Reference4Ideal.Value.res_out0 Cert.Reference4Ideal.Value.res_main_v70
  rfl

theorem read1 : Cert.Reference4Ideal.Value.res_out1 m c = second (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) := by
  unfold Cert.Reference4Ideal.Value.res_out1 Cert.Reference4Ideal.Value.res_main_v71
  rfl

theorem read2 : Cert.Reference4Ideal.Value.res_out2 m c = third (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) := by
  unfold Cert.Reference4Ideal.Value.res_out2 Cert.Reference4Ideal.Value.res_main_v72
  rfl

end Read

set_option maxHeartbeats 4000000 in
/-- The equation. -/
theorem equal : Cert.algebraic_Kernel4Ideal_Reference4Ideal_pre_steady := by
  intro m g m' g' hm hagree
  refine ⟨fun c => Cert.OutWhole.result17 m c, fun c => Cert.OutWhole.result18 m c, fun c => Cert.OutWhole.result19 m c,
    (θ_run (Cert.Kernel4Ideal.defs (F := Ideal)) _ _).mono (fun r h c => ⟨(h c).1.trans (Cert.OutWhole.final17 m c (steady m c hm)),
      (h c).2.1.trans (Cert.OutWhole.final18 m c (steady m c hm)), (h c).2.2.1.trans (Cert.OutWhole.final19 m c (steady m c hm)), (h c).2.2.2⟩)
      (Cert.Kernel4Ideal.Value.run_blocks m g),
    (θ_run (Cert.Reference4Ideal.defs (F := Ideal)) _ _).mono (fun r h c => ⟨(h c).1.trans ?_, (h c).2.1.trans ?_, (h c).2.2.1.trans ?_, (h c).2.2.2⟩)
      (Cert.Reference4Ideal.Value.run m' g')⟩
  all_goals
    obtain ⟨h0, h1, h2, h3, h4, h5, h6, h7, h8, h9, h10, h11, h12, h13, h14, h15, h16, h17⟩ := hagree c
  · refine (read0 m' c).trans ?_
    rw [h0, h1, h2, h3, h4, h5, h6, h7, h8, h9, h10]
    exact same17 m c
  · refine (read1 m' c).trans ?_
    rw [h0, h1, h2, h3, h4, h5, h6, h7, h8, h9, h10, h11, h12, h13]
    exact same18 m c
  · refine (read2 m' c).trans ?_
    rw [h0, h1, h2, h3, h4, h5, h6, h7, h8, h9, h10, h11, h12, h13, h14, h15, h16, h17]
    exact same19 m c

/-- The reference has no semaphores, so its counters are zero. -/
theorem frame_reference : Cert.quiescent_Reference4Ideal := fun m g _ =>
  (θ_run (Cert.Reference4Ideal.defs (F := Ideal)) _ _).mono (fun r h => ⟨fun c => (h c).2.2.2, sem_eq_zero_of_no_sems (by decide) r.2⟩)
    (Cert.Reference4Ideal.Value.run m g)

end Cert.OutEqual

end
-- ==== Proof.lean ====
/- The claims: the frames, from the generated runs or from `MlpFrame`; the named constant's value; and the equalities of the
   two programs' results over the extended reals, for which `Equal`, `ProjEqual`, `MlpEqual` and `OutEqual` have the arrays. -/
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel4Ideal.Value
public import proofs.«01_k».proof.Proof.Gen.Reference4Ideal.Run
public import proofs.«01_k».proof.Defs
public import proofs.«01_k».proof.Proof.Equal
public import proofs.«01_k».proof.Proof.ProjEqual
public import proofs.«01_k».proof.Proof.ProjFrame
public import proofs.«01_k».proof.Proof.MlpFrame
public import proofs.«01_k».proof.Proof.MlpEqual
public import proofs.«01_k».proof.Proof.OutFrame
public import proofs.«01_k».proof.Proof.OutEqual
public import proofs.«01_k».proof.Proof.Gen.Kernel2
public import proofs.«01_k».proof.Proof.Gen.Kernel4
public import Idealize.ShloMosaic.Lib.Quiescent
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

local instance : Cert.Pre_finite.Facts := Cert.Finite.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts

/-- The reference has no semaphores, so its counters are zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono (fun r h => ⟨fun c => (h c).2, sem_eq_zero_of_no_sems (by decide) r.2⟩)
    (Cert.ReferenceIdeal.Value.run m g)

/-- On arguments whose queries and keys are finite the two programs end with the same array. -/
theorem equal : Cert.algebraic_KernelIdeal_ReferenceIdeal_pre_finite := by
  intro m g m' g' hm hagree
  refine ⟨fun c => Cert.Whole.result m c (Cert.Equal.q m c) (Cert.Equal.k m c) (Cert.Equal.ck m c),
    (θ_run (Cert.KernelIdeal.defs (F := Ideal)) _ _).mono (fun r h c => ⟨(h c).1.trans ?_, (h c).2⟩) (Cert.KernelIdeal.Value.run_blocks m g),
    (θ_run (Cert.ReferenceIdeal.defs (F := Ideal)) _ _).mono (fun r h c => ⟨(h c).1.trans ?_, (h c).2⟩) (Cert.ReferenceIdeal.Value.run m' g')⟩
  · exact Cert.Whole.final m c _ _ _ (Cert.Equal.hq m c hm) (Cert.Equal.hk m c hm) (Cert.Equal.hck m c hm)
  · obtain ⟨h0, h1, h2, h3, h4⟩ := hagree c
    exact Cert.Equal.same m c hm m' h0 h1 h2 h3 h4

/-- The projection's reference has no semaphores either. -/
theorem frame_reference2 : Cert.quiescent_Reference2Ideal := fun m g _ =>
  (θ_run (Cert.Reference2Ideal.defs (F := Ideal)) _ _).mono (fun r h => ⟨fun c => (h c).2.2.2.2, sem_eq_zero_of_no_sems (by decide) r.2⟩)
    (Cert.Reference2Ideal.Value.run m g)

/-- The two projections end with the same four arrays. -/
theorem equal2 : Cert.algebraic_Kernel2Ideal_Reference2Ideal := by
  intro m g m' g' _ hagree
  refine ⟨fun c => Cert.ProjWhole.result5 m c, fun c => Cert.ProjWhole.result6 m c, fun c => Cert.ProjWhole.result7 m c, fun c => Cert.ProjWhole.result8 m c,
    (θ_run (Cert.Kernel2Ideal.defs (F := Ideal)) _ _).mono (fun r h c => ⟨(h c).1.trans (Cert.ProjWhole.final5 m c), (h c).2.1.trans (Cert.ProjWhole.final6 m c),
      (h c).2.2.1.trans (Cert.ProjWhole.final7 m c), (h c).2.2.2.1.trans (Cert.ProjWhole.final8 m c), (h c).2.2.2.2⟩) (Cert.Kernel2Ideal.Value.run_blocks m g),
    (θ_run (Cert.Reference2Ideal.defs (F := Ideal)) _ _).mono (fun r h c => ⟨(h c).1.trans ?_, (h c).2.1.trans ?_, (h c).2.2.1.trans ?_, (h c).2.2.2.1.trans ?_, (h c).2.2.2.2⟩)
      (Cert.Reference2Ideal.Value.run m' g')⟩
  all_goals
    obtain ⟨h0, h1, h2, h3, h4⟩ := hagree c
    rw [h0, h1, h2, h3, h4]
  · exact Cert.ProjEqual.same5 m c
  · exact Cert.ProjEqual.same6 m c
  · exact Cert.ProjEqual.same7 m c
  · exact Cert.ProjEqual.same8 m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts, Cert.Ranged.facts, Cert.OutEqual.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  Cert.ProjFrame.frame,
  fun m g _ => Cert.Kernel2Ideal.Gen.frame m g,
  frame_reference2,
  Cert.MlpFrame.frame,
  Cert.MlpFrame.frameIdeal,
  Cert.MlpEqual.frame_reference,
  fun m g _ => Cert.MlpEqual.frame_reference m g trivial,
  Cert.OutFrame.frame,
  fun m g _ => Cert.Kernel4Ideal.Gen.frame m g,
  fun m g _ => Cert.Kernel4Ideal.Gen.frame m g,
  Cert.OutEqual.frame_reference,
  fun m g _ => Cert.OutEqual.frame_reference m g trivial,
  IdealRules.named_const.statement Cert.KernelIdeal.κ "scale" .f32 0x3E38AA3B#32 ((((Real.log 2) * (Real.sqrt 64))⁻¹ : ℝ) : EReal) rfl,
  equal,
  trivial,
  equal2,
  trivial,
  Cert.MlpEqual.equal,
  trivial,
  Cert.OutEqual.equal⟩

end Cert.Proof

end
